-- ==== Defs.lean ====
def Pre_Mla (m : (ℓ : Loc Cert.Mla.nD Cert.Mla.τ Cert.Mla.sig) → Buf (Elt Bits) ℓ) : Prop :=
  True

def Pre_MlaIdeal (m : (ℓ : Loc Cert.MlaIdeal.nD Cert.MlaIdeal.τ Cert.MlaIdeal.sig) → Buf (Elt Ideal) ℓ) : Prop :=
  True

def Pre_MlaIdeal_mla_gains_finite [hPre_mla_gains_finite : Cert.Pre_mla_gains_finite.Facts] (m : (ℓ : Loc Cert.MlaIdeal.nD Cert.MlaIdeal.τ Cert.MlaIdeal.sig) → Buf (Elt Ideal) ℓ) : Prop :=
  ∀ c : Dev Cert.MlaIdeal.nD,
    (Cert.Pre_mla_gains_finite.fn (F := Ideal) (m ((c.tc : Thread Cert.MlaIdeal.nD Cert.MlaIdeal.τ).loc Cert.MlaIdeal.main_arg0)) (m ((c.tc : Thread Cert.MlaIdeal.nD Cert.MlaIdeal.τ).loc Cert.MlaIdeal.main_arg1)) (m ((c.tc : Thread Cert.MlaIdeal.nD Cert.MlaIdeal.τ).loc Cert.MlaIdeal.main_arg2)) (m ((c.tc : Thread Cert.MlaIdeal.nD Cert.MlaIdeal.τ).loc Cert.MlaIdeal.main_arg3)) (m ((c.tc : Thread Cert.MlaIdeal.nD Cert.MlaIdeal.τ).loc Cert.MlaIdeal.main_arg4)) (m ((c.tc : Thread Cert.MlaIdeal.nD Cert.MlaIdeal.τ).loc Cert.MlaIdeal.main_arg5))) = (fun _ => 1#1)

def Pre_MlaRefIdeal (m : (ℓ : Loc Cert.MlaRefIdeal.nD Cert.MlaRefIdeal.τ Cert.MlaRefIdeal.sig) → Buf (Elt Ideal) ℓ) : Prop :=
  True

def Pre_MlaRefIdeal_mla_gains_finite [hPre_mla_gains_finite : Cert.Pre_mla_gains_finite.Facts] (m : (ℓ : Loc Cert.MlaRefIdeal.nD Cert.MlaRefIdeal.τ Cert.MlaRefIdeal.sig) → Buf (Elt Ideal) ℓ) : Prop :=
  ∀ c : Dev Cert.MlaRefIdeal.nD,
    (Cert.Pre_mla_gains_finite.fn (F := Ideal) (m ((c.tc : Thread Cert.MlaRefIdeal.nD Cert.MlaRefIdeal.τ).loc Cert.MlaRefIdeal.main_arg0)) (m ((c.tc : Thread Cert.MlaRefIdeal.nD Cert.MlaRefIdeal.τ).loc Cert.MlaRefIdeal.main_arg1)) (m ((c.tc : Thread Cert.MlaRefIdeal.nD Cert.MlaRefIdeal.τ).loc Cert.MlaRefIdeal.main_arg2)) (m ((c.tc : Thread Cert.MlaRefIdeal.nD Cert.MlaRefIdeal.τ).loc Cert.MlaRefIdeal.main_arg3)) (m ((c.tc : Thread Cert.MlaRefIdeal.nD Cert.MlaRefIdeal.τ).loc Cert.MlaRefIdeal.main_arg4)) (m ((c.tc : Thread Cert.MlaRefIdeal.nD Cert.MlaRefIdeal.τ).loc Cert.MlaRefIdeal.main_arg5))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_Gqa (m : (ℓ : Loc Cert.Gqa.nD Cert.Gqa.τ Cert.Gqa.sig) → Buf (Elt Bits) ℓ) : Prop :=
  True

def Pre_GqaIdeal (m : (ℓ : Loc Cert.GqaIdeal.nD Cert.GqaIdeal.τ Cert.GqaIdeal.sig) → Buf (Elt Ideal) ℓ) : Prop :=
  True

def Pre_GqaIdeal_gqa_finite [hPre_gqa_finite : Cert.Pre_gqa_finite.Facts] (m : (ℓ : Loc Cert.GqaIdeal.nD Cert.GqaIdeal.τ Cert.GqaIdeal.sig) → Buf (Elt Ideal) ℓ) : Prop :=
  ∀ c : Dev Cert.GqaIdeal.nD,
    (Cert.Pre_gqa_finite.fn (F := Ideal) (m ((c.tc : Thread Cert.GqaIdeal.nD Cert.GqaIdeal.τ).loc Cert.GqaIdeal.main_arg0)) (m ((c.tc : Thread Cert.GqaIdeal.nD Cert.GqaIdeal.τ).loc Cert.GqaIdeal.main_arg1)) (m ((c.tc : Thread Cert.GqaIdeal.nD Cert.GqaIdeal.τ).loc Cert.GqaIdeal.main_arg2)) (m ((c.tc : Thread Cert.GqaIdeal.nD Cert.GqaIdeal.τ).loc Cert.GqaIdeal.main_arg3))) = (fun _ => 1#1)

def Pre_GqaRefIdeal (m : (ℓ : Loc Cert.GqaRefIdeal.nD Cert.GqaRefIdeal.τ Cert.GqaRefIdeal.sig) → Buf (Elt Ideal) ℓ) : Prop :=
  True

def Pre_GqaRefIdeal_gqa_finite [hPre_gqa_finite : Cert.Pre_gqa_finite.Facts] (m : (ℓ : Loc Cert.GqaRefIdeal.nD Cert.GqaRefIdeal.τ Cert.GqaRefIdeal.sig) → Buf (Elt Ideal) ℓ) : Prop :=
  ∀ c : Dev Cert.GqaRefIdeal.nD,
    (Cert.Pre_gqa_finite.fn (F := Ideal) (m ((c.tc : Thread Cert.GqaRefIdeal.nD Cert.GqaRefIdeal.τ).loc Cert.GqaRefIdeal.main_arg0)) (m ((c.tc : Thread Cert.GqaRefIdeal.nD Cert.GqaRefIdeal.τ).loc Cert.GqaRefIdeal.main_arg1)) (m ((c.tc : Thread Cert.GqaRefIdeal.nD Cert.GqaRefIdeal.τ).loc Cert.GqaRefIdeal.main_arg2)) (m ((c.tc : Thread Cert.GqaRefIdeal.nD Cert.GqaRefIdeal.τ).loc Cert.GqaRefIdeal.main_arg3))) = (fun _ => 1#1)

def Pre_FfnSample (m : (ℓ : Loc Cert.FfnSample.nD Cert.FfnSample.τ Cert.FfnSample.sig) → Buf (Elt Bits) ℓ) : Prop :=
  True

def Pre_FfnSampleIdeal (m : (ℓ : Loc Cert.FfnSampleIdeal.nD Cert.FfnSampleIdeal.τ Cert.FfnSampleIdeal.sig) → Buf (Elt Ideal) ℓ) : Prop :=
  True

def Pre_FfnSampleRefIdeal (m : (ℓ : Loc Cert.FfnSampleRefIdeal.nD Cert.FfnSampleRefIdeal.τ Cert.FfnSampleRefIdeal.sig) → Buf (Elt Ideal) ℓ) : Prop :=
  True

def quiescent_Mla [hMla : Cert.Mla.Facts] : Prop :=
  ∀ (m : (ℓ : Loc Cert.Mla.nD Cert.Mla.τ Cert.Mla.sig) → Buf (Elt Bits) ℓ) (g : Dev Cert.Mla.nD → PrngReg), Pre_Mla m →
    θ_run (Cert.Mla.defs (F := Bits)) (onTc (τ := Cert.Mla.τ) (Cert.Mla.main (F := Bits))) ⟨m, fun _ => 0, g⟩ (fun r => (∀ c : Dev Cert.Mla.nD,
      r.2.mem ((c.tc : Thread Cert.Mla.nD Cert.Mla.τ).loc Cert.Mla.main_arg0) = m ((c.tc : Thread Cert.Mla.nD Cert.Mla.τ).loc Cert.Mla.main_arg0)
      ∧ r.2.mem ((c.tc : Thread Cert.Mla.nD Cert.Mla.τ).loc Cert.Mla.main_arg1) = m ((c.tc : Thread Cert.Mla.nD Cert.Mla.τ).loc Cert.Mla.main_arg1)
      ∧ r.2.mem ((c.tc : Thread Cert.Mla.nD Cert.Mla.τ).loc Cert.Mla.main_arg2) = m ((c.tc : Thread Cert.Mla.nD Cert.Mla.τ).loc Cert.Mla.main_arg2)
      ∧ r.2.mem ((c.tc : Thread Cert.Mla.nD Cert.Mla.τ).loc Cert.Mla.main_arg3) = m ((c.tc : Thread Cert.Mla.nD Cert.Mla.τ).loc Cert.Mla.main_arg3)
      ∧ r.2.mem ((c.tc : Thread Cert.Mla.nD Cert.Mla.τ).loc Cert.Mla.main_arg4) = m ((c.tc : Thread Cert.Mla.nD Cert.Mla.τ).loc Cert.Mla.main_arg4)
      ∧ r.2.mem ((c.tc : Thread Cert.Mla.nD Cert.Mla.τ).loc Cert.Mla.main_arg5) = m ((c.tc : Thread Cert.Mla.nD Cert.Mla.τ).loc Cert.Mla.main_arg5))
      ∧ r.2.sem = fun _ => 0)

def quiescent_MlaIdeal [hMlaIdeal : Cert.MlaIdeal.Facts] : Prop :=
  ∀ (m : (ℓ : Loc Cert.MlaIdeal.nD Cert.MlaIdeal.τ Cert.MlaIdeal.sig) → Buf (Elt Ideal) ℓ) (g : Dev Cert.MlaIdeal.nD → PrngReg), Pre_MlaIdeal m →
    θ_run (Cert.MlaIdeal.defs (F := Ideal)) (onTc (τ := Cert.MlaIdeal.τ) (Cert.MlaIdeal.main (F := Ideal))) ⟨m, fun _ => 0, g⟩ (fun r => (∀ c : Dev Cert.MlaIdeal.nD,
      r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
      ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
      ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2)
      ∧ r.2.mem ((c.tc : Thread Cert.MlaIdeal.nD Cert.MlaIdeal.τ).loc Cert.MlaIdeal.main_arg3) = m ((c.tc : Thread Cert.MlaIdeal.nD Cert.MlaIdeal.τ).loc Cert.MlaIdeal.main_arg3)
      ∧ r.2.mem ((c.tc : Thread Cert.MlaIdeal.nD Cert.MlaIdeal.τ).loc Cert.MlaIdeal.main_arg4) = m ((c.tc : Thread Cert.MlaIdeal.nD Cert.MlaIdeal.τ).loc Cert.MlaIdeal.main_arg4)
      ∧ r.2.mem ((c.tc : Thread Cert.MlaIdeal.nD Cert.MlaIdeal.τ).loc Cert.MlaIdeal.main_arg5) = m ((c.tc : Thread Cert.MlaIdeal.nD Cert.MlaIdeal.τ).loc Cert.MlaIdeal.main_arg5))
      ∧ r.2.sem = fun _ => 0)

def quiescent_MlaIdeal_pre_mla_gains_finite [hMlaIdeal : Cert.MlaIdeal.Facts] [hPre_mla_gains_finite : Cert.Pre_mla_gains_finite.Facts] : Prop :=
  ∀ (m : (ℓ : Loc Cert.MlaIdeal.nD Cert.MlaIdeal.τ Cert.MlaIdeal.sig) → Buf (Elt Ideal) ℓ) (g : Dev Cert.MlaIdeal.nD → PrngReg), Pre_MlaIdeal_mla_gains_finite m →
    θ_run (Cert.MlaIdeal.defs (F := Ideal)) (onTc (τ := Cert.MlaIdeal.τ) (Cert.MlaIdeal.main (F := Ideal))) ⟨m, fun _ => 0, g⟩ (fun r => (∀ c : Dev Cert.MlaIdeal.nD,
      r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
      ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
      ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2)
      ∧ r.2.mem ((c.tc : Thread Cert.MlaIdeal.nD Cert.MlaIdeal.τ).loc Cert.MlaIdeal.main_arg3) = m ((c.tc : Thread Cert.MlaIdeal.nD Cert.MlaIdeal.τ).loc Cert.MlaIdeal.main_arg3)
      ∧ r.2.mem ((c.tc : Thread Cert.MlaIdeal.nD Cert.MlaIdeal.τ).loc Cert.MlaIdeal.main_arg4) = m ((c.tc : Thread Cert.MlaIdeal.nD Cert.MlaIdeal.τ).loc Cert.MlaIdeal.main_arg4)
      ∧ r.2.mem ((c.tc : Thread Cert.MlaIdeal.nD Cert.MlaIdeal.τ).loc Cert.MlaIdeal.main_arg5) = m ((c.tc : Thread Cert.MlaIdeal.nD Cert.MlaIdeal.τ).loc Cert.MlaIdeal.main_arg5))
      ∧ r.2.sem = fun _ => 0)

def quiescent_MlaRefIdeal [hMlaRefIdeal : Cert.MlaRefIdeal.Facts] : Prop :=
  ∀ (m : (ℓ : Loc Cert.MlaRefIdeal.nD Cert.MlaRefIdeal.τ Cert.MlaRefIdeal.sig) → Buf (Elt Ideal) ℓ) (g : Dev Cert.MlaRefIdeal.nD → PrngReg), Pre_MlaRefIdeal m →
    θ_run (Cert.MlaRefIdeal.defs (F := Ideal)) (onTc (τ := Cert.MlaRefIdeal.τ) (Cert.MlaRefIdeal.main (F := Ideal))) ⟨m, fun _ => 0, g⟩ (fun r => (∀ c : Dev Cert.MlaRefIdeal.nD,
      r.2.mem ((c.tc : Thread Cert.MlaRefIdeal.nD Cert.MlaRefIdeal.τ).loc Cert.MlaRefIdeal.main_arg0) = m ((c.tc : Thread Cert.MlaRefIdeal.nD Cert.MlaRefIdeal.τ).loc Cert.MlaRefIdeal.main_arg0)
      ∧ r.2.mem ((c.tc : Thread Cert.MlaRefIdeal.nD Cert.MlaRefIdeal.τ).loc Cert.MlaRefIdeal.main_arg1) = m ((c.tc : Thread Cert.MlaRefIdeal.nD Cert.MlaRefIdeal.τ).loc Cert.MlaRefIdeal.main_arg1)
      ∧ r.2.mem ((c.tc : Thread Cert.MlaRefIdeal.nD Cert.MlaRefIdeal.τ).loc Cert.MlaRefIdeal.main_arg2) = m ((c.tc : Thread Cert.MlaRefIdeal.nD Cert.MlaRefIdeal.τ).loc Cert.MlaRefIdeal.main_arg2)
      ∧ r.2.mem ((c.tc : Thread Cert.MlaRefIdeal.nD Cert.MlaRefIdeal.τ).loc Cert.MlaRefIdeal.main_arg3) = m ((c.tc : Thread Cert.MlaRefIdeal.nD Cert.MlaRefIdeal.τ).loc Cert.MlaRefIdeal.main_arg3)
      ∧ r.2.mem ((c.tc : Thread Cert.MlaRefIdeal.nD Cert.MlaRefIdeal.τ).loc Cert.MlaRefIdeal.main_arg4) = m ((c.tc : Thread Cert.MlaRefIdeal.nD Cert.MlaRefIdeal.τ).loc Cert.MlaRefIdeal.main_arg4)
      ∧ r.2.mem ((c.tc : Thread Cert.MlaRefIdeal.nD Cert.MlaRefIdeal.τ).loc Cert.MlaRefIdeal.main_arg5) = m ((c.tc : Thread Cert.MlaRefIdeal.nD Cert.MlaRefIdeal.τ).loc Cert.MlaRefIdeal.main_arg5))
      ∧ r.2.sem = fun _ => 0)

def quiescent_MlaRefIdeal_pre_mla_gains_finite [hMlaRefIdeal : Cert.MlaRefIdeal.Facts] [hPre_mla_gains_finite : Cert.Pre_mla_gains_finite.Facts] : Prop :=
  ∀ (m : (ℓ : Loc Cert.MlaRefIdeal.nD Cert.MlaRefIdeal.τ Cert.MlaRefIdeal.sig) → Buf (Elt Ideal) ℓ) (g : Dev Cert.MlaRefIdeal.nD → PrngReg), Pre_MlaRefIdeal_mla_gains_finite m →
    θ_run (Cert.MlaRefIdeal.defs (F := Ideal)) (onTc (τ := Cert.MlaRefIdeal.τ) (Cert.MlaRefIdeal.main (F := Ideal))) ⟨m, fun _ => 0, g⟩ (fun r => (∀ c : Dev Cert.MlaRefIdeal.nD,
      r.2.mem ((c.tc : Thread Cert.MlaRefIdeal.nD Cert.MlaRefIdeal.τ).loc Cert.MlaRefIdeal.main_arg0) = m ((c.tc : Thread Cert.MlaRefIdeal.nD Cert.MlaRefIdeal.τ).loc Cert.MlaRefIdeal.main_arg0)
      ∧ r.2.mem ((c.tc : Thread Cert.MlaRefIdeal.nD Cert.MlaRefIdeal.τ).loc Cert.MlaRefIdeal.main_arg1) = m ((c.tc : Thread Cert.MlaRefIdeal.nD Cert.MlaRefIdeal.τ).loc Cert.MlaRefIdeal.main_arg1)
      ∧ r.2.mem ((c.tc : Thread Cert.MlaRefIdeal.nD Cert.MlaRefIdeal.τ).loc Cert.MlaRefIdeal.main_arg2) = m ((c.tc : Thread Cert.MlaRefIdeal.nD Cert.MlaRefIdeal.τ).loc Cert.MlaRefIdeal.main_arg2)
      ∧ r.2.mem ((c.tc : Thread Cert.MlaRefIdeal.nD Cert.MlaRefIdeal.τ).loc Cert.MlaRefIdeal.main_arg3) = m ((c.tc : Thread Cert.MlaRefIdeal.nD Cert.MlaRefIdeal.τ).loc Cert.MlaRefIdeal.main_arg3)
      ∧ r.2.mem ((c.tc : Thread Cert.MlaRefIdeal.nD Cert.MlaRefIdeal.τ).loc Cert.MlaRefIdeal.main_arg4) = m ((c.tc : Thread Cert.MlaRefIdeal.nD Cert.MlaRefIdeal.τ).loc Cert.MlaRefIdeal.main_arg4)
      ∧ r.2.mem ((c.tc : Thread Cert.MlaRefIdeal.nD Cert.MlaRefIdeal.τ).loc Cert.MlaRefIdeal.main_arg5) = m ((c.tc : Thread Cert.MlaRefIdeal.nD Cert.MlaRefIdeal.τ).loc Cert.MlaRefIdeal.main_arg5))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7)
      ∧ r.2.mem ((c.tc : Thread Cert.Ffn.nD Cert.Ffn.τ).loc Cert.Ffn.main_arg8) = m ((c.tc : Thread Cert.Ffn.nD Cert.Ffn.τ).loc Cert.Ffn.main_arg8)
      ∧ r.2.mem ((c.tc : Thread Cert.Ffn.nD Cert.Ffn.τ).loc Cert.Ffn.main_arg9) = m ((c.tc : Thread Cert.Ffn.nD Cert.Ffn.τ).loc Cert.Ffn.main_arg9)
      ∧ r.2.mem ((c.tc : Thread Cert.Ffn.nD Cert.Ffn.τ).loc Cert.Ffn.main_arg10) = m ((c.tc : Thread Cert.Ffn.nD Cert.Ffn.τ).loc Cert.Ffn.main_arg10))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
      ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8)
      ∧ r.2.mem ((c.tc : Thread Cert.FfnIdeal.nD Cert.FfnIdeal.τ).loc Cert.FfnIdeal.main_arg9) = m ((c.tc : Thread Cert.FfnIdeal.nD Cert.FfnIdeal.τ).loc Cert.FfnIdeal.main_arg9)
      ∧ r.2.mem ((c.tc : Thread Cert.FfnIdeal.nD Cert.FfnIdeal.τ).loc Cert.FfnIdeal.main_arg10) = m ((c.tc : Thread Cert.FfnIdeal.nD Cert.FfnIdeal.τ).loc Cert.FfnIdeal.main_arg10))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6)
      ∧ r.2.mem ((c.tc : Thread Cert.FfnRefIdeal.nD Cert.FfnRefIdeal.τ).loc Cert.FfnRefIdeal.main_arg7) = m ((c.tc : Thread Cert.FfnRefIdeal.nD Cert.FfnRefIdeal.τ).loc Cert.FfnRefIdeal.main_arg7)
      ∧ r.2.mem ((c.tc : Thread Cert.FfnRefIdeal.nD Cert.FfnRefIdeal.τ).loc Cert.FfnRefIdeal.main_arg8) = m ((c.tc : Thread Cert.FfnRefIdeal.nD Cert.FfnRefIdeal.τ).loc Cert.FfnRefIdeal.main_arg8)
      ∧ r.2.mem ((c.tc : Thread Cert.FfnRefIdeal.nD Cert.FfnRefIdeal.τ).loc Cert.FfnRefIdeal.main_arg9) = m ((c.tc : Thread Cert.FfnRefIdeal.nD Cert.FfnRefIdeal.τ).loc Cert.FfnRefIdeal.main_arg9)
      ∧ r.2.mem ((c.tc : Thread Cert.FfnRefIdeal.nD Cert.FfnRefIdeal.τ).loc Cert.FfnRefIdeal.main_arg10) = m ((c.tc : Thread Cert.FfnRefIdeal.nD Cert.FfnRefIdeal.τ).loc Cert.FfnRefIdeal.main_arg10))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3)
      ∧ r.2.mem ((c.tc : Thread Cert.InProj.nD Cert.InProj.τ).loc Cert.InProj.main_arg4) = m ((c.tc : Thread Cert.InProj.nD Cert.InProj.τ).loc Cert.InProj.main_arg4)
      ∧ r.2.mem ((c.tc : Thread Cert.InProj.nD Cert.InProj.τ).loc Cert.InProj.main_arg5) = m ((c.tc : Thread Cert.InProj.nD Cert.InProj.τ).loc Cert.InProj.main_arg5)
      ∧ r.2.mem ((c.tc : Thread Cert.InProj.nD Cert.InProj.τ).loc Cert.InProj.main_arg6) = m ((c.tc : Thread Cert.InProj.nD Cert.InProj.τ).loc Cert.InProj.main_arg6)
      ∧ r.2.mem ((c.tc : Thread Cert.InProj.nD Cert.InProj.τ).loc Cert.InProj.main_arg7) = m ((c.tc : Thread Cert.InProj.nD Cert.InProj.τ).loc Cert.InProj.main_arg7)
      ∧ r.2.mem ((c.tc : Thread Cert.InProj.nD Cert.InProj.τ).loc Cert.InProj.main_arg8) = m ((c.tc : Thread Cert.InProj.nD Cert.InProj.τ).loc Cert.InProj.main_arg8))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
      ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5)
      ∧ r.2.mem ((c.tc : Thread Cert.InProjIdeal.nD Cert.InProjIdeal.τ).loc Cert.InProjIdeal.main_arg6) = m ((c.tc : Thread Cert.InProjIdeal.nD Cert.InProjIdeal.τ).loc Cert.InProjIdeal.main_arg6)
      ∧ r.2.mem ((c.tc : Thread Cert.InProjIdeal.nD Cert.InProjIdeal.τ).loc Cert.InProjIdeal.main_arg7) = m ((c.tc : Thread Cert.InProjIdeal.nD Cert.InProjIdeal.τ).loc Cert.InProjIdeal.main_arg7)
      ∧ r.2.mem ((c.tc : Thread Cert.InProjIdeal.nD Cert.InProjIdeal.τ).loc Cert.InProjIdeal.main_arg8) = m ((c.tc : Thread Cert.InProjIdeal.nD Cert.InProjIdeal.τ).loc Cert.InProjIdeal.main_arg8))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3)
      ∧ r.2.mem ((c.tc : Thread Cert.InProjRefIdeal.nD Cert.InProjRefIdeal.τ).loc Cert.InProjRefIdeal.main_arg4) = m ((c.tc : Thread Cert.InProjRefIdeal.nD Cert.InProjRefIdeal.τ).loc Cert.InProjRefIdeal.main_arg4)
      ∧ r.2.mem ((c.tc : Thread Cert.InProjRefIdeal.nD Cert.InProjRefIdeal.τ).loc Cert.InProjRefIdeal.main_arg5) = m ((c.tc : Thread Cert.InProjRefIdeal.nD Cert.InProjRefIdeal.τ).loc Cert.InProjRefIdeal.main_arg5)
      ∧ r.2.mem ((c.tc : Thread Cert.InProjRefIdeal.nD Cert.InProjRefIdeal.τ).loc Cert.InProjRefIdeal.main_arg6) = m ((c.tc : Thread Cert.InProjRefIdeal.nD Cert.InProjRefIdeal.τ).loc Cert.InProjRefIdeal.main_arg6)
      ∧ r.2.mem ((c.tc : Thread Cert.InProjRefIdeal.nD Cert.InProjRefIdeal.τ).loc Cert.InProjRefIdeal.main_arg7) = m ((c.tc : Thread Cert.InProjRefIdeal.nD Cert.InProjRefIdeal.τ).loc Cert.InProjRefIdeal.main_arg7)
      ∧ r.2.mem ((c.tc : Thread Cert.InProjRefIdeal.nD Cert.InProjRefIdeal.τ).loc Cert.InProjRefIdeal.main_arg8) = m ((c.tc : Thread Cert.InProjRefIdeal.nD Cert.InProjRefIdeal.τ).loc Cert.InProjRefIdeal.main_arg8))
      ∧ r.2.sem = fun _ => 0)

def quiescent_Gqa [hGqa : Cert.Gqa.Facts] : Prop :=
  ∀ (m : (ℓ : Loc Cert.Gqa.nD Cert.Gqa.τ Cert.Gqa.sig) → Buf (Elt Bits) ℓ) (g : Dev Cert.Gqa.nD → PrngReg), Pre_Gqa m →
    θ_run (Cert.Gqa.defs (F := Bits)) (onTc (τ := Cert.Gqa.τ) (Cert.Gqa.main (F := Bits))) ⟨m, fun _ => 0, g⟩ (fun r => (∀ c : Dev Cert.Gqa.nD,
      r.2.mem ((c.tc : Thread Cert.Gqa.nD Cert.Gqa.τ).loc Cert.Gqa.main_arg0) = m ((c.tc : Thread Cert.Gqa.nD Cert.Gqa.τ).loc Cert.Gqa.main_arg0)
      ∧ r.2.mem ((c.tc : Thread Cert.Gqa.nD Cert.Gqa.τ).loc Cert.Gqa.main_arg1) = m ((c.tc : Thread Cert.Gqa.nD Cert.Gqa.τ).loc Cert.Gqa.main_arg1)
      ∧ r.2.mem ((c.tc : Thread Cert.Gqa.nD Cert.Gqa.τ).loc Cert.Gqa.main_arg2) = m ((c.tc : Thread Cert.Gqa.nD Cert.Gqa.τ).loc Cert.Gqa.main_arg2)
      ∧ r.2.mem ((c.tc : Thread Cert.Gqa.nD Cert.Gqa.τ).loc Cert.Gqa.main_arg3) = m ((c.tc : Thread Cert.Gqa.nD Cert.Gqa.τ).loc Cert.Gqa.main_arg3))
      ∧ r.2.sem = fun _ => 0)

def quiescent_GqaIdeal [hGqaIdeal : Cert.GqaIdeal.Facts] : Prop :=
  ∀ (m : (ℓ : Loc Cert.GqaIdeal.nD Cert.GqaIdeal.τ Cert.GqaIdeal.sig) → Buf (Elt Ideal) ℓ) (g : Dev Cert.GqaIdeal.nD → PrngReg), Pre_GqaIdeal m →
    θ_run (Cert.GqaIdeal.defs (F := Ideal)) (onTc (τ := Cert.GqaIdeal.τ) (Cert.GqaIdeal.main (F := Ideal))) ⟨m, fun _ => 0, g⟩ (fun r => (∀ c : Dev Cert.GqaIdeal.nD,
      r.2.mem ((c.tc : Thread Cert.GqaIdeal.nD Cert.GqaIdeal.τ).loc Cert.GqaIdeal.main_arg0) = m ((c.tc : Thread Cert.GqaIdeal.nD Cert.GqaIdeal.τ).loc Cert.GqaIdeal.main_arg0)
      ∧ r.2.mem ((c.tc : Thread Cert.GqaIdeal.nD Cert.GqaIdeal.τ).loc Cert.GqaIdeal.main_arg1) = m ((c.tc : Thread Cert.GqaIdeal.nD Cert.GqaIdeal.τ).loc Cert.GqaIdeal.main_arg1)
      ∧ r.2.mem ((c.tc : Thread Cert.GqaIdeal.nD Cert.GqaIdeal.τ).loc Cert.GqaIdeal.main_arg2) = m ((c.tc : Thread Cert.GqaIdeal.nD Cert.GqaIdeal.τ).loc Cert.GqaIdeal.main_arg2)
      ∧ r.2.mem ((c.tc : Thread Cert.GqaIdeal.nD Cert.GqaIdeal.τ).loc Cert.GqaIdeal.main_arg3) = m ((c.tc : Thread Cert.GqaIdeal.nD Cert.GqaIdeal.τ).loc Cert.GqaIdeal.main_arg3))
      ∧ r.2.sem = fun _ => 0)

def quiescent_GqaIdeal_pre_gqa_finite [hGqaIdeal : Cert.GqaIdeal.Facts] [hPre_gqa_finite : Cert.Pre_gqa_finite.Facts] : Prop :=
  ∀ (m : (ℓ : Loc Cert.GqaIdeal.nD Cert.GqaIdeal.τ Cert.GqaIdeal.sig) → Buf (Elt Ideal) ℓ) (g : Dev Cert.GqaIdeal.nD → PrngReg), Pre_GqaIdeal_gqa_finite m →
    θ_run (Cert.GqaIdeal.defs (F := Ideal)) (onTc (τ := Cert.GqaIdeal.τ) (Cert.GqaIdeal.main (F := Ideal))) ⟨m, fun _ => 0, g⟩ (fun r => (∀ c : Dev Cert.GqaIdeal.nD,
      r.2.mem ((c.tc : Thread Cert.GqaIdeal.nD Cert.GqaIdeal.τ).loc Cert.GqaIdeal.main_arg0) = m ((c.tc : Thread Cert.GqaIdeal.nD Cert.GqaIdeal.τ).loc Cert.GqaIdeal.main_arg0)
      ∧ r.2.mem ((c.tc : Thread Cert.GqaIdeal.nD Cert.GqaIdeal.τ).loc Cert.GqaIdeal.main_arg1) = m ((c.tc : Thread Cert.GqaIdeal.nD Cert.GqaIdeal.τ).loc Cert.GqaIdeal.main_arg1)
      ∧ r.2.mem ((c.tc : Thread Cert.GqaIdeal.nD Cert.GqaIdeal.τ).loc Cert.GqaIdeal.main_arg2) = m ((c.tc : Thread Cert.GqaIdeal.nD Cert.GqaIdeal.τ).loc Cert.GqaIdeal.main_arg2)
      ∧ r.2.mem ((c.tc : Thread Cert.GqaIdeal.nD Cert.GqaIdeal.τ).loc Cert.GqaIdeal.main_arg3) = m ((c.tc : Thread Cert.GqaIdeal.nD Cert.GqaIdeal.τ).loc Cert.GqaIdeal.main_arg3))
      ∧ r.2.sem = fun _ => 0)

def quiescent_GqaRefIdeal [hGqaRefIdeal : Cert.GqaRefIdeal.Facts] : Prop :=
  ∀ (m : (ℓ : Loc Cert.GqaRefIdeal.nD Cert.GqaRefIdeal.τ Cert.GqaRefIdeal.sig) → Buf (Elt Ideal) ℓ) (g : Dev Cert.GqaRefIdeal.nD → PrngReg), Pre_GqaRefIdeal m →
    θ_run (Cert.GqaRefIdeal.defs (F := Ideal)) (onTc (τ := Cert.GqaRefIdeal.τ) (Cert.GqaRefIdeal.main (F := Ideal))) ⟨m, fun _ => 0, g⟩ (fun r => (∀ c : Dev Cert.GqaRefIdeal.nD,
      r.2.mem ((c.tc : Thread Cert.GqaRefIdeal.nD Cert.GqaRefIdeal.τ).loc Cert.GqaRefIdeal.main_arg0) = m ((c.tc : Thread Cert.GqaRefIdeal.nD Cert.GqaRefIdeal.τ).loc Cert.GqaRefIdeal.main_arg0)
      ∧ r.2.mem ((c.tc : Thread Cert.GqaRefIdeal.nD Cert.GqaRefIdeal.τ).loc Cert.GqaRefIdeal.main_arg1) = m ((c.tc : Thread Cert.GqaRefIdeal.nD Cert.GqaRefIdeal.τ).loc Cert.GqaRefIdeal.main_arg1)
      ∧ r.2.mem ((c.tc : Thread Cert.GqaRefIdeal.nD Cert.GqaRefIdeal.τ).loc Cert.GqaRefIdeal.main_arg2) = m ((c.tc : Thread Cert.GqaRefIdeal.nD Cert.GqaRefIdeal.τ).loc Cert.GqaRefIdeal.main_arg2)
      ∧ r.2.mem ((c.tc : Thread Cert.GqaRefIdeal.nD Cert.GqaRefIdeal.τ).loc Cert.GqaRefIdeal.main_arg3) = m ((c.tc : Thread Cert.GqaRefIdeal.nD Cert.GqaRefIdeal.τ).loc Cert.GqaRefIdeal.main_arg3))
      ∧ r.2.sem = fun _ => 0)

def quiescent_GqaRefIdeal_pre_gqa_finite [hGqaRefIdeal : Cert.GqaRefIdeal.Facts] [hPre_gqa_finite : Cert.Pre_gqa_finite.Facts] : Prop :=
  ∀ (m : (ℓ : Loc Cert.GqaRefIdeal.nD Cert.GqaRefIdeal.τ Cert.GqaRefIdeal.sig) → Buf (Elt Ideal) ℓ) (g : Dev Cert.GqaRefIdeal.nD → PrngReg), Pre_GqaRefIdeal_gqa_finite m →
    θ_run (Cert.GqaRefIdeal.defs (F := Ideal)) (onTc (τ := Cert.GqaRefIdeal.τ) (Cert.GqaRefIdeal.main (F := Ideal))) ⟨m, fun _ => 0, g⟩ (fun r => (∀ c : Dev Cert.GqaRefIdeal.nD,
      r.2.mem ((c.tc : Thread Cert.GqaRefIdeal.nD Cert.GqaRefIdeal.τ).loc Cert.GqaRefIdeal.main_arg0) = m ((c.tc : Thread Cert.GqaRefIdeal.nD Cert.GqaRefIdeal.τ).loc Cert.GqaRefIdeal.main_arg0)
      ∧ r.2.mem ((c.tc : Thread Cert.GqaRefIdeal.nD Cert.GqaRefIdeal.τ).loc Cert.GqaRefIdeal.main_arg1) = m ((c.tc : Thread Cert.GqaRefIdeal.nD Cert.GqaRefIdeal.τ).loc Cert.GqaRefIdeal.main_arg1)
      ∧ r.2.mem ((c.tc : Thread Cert.GqaRefIdeal.nD Cert.GqaRefIdeal.τ).loc Cert.GqaRefIdeal.main_arg2) = m ((c.tc : Thread Cert.GqaRefIdeal.nD Cert.GqaRefIdeal.τ).loc Cert.GqaRefIdeal.main_arg2)
      ∧ r.2.mem ((c.tc : Thread Cert.GqaRefIdeal.nD Cert.GqaRefIdeal.τ).loc Cert.GqaRefIdeal.main_arg3) = m ((c.tc : Thread Cert.GqaRefIdeal.nD Cert.GqaRefIdeal.τ).loc Cert.GqaRefIdeal.main_arg3))
      ∧ r.2.sem = fun _ => 0)

def quiescent_FfnSample [hFfnSample : Cert.FfnSample.Facts] : Prop :=
  ∀ (m : (ℓ : Loc Cert.FfnSample.nD Cert.FfnSample.τ Cert.FfnSample.sig) → Buf (Elt Bits) ℓ) (g : Dev Cert.FfnSample.nD → PrngReg), Pre_FfnSample m →
    θ_run (Cert.FfnSample.defs (F := Bits)) (onTc (τ := Cert.FfnSample.τ) (Cert.FfnSample.main (F := Bits))) ⟨m, fun _ => 0, g⟩ (fun r => (∀ c : Dev Cert.FfnSample.nD,
      r.2.mem ((c.tc : Thread Cert.FfnSample.nD Cert.FfnSample.τ).loc Cert.FfnSample.main_arg0) = m ((c.tc : Thread Cert.FfnSample.nD Cert.FfnSample.τ).loc Cert.FfnSample.main_arg0)
      ∧ r.2.mem ((c.tc : Thread Cert.FfnSample.nD Cert.FfnSample.τ).loc Cert.FfnSample.main_arg1) = m ((c.tc : Thread Cert.FfnSample.nD Cert.FfnSample.τ).loc Cert.FfnSample.main_arg1)
      ∧ r.2.mem ((c.tc : Thread Cert.FfnSample.nD Cert.FfnSample.τ).loc Cert.FfnSample.main_arg2) = m ((c.tc : Thread Cert.FfnSample.nD Cert.FfnSample.τ).loc Cert.FfnSample.main_arg2)
      ∧ r.2.mem ((c.tc : Thread Cert.FfnSample.nD Cert.FfnSample.τ).loc Cert.FfnSample.main_arg3) = m ((c.tc : Thread Cert.FfnSample.nD Cert.FfnSample.τ).loc Cert.FfnSample.main_arg3)
      ∧ r.2.mem ((c.tc : Thread Cert.FfnSample.nD Cert.FfnSample.τ).loc Cert.FfnSample.main_arg4) = m ((c.tc : Thread Cert.FfnSample.nD Cert.FfnSample.τ).loc Cert.FfnSample.main_arg4)
      ∧ r.2.mem ((c.tc : Thread Cert.FfnSample.nD Cert.FfnSample.τ).loc Cert.FfnSample.main_arg5) = m ((c.tc : Thread Cert.FfnSample.nD Cert.FfnSample.τ).loc Cert.FfnSample.main_arg5)
      ∧ r.2.mem ((c.tc : Thread Cert.FfnSample.nD Cert.FfnSample.τ).loc Cert.FfnSample.main_arg6) = m ((c.tc : Thread Cert.FfnSample.nD Cert.FfnSample.τ).loc Cert.FfnSample.main_arg6)
      ∧ r.2.mem ((c.tc : Thread Cert.FfnSample.nD Cert.FfnSample.τ).loc Cert.FfnSample.main_arg7) = m ((c.tc : Thread Cert.FfnSample.nD Cert.FfnSample.τ).loc Cert.FfnSample.main_arg7)
      ∧ r.2.mem ((c.tc : Thread Cert.FfnSample.nD Cert.FfnSample.τ).loc Cert.FfnSample.main_arg8) = m ((c.tc : Thread Cert.FfnSample.nD Cert.FfnSample.τ).loc Cert.FfnSample.main_arg8)
      ∧ r.2.mem ((c.tc : Thread Cert.FfnSample.nD Cert.FfnSample.τ).loc Cert.FfnSample.main_arg9) = m ((c.tc : Thread Cert.FfnSample.nD Cert.FfnSample.τ).loc Cert.FfnSample.main_arg9)
      ∧ r.2.mem ((c.tc : Thread Cert.FfnSample.nD Cert.FfnSample.τ).loc Cert.FfnSample.main_arg10) = m ((c.tc : Thread Cert.FfnSample.nD Cert.FfnSample.τ).loc Cert.FfnSample.main_arg10))
      ∧ r.2.sem = fun _ => 0)

def quiescent_FfnSampleIdeal [hFfnSampleIdeal : Cert.FfnSampleIdeal.Facts] : Prop :=
  ∀ (m : (ℓ : Loc Cert.FfnSampleIdeal.nD Cert.FfnSampleIdeal.τ Cert.FfnSampleIdeal.sig) → Buf (Elt Ideal) ℓ) (g : Dev Cert.FfnSampleIdeal.nD → PrngReg), Pre_FfnSampleIdeal m →
    θ_run (Cert.FfnSampleIdeal.defs (F := Ideal)) (onTc (τ := Cert.FfnSampleIdeal.τ) (Cert.FfnSampleIdeal.main (F := Ideal))) ⟨m, fun _ => 0, g⟩ (fun r => (∀ c : Dev Cert.FfnSampleIdeal.nD,
      r.2.mem ((c.tc : Thread Cert.FfnSampleIdeal.nD Cert.FfnSampleIdeal.τ).loc Cert.FfnSampleIdeal.main_arg0) = m ((c.tc : Thread Cert.FfnSampleIdeal.nD Cert.FfnSampleIdeal.τ).loc Cert.FfnSampleIdeal.main_arg0)
      ∧ r.2.mem ((c.tc : Thread Cert.FfnSampleIdeal.nD Cert.FfnSampleIdeal.τ).loc Cert.FfnSampleIdeal.main_arg1) = m ((c.tc : Thread Cert.FfnSampleIdeal.nD Cert.FfnSampleIdeal.τ).loc Cert.FfnSampleIdeal.main_arg1)
      ∧ r.2.mem ((c.tc : Thread Cert.FfnSampleIdeal.nD Cert.FfnSampleIdeal.τ).loc Cert.FfnSampleIdeal.main_arg2) = m ((c.tc : Thread Cert.FfnSampleIdeal.nD Cert.FfnSampleIdeal.τ).loc Cert.FfnSampleIdeal.main_arg2)
      ∧ r.2.mem ((c.tc : Thread Cert.FfnSampleIdeal.nD Cert.FfnSampleIdeal.τ).loc Cert.FfnSampleIdeal.main_arg3) = m ((c.tc : Thread Cert.FfnSampleIdeal.nD Cert.FfnSampleIdeal.τ).loc Cert.FfnSampleIdeal.main_arg3)
      ∧ r.2.mem ((c.tc : Thread Cert.FfnSampleIdeal.nD Cert.FfnSampleIdeal.τ).loc Cert.FfnSampleIdeal.main_arg4) = m ((c.tc : Thread Cert.FfnSampleIdeal.nD Cert.FfnSampleIdeal.τ).loc Cert.FfnSampleIdeal.main_arg4)
      ∧ r.2.mem ((c.tc : Thread Cert.FfnSampleIdeal.nD Cert.FfnSampleIdeal.τ).loc Cert.FfnSampleIdeal.main_arg5) = m ((c.tc : Thread Cert.FfnSampleIdeal.nD Cert.FfnSampleIdeal.τ).loc Cert.FfnSampleIdeal.main_arg5)
      ∧ r.2.mem ((c.tc : Thread Cert.FfnSampleIdeal.nD Cert.FfnSampleIdeal.τ).loc Cert.FfnSampleIdeal.main_arg6) = m ((c.tc : Thread Cert.FfnSampleIdeal.nD Cert.FfnSampleIdeal.τ).loc Cert.FfnSampleIdeal.main_arg6)
      ∧ r.2.mem ((c.tc : Thread Cert.FfnSampleIdeal.nD Cert.FfnSampleIdeal.τ).loc Cert.FfnSampleIdeal.main_arg7) = m ((c.tc : Thread Cert.FfnSampleIdeal.nD Cert.FfnSampleIdeal.τ).loc Cert.FfnSampleIdeal.main_arg7)
      ∧ r.2.mem ((c.tc : Thread Cert.FfnSampleIdeal.nD Cert.FfnSampleIdeal.τ).loc Cert.FfnSampleIdeal.main_arg8) = m ((c.tc : Thread Cert.FfnSampleIdeal.nD Cert.FfnSampleIdeal.τ).loc Cert.FfnSampleIdeal.main_arg8)
      ∧ r.2.mem ((c.tc : Thread Cert.FfnSampleIdeal.nD Cert.FfnSampleIdeal.τ).loc Cert.FfnSampleIdeal.main_arg9) = m ((c.tc : Thread Cert.FfnSampleIdeal.nD Cert.FfnSampleIdeal.τ).loc Cert.FfnSampleIdeal.main_arg9)
      ∧ r.2.mem ((c.tc : Thread Cert.FfnSampleIdeal.nD Cert.FfnSampleIdeal.τ).loc Cert.FfnSampleIdeal.main_arg10) = m ((c.tc : Thread Cert.FfnSampleIdeal.nD Cert.FfnSampleIdeal.τ).loc Cert.FfnSampleIdeal.main_arg10))
      ∧ r.2.sem = fun _ => 0)

def quiescent_FfnSampleRefIdeal [hFfnSampleRefIdeal : Cert.FfnSampleRefIdeal.Facts] : Prop :=
  ∀ (m : (ℓ : Loc Cert.FfnSampleRefIdeal.nD Cert.FfnSampleRefIdeal.τ Cert.FfnSampleRefIdeal.sig) → Buf (Elt Ideal) ℓ) (g : Dev Cert.FfnSampleRefIdeal.nD → PrngReg), Pre_FfnSampleRefIdeal m →
    θ_run (Cert.FfnSampleRefIdeal.defs (F := Ideal)) (onTc (τ := Cert.FfnSampleRefIdeal.τ) (Cert.FfnSampleRefIdeal.main (F := Ideal))) ⟨m, fun _ => 0, g⟩ (fun r => (∀ c : Dev Cert.FfnSampleRefIdeal.nD,
      r.2.mem ((c.tc : Thread Cert.FfnSampleRefIdeal.nD Cert.FfnSampleRefIdeal.τ).loc Cert.FfnSampleRefIdeal.main_arg0) = m ((c.tc : Thread Cert.FfnSampleRefIdeal.nD Cert.FfnSampleRefIdeal.τ).loc Cert.FfnSampleRefIdeal.main_arg0)
      ∧ r.2.mem ((c.tc : Thread Cert.FfnSampleRefIdeal.nD Cert.FfnSampleRefIdeal.τ).loc Cert.FfnSampleRefIdeal.main_arg1) = m ((c.tc : Thread Cert.FfnSampleRefIdeal.nD Cert.FfnSampleRefIdeal.τ).loc Cert.FfnSampleRefIdeal.main_arg1)
      ∧ r.2.mem ((c.tc : Thread Cert.FfnSampleRefIdeal.nD Cert.FfnSampleRefIdeal.τ).loc Cert.FfnSampleRefIdeal.main_arg2) = m ((c.tc : Thread Cert.FfnSampleRefIdeal.nD Cert.FfnSampleRefIdeal.τ).loc Cert.FfnSampleRefIdeal.main_arg2)
      ∧ r.2.mem ((c.tc : Thread Cert.FfnSampleRefIdeal.nD Cert.FfnSampleRefIdeal.τ).loc Cert.FfnSampleRefIdeal.main_arg3) = m ((c.tc : Thread Cert.FfnSampleRefIdeal.nD Cert.FfnSampleRefIdeal.τ).loc Cert.FfnSampleRefIdeal.main_arg3)
      ∧ r.2.mem ((c.tc : Thread Cert.FfnSampleRefIdeal.nD Cert.FfnSampleRefIdeal.τ).loc Cert.FfnSampleRefIdeal.main_arg4) = m ((c.tc : Thread Cert.FfnSampleRefIdeal.nD Cert.FfnSampleRefIdeal.τ).loc Cert.FfnSampleRefIdeal.main_arg4)
      ∧ r.2.mem ((c.tc : Thread Cert.FfnSampleRefIdeal.nD Cert.FfnSampleRefIdeal.τ).loc Cert.FfnSampleRefIdeal.main_arg5) = m ((c.tc : Thread Cert.FfnSampleRefIdeal.nD Cert.FfnSampleRefIdeal.τ).loc Cert.FfnSampleRefIdeal.main_arg5)
      ∧ r.2.mem ((c.tc : Thread Cert.FfnSampleRefIdeal.nD Cert.FfnSampleRefIdeal.τ).loc Cert.FfnSampleRefIdeal.main_arg6) = m ((c.tc : Thread Cert.FfnSampleRefIdeal.nD Cert.FfnSampleRefIdeal.τ).loc Cert.FfnSampleRefIdeal.main_arg6)
      ∧ r.2.mem ((c.tc : Thread Cert.FfnSampleRefIdeal.nD Cert.FfnSampleRefIdeal.τ).loc Cert.FfnSampleRefIdeal.main_arg7) = m ((c.tc : Thread Cert.FfnSampleRefIdeal.nD Cert.FfnSampleRefIdeal.τ).loc Cert.FfnSampleRefIdeal.main_arg7)
      ∧ r.2.mem ((c.tc : Thread Cert.FfnSampleRefIdeal.nD Cert.FfnSampleRefIdeal.τ).loc Cert.FfnSampleRefIdeal.main_arg8) = m ((c.tc : Thread Cert.FfnSampleRefIdeal.nD Cert.FfnSampleRefIdeal.τ).loc Cert.FfnSampleRefIdeal.main_arg8)
      ∧ r.2.mem ((c.tc : Thread Cert.FfnSampleRefIdeal.nD Cert.FfnSampleRefIdeal.τ).loc Cert.FfnSampleRefIdeal.main_arg9) = m ((c.tc : Thread Cert.FfnSampleRefIdeal.nD Cert.FfnSampleRefIdeal.τ).loc Cert.FfnSampleRefIdeal.main_arg9)
      ∧ r.2.mem ((c.tc : Thread Cert.FfnSampleRefIdeal.nD Cert.FfnSampleRefIdeal.τ).loc Cert.FfnSampleRefIdeal.main_arg10) = m ((c.tc : Thread Cert.FfnSampleRefIdeal.nD Cert.FfnSampleRefIdeal.τ).loc Cert.FfnSampleRefIdeal.main_arg10))
      ∧ r.2.sem = fun _ => 0)

def preserves_Mla_MlaIdeal : Prop :=
  IdealRules.named_const.Statement Cert.MlaIdeal.κ "inv96" .f32 0x3C2AAAAB#32 ((96⁻¹ : ℝ) : EReal)

def algebraic_MlaIdeal_MlaRefIdeal_pre_mla_gains_finite [hMlaIdeal : Cert.MlaIdeal.Facts] [hMlaRefIdeal : Cert.MlaRefIdeal.Facts] [hPre_mla_gains_finite : Cert.Pre_mla_gains_finite.Facts] : Prop :=
  ∀ (m : (ℓ : Loc Cert.MlaIdeal.nD Cert.MlaIdeal.τ Cert.MlaIdeal.sig) → Buf (Elt Ideal) ℓ) (g : Dev Cert.MlaIdeal.nD → PrngReg)
    (m' : (ℓ : Loc Cert.MlaRefIdeal.nD Cert.MlaRefIdeal.τ Cert.MlaRefIdeal.sig) → Buf (Elt Ideal) ℓ) (g' : Dev Cert.MlaRefIdeal.nD → PrngReg), Pre_MlaIdeal_mla_gains_finite m →
    (∀ c : Dev Cert.MlaIdeal.nD,
      m' ((c.tc : Thread Cert.MlaRefIdeal.nD Cert.MlaRefIdeal.τ).loc Cert.MlaRefIdeal.main_arg0) = m ((c.tc : Thread Cert.MlaIdeal.nD Cert.MlaIdeal.τ).loc Cert.MlaIdeal.main_arg0)
      ∧ m' ((c.tc : Thread Cert.MlaRefIdeal.nD Cert.MlaRefIdeal.τ).loc Cert.MlaRefIdeal.main_arg1) = m ((c.tc : Thread Cert.MlaIdeal.nD Cert.MlaIdeal.τ).loc Cert.MlaIdeal.main_arg1)
      ∧ m' ((c.tc : Thread Cert.MlaRefIdeal.nD Cert.MlaRefIdeal.τ).loc Cert.MlaRefIdeal.main_arg2) = m ((c.tc : Thread Cert.MlaIdeal.nD Cert.MlaIdeal.τ).loc Cert.MlaIdeal.main_arg2)
      ∧ m' ((c.tc : Thread Cert.MlaRefIdeal.nD Cert.MlaRefIdeal.τ).loc Cert.MlaRefIdeal.main_arg3) = m ((c.tc : Thread Cert.MlaIdeal.nD Cert.MlaIdeal.τ).loc Cert.MlaIdeal.main_arg3)
      ∧ m' ((c.tc : Thread Cert.MlaRefIdeal.nD Cert.MlaRefIdeal.τ).loc Cert.MlaRefIdeal.main_arg4) = m ((c.tc : Thread Cert.MlaIdeal.nD Cert.MlaIdeal.τ).loc Cert.MlaIdeal.main_arg4)
      ∧ m' ((c.tc : Thread Cert.MlaRefIdeal.nD Cert.MlaRefIdeal.τ).loc Cert.MlaRefIdeal.main_arg5) = m ((c.tc : Thread Cert.MlaIdeal.nD Cert.MlaIdeal.τ).loc Cert.MlaIdeal.main_arg5)) →
    ∃ (v0 : (c : Dev Cert.MlaIdeal.nD) → Buf (Elt Ideal) ((c.tc : Thread Cert.MlaIdeal.nD Cert.MlaIdeal.τ).loc Cert.MlaIdeal.main_v35)),
      θ_run (Cert.MlaIdeal.defs (F := Ideal)) (onTc (τ := Cert.MlaIdeal.τ) (Cert.MlaIdeal.main (F := Ideal))) ⟨m, fun _ => 0, g⟩ (fun r => ∀ c : Dev Cert.MlaIdeal.nD,
          r.2.mem ((c.tc : Thread Cert.MlaIdeal.nD Cert.MlaIdeal.τ).loc Cert.MlaIdeal.main_v35) = v0 c
          ∧ r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
          ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
          ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2)
          ∧ r.2.mem ((c.tc : Thread Cert.MlaIdeal.nD Cert.MlaIdeal.τ).loc Cert.MlaIdeal.main_arg3) = m ((c.tc : Thread Cert.MlaIdeal.nD Cert.MlaIdeal.τ).loc Cert.MlaIdeal.main_arg3)
          ∧ r.2.mem ((c.tc : Thread Cert.MlaIdeal.nD Cert.MlaIdeal.τ).loc Cert.MlaIdeal.main_arg4) = m ((c.tc : Thread Cert.MlaIdeal.nD Cert.MlaIdeal.τ).loc Cert.MlaIdeal.main_arg4)
          ∧ r.2.mem ((c.tc : Thread Cert.MlaIdeal.nD Cert.MlaIdeal.τ).loc Cert.MlaIdeal.main_arg5) = m ((c.tc : Thread Cert.MlaIdeal.nD Cert.MlaIdeal.τ).loc Cert.MlaIdeal.main_arg5))
      ∧ θ_run (Cert.MlaRefIdeal.defs (F := Ideal)) (onTc (τ := Cert.MlaRefIdeal.τ) (Cert.MlaRefIdeal.main (F := Ideal))) ⟨m', fun _ => 0, g'⟩ (fun r => ∀ c : Dev Cert.MlaRefIdeal.nD,
          r.2.mem ((c.tc : Thread Cert.MlaRefIdeal.nD Cert.MlaRefIdeal.τ).loc Cert.MlaRefIdeal.main_v51) = v0 c
          ∧ r.2.mem ((c.tc : Thread Cert.MlaRefIdeal.nD Cert.MlaRefIdeal.τ).loc Cert.MlaRefIdeal.main_arg0) = m' ((c.tc : Thread Cert.MlaRefIdeal.nD Cert.MlaRefIdeal.τ).loc Cert.MlaRefIdeal.main_arg0)
          ∧ r.2.mem ((c.tc : Thread Cert.MlaRefIdeal.nD Cert.MlaRefIdeal.τ).loc Cert.MlaRefIdeal.main_arg1) = m' ((c.tc : Thread Cert.MlaRefIdeal.nD Cert.MlaRefIdeal.τ).loc Cert.MlaRefIdeal.main_arg1)
          ∧ r.2.mem ((c.tc : Thread Cert.MlaRefIdeal.nD Cert.MlaRefIdeal.τ).loc Cert.MlaRefIdeal.main_arg2) = m' ((c.tc : Thread Cert.MlaRefIdeal.nD Cert.MlaRefIdeal.τ).loc Cert.MlaRefIdeal.main_arg2)
          ∧ r.2.mem ((c.tc : Thread Cert.MlaRefIdeal.nD Cert.MlaRefIdeal.τ).loc Cert.MlaRefIdeal.main_arg3) = m' ((c.tc : Thread Cert.MlaRefIdeal.nD Cert.MlaRefIdeal.τ).loc Cert.MlaRefIdeal.main_arg3)
          ∧ r.2.mem ((c.tc : Thread Cert.MlaRefIdeal.nD Cert.MlaRefIdeal.τ).loc Cert.MlaRefIdeal.main_arg4) = m' ((c.tc : Thread Cert.MlaRefIdeal.nD Cert.MlaRefIdeal.τ).loc Cert.MlaRefIdeal.main_arg4)
          ∧ r.2.mem ((c.tc : Thread Cert.MlaRefIdeal.nD Cert.MlaRefIdeal.τ).loc Cert.MlaRefIdeal.main_arg5) = m' ((c.tc : Thread Cert.MlaRefIdeal.nD Cert.MlaRefIdeal.τ).loc Cert.MlaRefIdeal.main_arg5))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)
      ∧ m' ((c.tc : Thread Cert.FfnRefIdeal.nD Cert.FfnRefIdeal.τ).loc Cert.FfnRefIdeal.main_arg7) = m ((c.tc : Thread Cert.FfnIdeal.nD Cert.FfnIdeal.τ).loc Cert.FfnIdeal.main_arg7)
      ∧ m' ((c.tc : Thread Cert.FfnRefIdeal.nD Cert.FfnRefIdeal.τ).loc Cert.FfnRefIdeal.main_arg8) = m ((c.tc : Thread Cert.FfnIdeal.nD Cert.FfnIdeal.τ).loc Cert.FfnIdeal.main_arg8)
      ∧ m' ((c.tc : Thread Cert.FfnRefIdeal.nD Cert.FfnRefIdeal.τ).loc Cert.FfnRefIdeal.main_arg9) = m ((c.tc : Thread Cert.FfnIdeal.nD Cert.FfnIdeal.τ).loc Cert.FfnIdeal.main_arg9)
      ∧ m' ((c.tc : Thread Cert.FfnRefIdeal.nD Cert.FfnRefIdeal.τ).loc Cert.FfnRefIdeal.main_arg10) = m ((c.tc : Thread Cert.FfnIdeal.nD Cert.FfnIdeal.τ).loc Cert.FfnIdeal.main_arg10)) →
    ∃ (v0 : (c : Dev Cert.FfnIdeal.nD) → Buf (Elt Ideal) ((c.tc : Thread Cert.FfnIdeal.nD Cert.FfnIdeal.τ).loc Cert.FfnIdeal.main_v5)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v5) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
          ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8)
          ∧ r.2.mem ((c.tc : Thread Cert.FfnIdeal.nD Cert.FfnIdeal.τ).loc Cert.FfnIdeal.main_arg9) = m ((c.tc : Thread Cert.FfnIdeal.nD Cert.FfnIdeal.τ).loc Cert.FfnIdeal.main_arg9)
          ∧ r.2.mem ((c.tc : Thread Cert.FfnIdeal.nD Cert.FfnIdeal.τ).loc Cert.FfnIdeal.main_arg10) = m ((c.tc : Thread Cert.FfnIdeal.nD Cert.FfnIdeal.τ).loc Cert.FfnIdeal.main_arg10))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v51) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6)
          ∧ r.2.mem ((c.tc : Thread Cert.FfnRefIdeal.nD Cert.FfnRefIdeal.τ).loc Cert.FfnRefIdeal.main_arg7) = m' ((c.tc : Thread Cert.FfnRefIdeal.nD Cert.FfnRefIdeal.τ).loc Cert.FfnRefIdeal.main_arg7)
          ∧ r.2.mem ((c.tc : Thread Cert.FfnRefIdeal.nD Cert.FfnRefIdeal.τ).loc Cert.FfnRefIdeal.main_arg8) = m' ((c.tc : Thread Cert.FfnRefIdeal.nD Cert.FfnRefIdeal.τ).loc Cert.FfnRefIdeal.main_arg8)
          ∧ r.2.mem ((c.tc : Thread Cert.FfnRefIdeal.nD Cert.FfnRefIdeal.τ).loc Cert.FfnRefIdeal.main_arg9) = m' ((c.tc : Thread Cert.FfnRefIdeal.nD Cert.FfnRefIdeal.τ).loc Cert.FfnRefIdeal.main_arg9)
          ∧ r.2.mem ((c.tc : Thread Cert.FfnRefIdeal.nD Cert.FfnRefIdeal.τ).loc Cert.FfnRefIdeal.main_arg10) = m' ((c.tc : Thread Cert.FfnRefIdeal.nD Cert.FfnRefIdeal.τ).loc Cert.FfnRefIdeal.main_arg10))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)
      ∧ m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3)
      ∧ m' ((c.tc : Thread Cert.InProjRefIdeal.nD Cert.InProjRefIdeal.τ).loc Cert.InProjRefIdeal.main_arg4) = m ((c.tc : Thread Cert.InProjIdeal.nD Cert.InProjIdeal.τ).loc Cert.InProjIdeal.main_arg4)
      ∧ m' ((c.tc : Thread Cert.InProjRefIdeal.nD Cert.InProjRefIdeal.τ).loc Cert.InProjRefIdeal.main_arg5) = m ((c.tc : Thread Cert.InProjIdeal.nD Cert.InProjIdeal.τ).loc Cert.InProjIdeal.main_arg5)
      ∧ m' ((c.tc : Thread Cert.InProjRefIdeal.nD Cert.InProjRefIdeal.τ).loc Cert.InProjRefIdeal.main_arg6) = m ((c.tc : Thread Cert.InProjIdeal.nD Cert.InProjIdeal.τ).loc Cert.InProjIdeal.main_arg6)
      ∧ m' ((c.tc : Thread Cert.InProjRefIdeal.nD Cert.InProjRefIdeal.τ).loc Cert.InProjRefIdeal.main_arg7) = m ((c.tc : Thread Cert.InProjIdeal.nD Cert.InProjIdeal.τ).loc Cert.InProjIdeal.main_arg7)
      ∧ m' ((c.tc : Thread Cert.InProjRefIdeal.nD Cert.InProjRefIdeal.τ).loc Cert.InProjRefIdeal.main_arg8) = m ((c.tc : Thread Cert.InProjIdeal.nD Cert.InProjIdeal.τ).loc Cert.InProjIdeal.main_arg8)) →
    ∃ (v0 : (c : Dev Cert.InProjIdeal.nD) → Buf (Elt Ideal) ((c.tc : Thread Cert.InProjIdeal.nD Cert.InProjIdeal.τ).loc Cert.InProjIdeal.main_v32_0)) (v1 : (c : Dev Cert.InProjIdeal.nD) → Buf (Elt Ideal) ((c.tc : Thread Cert.InProjIdeal.nD Cert.InProjIdeal.τ).loc Cert.InProjIdeal.main_v32_1)) (v2 : (c : Dev Cert.InProjIdeal.nD) → Buf (Elt Ideal) ((c.tc : Thread Cert.InProjIdeal.nD Cert.InProjIdeal.τ).loc Cert.InProjIdeal.main_v32_2)) (v3 : (c : Dev Cert.InProjIdeal.nD) → Buf (Elt Ideal) ((c.tc : Thread Cert.InProjIdeal.nD Cert.InProjIdeal.τ).loc Cert.InProjIdeal.main_v32_3)) (v4 : (c : Dev Cert.InProjIdeal.nD) → Buf (Elt Ideal) ((c.tc : Thread Cert.InProjIdeal.nD Cert.InProjIdeal.τ).loc Cert.InProjIdeal.main_v32_4)) (v5 : (c : Dev Cert.InProjIdeal.nD) → Buf (Elt Ideal) ((c.tc : Thread Cert.InProjIdeal.nD Cert.InProjIdeal.τ).loc Cert.InProjIdeal.main_v32_5)) (v6 : (c : Dev Cert.InProjIdeal.nD) → Buf (Elt Ideal) ((c.tc : Thread Cert.InProjIdeal.nD Cert.InProjIdeal.τ).loc Cert.InProjIdeal.main_v32_6)) (v7 : (c : Dev Cert.InProjIdeal.nD) → Buf (Elt Ideal) ((c.tc : Thread Cert.InProjIdeal.nD Cert.InProjIdeal.τ).loc Cert.InProjIdeal.main_v32_7)) (v8 : (c : Dev Cert.InProjIdeal.nD) → Buf (Elt Ideal) ((c.tc : Thread Cert.InProjIdeal.nD Cert.InProjIdeal.τ).loc Cert.InProjIdeal.main_v32_8)) (v9 : (c : Dev Cert.InProjIdeal.nD) → Buf (Elt Ideal) ((c.tc : Thread Cert.InProjIdeal.nD Cert.InProjIdeal.τ).loc Cert.InProjIdeal.main_v32_9)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v32_0) = v0 c
          ∧ r.2.mem ((c.tc : Thread Cert.InProjIdeal.nD Cert.InProjIdeal.τ).loc Cert.InProjIdeal.main_v32_1) = v1 c
          ∧ r.2.mem ((c.tc : Thread Cert.InProjIdeal.nD Cert.InProjIdeal.τ).loc Cert.InProjIdeal.main_v32_2) = v2 c
          ∧ r.2.mem ((c.tc : Thread Cert.InProjIdeal.nD Cert.InProjIdeal.τ).loc Cert.InProjIdeal.main_v32_3) = v3 c
          ∧ r.2.mem ((c.tc : Thread Cert.InProjIdeal.nD Cert.InProjIdeal.τ).loc Cert.InProjIdeal.main_v32_4) = v4 c
          ∧ r.2.mem ((c.tc : Thread Cert.InProjIdeal.nD Cert.InProjIdeal.τ).loc Cert.InProjIdeal.main_v32_5) = v5 c
          ∧ r.2.mem ((c.tc : Thread Cert.InProjIdeal.nD Cert.InProjIdeal.τ).loc Cert.InProjIdeal.main_v32_6) = v6 c
          ∧ r.2.mem ((c.tc : Thread Cert.InProjIdeal.nD Cert.InProjIdeal.τ).loc Cert.InProjIdeal.main_v32_7) = v7 c
          ∧ r.2.mem ((c.tc : Thread Cert.InProjIdeal.nD Cert.InProjIdeal.τ).loc Cert.InProjIdeal.main_v32_8) = v8 c
          ∧ r.2.mem ((c.tc : Thread Cert.InProjIdeal.nD Cert.InProjIdeal.τ).loc Cert.InProjIdeal.main_v32_9) = v9 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
          ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
          ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5)
          ∧ r.2.mem ((c.tc : Thread Cert.InProjIdeal.nD Cert.InProjIdeal.τ).loc Cert.InProjIdeal.main_arg6) = m ((c.tc : Thread Cert.InProjIdeal.nD Cert.InProjIdeal.τ).loc Cert.InProjIdeal.main_arg6)
          ∧ r.2.mem ((c.tc : Thread Cert.InProjIdeal.nD Cert.InProjIdeal.τ).loc Cert.InProjIdeal.main_arg7) = m ((c.tc : Thread Cert.InProjIdeal.nD Cert.InProjIdeal.τ).loc Cert.InProjIdeal.main_arg7)
          ∧ r.2.mem ((c.tc : Thread Cert.InProjIdeal.nD Cert.InProjIdeal.τ).loc Cert.InProjIdeal.main_arg8) = m ((c.tc : Thread Cert.InProjIdeal.nD Cert.InProjIdeal.τ).loc Cert.InProjIdeal.main_arg8))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v43) = v0 c
          ∧ r.2.mem ((c.tc : Thread Cert.InProjRefIdeal.nD Cert.InProjRefIdeal.τ).loc Cert.InProjRefIdeal.main_v47) = v1 c
          ∧ r.2.mem ((c.tc : Thread Cert.InProjRefIdeal.nD Cert.InProjRefIdeal.τ).loc Cert.InProjRefIdeal.main_v53) = v2 c
          ∧ r.2.mem ((c.tc : Thread Cert.InProjRefIdeal.nD Cert.InProjRefIdeal.τ).loc Cert.InProjRefIdeal.main_v57) = v3 c
          ∧ r.2.mem ((c.tc : Thread Cert.InProjRefIdeal.nD Cert.InProjRefIdeal.τ).loc Cert.InProjRefIdeal.main_v77) = v4 c
          ∧ r.2.mem ((c.tc : Thread Cert.InProjRefIdeal.nD Cert.InProjRefIdeal.τ).loc Cert.InProjRefIdeal.main_v90) = v5 c
          ∧ r.2.mem ((c.tc : Thread Cert.InProjRefIdeal.nD Cert.InProjRefIdeal.τ).loc Cert.InProjRefIdeal.main_v91) = v6 c
          ∧ r.2.mem ((c.tc : Thread Cert.InProjRefIdeal.nD Cert.InProjRefIdeal.τ).loc Cert.InProjRefIdeal.main_v35) = v7 c
          ∧ r.2.mem ((c.tc : Thread Cert.InProjRefIdeal.nD Cert.InProjRefIdeal.τ).loc Cert.InProjRefIdeal.main_v106) = v8 c
          ∧ r.2.mem ((c.tc : Thread Cert.InProjRefIdeal.nD Cert.InProjRefIdeal.τ).loc Cert.InProjRefIdeal.main_v37) = v9 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3)
          ∧ r.2.mem ((c.tc : Thread Cert.InProjRefIdeal.nD Cert.InProjRefIdeal.τ).loc Cert.InProjRefIdeal.main_arg4) = m' ((c.tc : Thread Cert.InProjRefIdeal.nD Cert.InProjRefIdeal.τ).loc Cert.InProjRefIdeal.main_arg4)
          ∧ r.2.mem ((c.tc : Thread Cert.InProjRefIdeal.nD Cert.InProjRefIdeal.τ).loc Cert.InProjRefIdeal.main_arg5) = m' ((c.tc : Thread Cert.InProjRefIdeal.nD Cert.InProjRefIdeal.τ).loc Cert.InProjRefIdeal.main_arg5)
          ∧ r.2.mem ((c.tc : Thread Cert.InProjRefIdeal.nD Cert.InProjRefIdeal.τ).loc Cert.InProjRefIdeal.main_arg6) = m' ((c.tc : Thread Cert.InProjRefIdeal.nD Cert.InProjRefIdeal.τ).loc Cert.InProjRefIdeal.main_arg6)
          ∧ r.2.mem ((c.tc : Thread Cert.InProjRefIdeal.nD Cert.InProjRefIdeal.τ).loc Cert.InProjRefIdeal.main_arg7) = m' ((c.tc : Thread Cert.InProjRefIdeal.nD Cert.InProjRefIdeal.τ).loc Cert.InProjRefIdeal.main_arg7)
          ∧ r.2.mem ((c.tc : Thread Cert.InProjRefIdeal.nD Cert.InProjRefIdeal.τ).loc Cert.InProjRefIdeal.main_arg8) = m' ((c.tc : Thread Cert.InProjRefIdeal.nD Cert.InProjRefIdeal.τ).loc Cert.InProjRefIdeal.main_arg8))

def preserves_Gqa_GqaIdeal : Prop :=
  True

def algebraic_GqaIdeal_GqaRefIdeal_pre_gqa_finite [hGqaIdeal : Cert.GqaIdeal.Facts] [hGqaRefIdeal : Cert.GqaRefIdeal.Facts] [hPre_gqa_finite : Cert.Pre_gqa_finite.Facts] : Prop :=
  ∀ (m : (ℓ : Loc Cert.GqaIdeal.nD Cert.GqaIdeal.τ Cert.GqaIdeal.sig) → Buf (Elt Ideal) ℓ) (g : Dev Cert.GqaIdeal.nD → PrngReg)
    (m' : (ℓ : Loc Cert.GqaRefIdeal.nD Cert.GqaRefIdeal.τ Cert.GqaRefIdeal.sig) → Buf (Elt Ideal) ℓ) (g' : Dev Cert.GqaRefIdeal.nD → PrngReg), Pre_GqaIdeal_gqa_finite m →
    (∀ c : Dev Cert.GqaIdeal.nD,
      m' ((c.tc : Thread Cert.GqaRefIdeal.nD Cert.GqaRefIdeal.τ).loc Cert.GqaRefIdeal.main_arg0) = m ((c.tc : Thread Cert.GqaIdeal.nD Cert.GqaIdeal.τ).loc Cert.GqaIdeal.main_arg0)
      ∧ m' ((c.tc : Thread Cert.GqaRefIdeal.nD Cert.GqaRefIdeal.τ).loc Cert.GqaRefIdeal.main_arg1) = m ((c.tc : Thread Cert.GqaIdeal.nD Cert.GqaIdeal.τ).loc Cert.GqaIdeal.main_arg1)
      ∧ m' ((c.tc : Thread Cert.GqaRefIdeal.nD Cert.GqaRefIdeal.τ).loc Cert.GqaRefIdeal.main_arg2) = m ((c.tc : Thread Cert.GqaIdeal.nD Cert.GqaIdeal.τ).loc Cert.GqaIdeal.main_arg2)
      ∧ m' ((c.tc : Thread Cert.GqaRefIdeal.nD Cert.GqaRefIdeal.τ).loc Cert.GqaRefIdeal.main_arg3) = m ((c.tc : Thread Cert.GqaIdeal.nD Cert.GqaIdeal.τ).loc Cert.GqaIdeal.main_arg3)) →
    ∃ (v0 : (c : Dev Cert.GqaIdeal.nD) → Buf (Elt Ideal) ((c.tc : Thread Cert.GqaIdeal.nD Cert.GqaIdeal.τ).loc Cert.GqaIdeal.main_v4)),
      θ_run (Cert.GqaIdeal.defs (F := Ideal)) (onTc (τ := Cert.GqaIdeal.τ) (Cert.GqaIdeal.main (F := Ideal))) ⟨m, fun _ => 0, g⟩ (fun r => ∀ c : Dev Cert.GqaIdeal.nD,
          r.2.mem ((c.tc : Thread Cert.GqaIdeal.nD Cert.GqaIdeal.τ).loc Cert.GqaIdeal.main_v4) = v0 c
          ∧ r.2.mem ((c.tc : Thread Cert.GqaIdeal.nD Cert.GqaIdeal.τ).loc Cert.GqaIdeal.main_arg0) = m ((c.tc : Thread Cert.GqaIdeal.nD Cert.GqaIdeal.τ).loc Cert.GqaIdeal.main_arg0)
          ∧ r.2.mem ((c.tc : Thread Cert.GqaIdeal.nD Cert.GqaIdeal.τ).loc Cert.GqaIdeal.main_arg1) = m ((c.tc : Thread Cert.GqaIdeal.nD Cert.GqaIdeal.τ).loc Cert.GqaIdeal.main_arg1)
          ∧ r.2.mem ((c.tc : Thread Cert.GqaIdeal.nD Cert.GqaIdeal.τ).loc Cert.GqaIdeal.main_arg2) = m ((c.tc : Thread Cert.GqaIdeal.nD Cert.GqaIdeal.τ).loc Cert.GqaIdeal.main_arg2)
          ∧ r.2.mem ((c.tc : Thread Cert.GqaIdeal.nD Cert.GqaIdeal.τ).loc Cert.GqaIdeal.main_arg3) = m ((c.tc : Thread Cert.GqaIdeal.nD Cert.GqaIdeal.τ).loc Cert.GqaIdeal.main_arg3))
      ∧ θ_run (Cert.GqaRefIdeal.defs (F := Ideal)) (onTc (τ := Cert.GqaRefIdeal.τ) (Cert.GqaRefIdeal.main (F := Ideal))) ⟨m', fun _ => 0, g'⟩ (fun r => ∀ c : Dev Cert.GqaRefIdeal.nD,
          r.2.mem ((c.tc : Thread Cert.GqaRefIdeal.nD Cert.GqaRefIdeal.τ).loc Cert.GqaRefIdeal.main_v34) = v0 c
          ∧ r.2.mem ((c.tc : Thread Cert.GqaRefIdeal.nD Cert.GqaRefIdeal.τ).loc Cert.GqaRefIdeal.main_arg0) = m' ((c.tc : Thread Cert.GqaRefIdeal.nD Cert.GqaRefIdeal.τ).loc Cert.GqaRefIdeal.main_arg0)
          ∧ r.2.mem ((c.tc : Thread Cert.GqaRefIdeal.nD Cert.GqaRefIdeal.τ).loc Cert.GqaRefIdeal.main_arg1) = m' ((c.tc : Thread Cert.GqaRefIdeal.nD Cert.GqaRefIdeal.τ).loc Cert.GqaRefIdeal.main_arg1)
          ∧ r.2.mem ((c.tc : Thread Cert.GqaRefIdeal.nD Cert.GqaRefIdeal.τ).loc Cert.GqaRefIdeal.main_arg2) = m' ((c.tc : Thread Cert.GqaRefIdeal.nD Cert.GqaRefIdeal.τ).loc Cert.GqaRefIdeal.main_arg2)
          ∧ r.2.mem ((c.tc : Thread Cert.GqaRefIdeal.nD Cert.GqaRefIdeal.τ).loc Cert.GqaRefIdeal.main_arg3) = m' ((c.tc : Thread Cert.GqaRefIdeal.nD Cert.GqaRefIdeal.τ).loc Cert.GqaRefIdeal.main_arg3))

def preserves_FfnSample_FfnSampleIdeal : Prop :=
  True

def algebraic_FfnSampleIdeal_FfnSampleRefIdeal [hFfnSampleIdeal : Cert.FfnSampleIdeal.Facts] [hFfnSampleRefIdeal : Cert.FfnSampleRefIdeal.Facts] : Prop :=
  ∀ (m : (ℓ : Loc Cert.FfnSampleIdeal.nD Cert.FfnSampleIdeal.τ Cert.FfnSampleIdeal.sig) → Buf (Elt Ideal) ℓ) (g : Dev Cert.FfnSampleIdeal.nD → PrngReg)
    (m' : (ℓ : Loc Cert.FfnSampleRefIdeal.nD Cert.FfnSampleRefIdeal.τ Cert.FfnSampleRefIdeal.sig) → Buf (Elt Ideal) ℓ) (g' : Dev Cert.FfnSampleRefIdeal.nD → PrngReg), Pre_FfnSampleIdeal m →
    (∀ c : Dev Cert.FfnSampleIdeal.nD,
      m' ((c.tc : Thread Cert.FfnSampleRefIdeal.nD Cert.FfnSampleRefIdeal.τ).loc Cert.FfnSampleRefIdeal.main_arg0) = m ((c.tc : Thread Cert.FfnSampleIdeal.nD Cert.FfnSampleIdeal.τ).loc Cert.FfnSampleIdeal.main_arg0)
      ∧ m' ((c.tc : Thread Cert.FfnSampleRefIdeal.nD Cert.FfnSampleRefIdeal.τ).loc Cert.FfnSampleRefIdeal.main_arg1) = m ((c.tc : Thread Cert.FfnSampleIdeal.nD Cert.FfnSampleIdeal.τ).loc Cert.FfnSampleIdeal.main_arg1)
      ∧ m' ((c.tc : Thread Cert.FfnSampleRefIdeal.nD Cert.FfnSampleRefIdeal.τ).loc Cert.FfnSampleRefIdeal.main_arg2) = m ((c.tc : Thread Cert.FfnSampleIdeal.nD Cert.FfnSampleIdeal.τ).loc Cert.FfnSampleIdeal.main_arg2)
      ∧ m' ((c.tc : Thread Cert.FfnSampleRefIdeal.nD Cert.FfnSampleRefIdeal.τ).loc Cert.FfnSampleRefIdeal.main_arg3) = m ((c.tc : Thread Cert.FfnSampleIdeal.nD Cert.FfnSampleIdeal.τ).loc Cert.FfnSampleIdeal.main_arg3)
      ∧ m' ((c.tc : Thread Cert.FfnSampleRefIdeal.nD Cert.FfnSampleRefIdeal.τ).loc Cert.FfnSampleRefIdeal.main_arg4) = m ((c.tc : Thread Cert.FfnSampleIdeal.nD Cert.FfnSampleIdeal.τ).loc Cert.FfnSampleIdeal.main_arg4)
      ∧ m' ((c.tc : Thread Cert.FfnSampleRefIdeal.nD Cert.FfnSampleRefIdeal.τ).loc Cert.FfnSampleRefIdeal.main_arg5) = m ((c.tc : Thread Cert.FfnSampleIdeal.nD Cert.FfnSampleIdeal.τ).loc Cert.FfnSampleIdeal.main_arg5)
      ∧ m' ((c.tc : Thread Cert.FfnSampleRefIdeal.nD Cert.FfnSampleRefIdeal.τ).loc Cert.FfnSampleRefIdeal.main_arg6) = m ((c.tc : Thread Cert.FfnSampleIdeal.nD Cert.FfnSampleIdeal.τ).loc Cert.FfnSampleIdeal.main_arg6)
      ∧ m' ((c.tc : Thread Cert.FfnSampleRefIdeal.nD Cert.FfnSampleRefIdeal.τ).loc Cert.FfnSampleRefIdeal.main_arg7) = m ((c.tc : Thread Cert.FfnSampleIdeal.nD Cert.FfnSampleIdeal.τ).loc Cert.FfnSampleIdeal.main_arg7)
      ∧ m' ((c.tc : Thread Cert.FfnSampleRefIdeal.nD Cert.FfnSampleRefIdeal.τ).loc Cert.FfnSampleRefIdeal.main_arg8) = m ((c.tc : Thread Cert.FfnSampleIdeal.nD Cert.FfnSampleIdeal.τ).loc Cert.FfnSampleIdeal.main_arg8)
      ∧ m' ((c.tc : Thread Cert.FfnSampleRefIdeal.nD Cert.FfnSampleRefIdeal.τ).loc Cert.FfnSampleRefIdeal.main_arg9) = m ((c.tc : Thread Cert.FfnSampleIdeal.nD Cert.FfnSampleIdeal.τ).loc Cert.FfnSampleIdeal.main_arg9)
      ∧ m' ((c.tc : Thread Cert.FfnSampleRefIdeal.nD Cert.FfnSampleRefIdeal.τ).loc Cert.FfnSampleRefIdeal.main_arg10) = m ((c.tc : Thread Cert.FfnSampleIdeal.nD Cert.FfnSampleIdeal.τ).loc Cert.FfnSampleIdeal.main_arg10)) →
    ∃ (v0 : (c : Dev Cert.FfnSampleIdeal.nD) → Buf (Elt Ideal) ((c.tc : Thread Cert.FfnSampleIdeal.nD Cert.FfnSampleIdeal.τ).loc Cert.FfnSampleIdeal.main_v5)),
      θ_run (Cert.FfnSampleIdeal.defs (F := Ideal)) (onTc (τ := Cert.FfnSampleIdeal.τ) (Cert.FfnSampleIdeal.main (F := Ideal))) ⟨m, fun _ => 0, g⟩ (fun r => ∀ c : Dev Cert.FfnSampleIdeal.nD,
          r.2.mem ((c.tc : Thread Cert.FfnSampleIdeal.nD Cert.FfnSampleIdeal.τ).loc Cert.FfnSampleIdeal.main_v5) = v0 c
          ∧ r.2.mem ((c.tc : Thread Cert.FfnSampleIdeal.nD Cert.FfnSampleIdeal.τ).loc Cert.FfnSampleIdeal.main_arg0) = m ((c.tc : Thread Cert.FfnSampleIdeal.nD Cert.FfnSampleIdeal.τ).loc Cert.FfnSampleIdeal.main_arg0)
          ∧ r.2.mem ((c.tc : Thread Cert.FfnSampleIdeal.nD Cert.FfnSampleIdeal.τ).loc Cert.FfnSampleIdeal.main_arg1) = m ((c.tc : Thread Cert.FfnSampleIdeal.nD Cert.FfnSampleIdeal.τ).loc Cert.FfnSampleIdeal.main_arg1)
          ∧ r.2.mem ((c.tc : Thread Cert.FfnSampleIdeal.nD Cert.FfnSampleIdeal.τ).loc Cert.FfnSampleIdeal.main_arg2) = m ((c.tc : Thread Cert.FfnSampleIdeal.nD Cert.FfnSampleIdeal.τ).loc Cert.FfnSampleIdeal.main_arg2)
          ∧ r.2.mem ((c.tc : Thread Cert.FfnSampleIdeal.nD Cert.FfnSampleIdeal.τ).loc Cert.FfnSampleIdeal.main_arg3) = m ((c.tc : Thread Cert.FfnSampleIdeal.nD Cert.FfnSampleIdeal.τ).loc Cert.FfnSampleIdeal.main_arg3)
          ∧ r.2.mem ((c.tc : Thread Cert.FfnSampleIdeal.nD Cert.FfnSampleIdeal.τ).loc Cert.FfnSampleIdeal.main_arg4) = m ((c.tc : Thread Cert.FfnSampleIdeal.nD Cert.FfnSampleIdeal.τ).loc Cert.FfnSampleIdeal.main_arg4)
          ∧ r.2.mem ((c.tc : Thread Cert.FfnSampleIdeal.nD Cert.FfnSampleIdeal.τ).loc Cert.FfnSampleIdeal.main_arg5) = m ((c.tc : Thread Cert.FfnSampleIdeal.nD Cert.FfnSampleIdeal.τ).loc Cert.FfnSampleIdeal.main_arg5)
          ∧ r.2.mem ((c.tc : Thread Cert.FfnSampleIdeal.nD Cert.FfnSampleIdeal.τ).loc Cert.FfnSampleIdeal.main_arg6) = m ((c.tc : Thread Cert.FfnSampleIdeal.nD Cert.FfnSampleIdeal.τ).loc Cert.FfnSampleIdeal.main_arg6)
          ∧ r.2.mem ((c.tc : Thread Cert.FfnSampleIdeal.nD Cert.FfnSampleIdeal.τ).loc Cert.FfnSampleIdeal.main_arg7) = m ((c.tc : Thread Cert.FfnSampleIdeal.nD Cert.FfnSampleIdeal.τ).loc Cert.FfnSampleIdeal.main_arg7)
          ∧ r.2.mem ((c.tc : Thread Cert.FfnSampleIdeal.nD Cert.FfnSampleIdeal.τ).loc Cert.FfnSampleIdeal.main_arg8) = m ((c.tc : Thread Cert.FfnSampleIdeal.nD Cert.FfnSampleIdeal.τ).loc Cert.FfnSampleIdeal.main_arg8)
          ∧ r.2.mem ((c.tc : Thread Cert.FfnSampleIdeal.nD Cert.FfnSampleIdeal.τ).loc Cert.FfnSampleIdeal.main_arg9) = m ((c.tc : Thread Cert.FfnSampleIdeal.nD Cert.FfnSampleIdeal.τ).loc Cert.FfnSampleIdeal.main_arg9)
          ∧ r.2.mem ((c.tc : Thread Cert.FfnSampleIdeal.nD Cert.FfnSampleIdeal.τ).loc Cert.FfnSampleIdeal.main_arg10) = m ((c.tc : Thread Cert.FfnSampleIdeal.nD Cert.FfnSampleIdeal.τ).loc Cert.FfnSampleIdeal.main_arg10))
      ∧ θ_run (Cert.FfnSampleRefIdeal.defs (F := Ideal)) (onTc (τ := Cert.FfnSampleRefIdeal.τ) (Cert.FfnSampleRefIdeal.main (F := Ideal))) ⟨m', fun _ => 0, g'⟩ (fun r => ∀ c : Dev Cert.FfnSampleRefIdeal.nD,
          r.2.mem ((c.tc : Thread Cert.FfnSampleRefIdeal.nD Cert.FfnSampleRefIdeal.τ).loc Cert.FfnSampleRefIdeal.main_v46) = v0 c
          ∧ r.2.mem ((c.tc : Thread Cert.FfnSampleRefIdeal.nD Cert.FfnSampleRefIdeal.τ).loc Cert.FfnSampleRefIdeal.main_arg0) = m' ((c.tc : Thread Cert.FfnSampleRefIdeal.nD Cert.FfnSampleRefIdeal.τ).loc Cert.FfnSampleRefIdeal.main_arg0)
          ∧ r.2.mem ((c.tc : Thread Cert.FfnSampleRefIdeal.nD Cert.FfnSampleRefIdeal.τ).loc Cert.FfnSampleRefIdeal.main_arg1) = m' ((c.tc : Thread Cert.FfnSampleRefIdeal.nD Cert.FfnSampleRefIdeal.τ).loc Cert.FfnSampleRefIdeal.main_arg1)
          ∧ r.2.mem ((c.tc : Thread Cert.FfnSampleRefIdeal.nD Cert.FfnSampleRefIdeal.τ).loc Cert.FfnSampleRefIdeal.main_arg2) = m' ((c.tc : Thread Cert.FfnSampleRefIdeal.nD Cert.FfnSampleRefIdeal.τ).loc Cert.FfnSampleRefIdeal.main_arg2)
          ∧ r.2.mem ((c.tc : Thread Cert.FfnSampleRefIdeal.nD Cert.FfnSampleRefIdeal.τ).loc Cert.FfnSampleRefIdeal.main_arg3) = m' ((c.tc : Thread Cert.FfnSampleRefIdeal.nD Cert.FfnSampleRefIdeal.τ).loc Cert.FfnSampleRefIdeal.main_arg3)
          ∧ r.2.mem ((c.tc : Thread Cert.FfnSampleRefIdeal.nD Cert.FfnSampleRefIdeal.τ).loc Cert.FfnSampleRefIdeal.main_arg4) = m' ((c.tc : Thread Cert.FfnSampleRefIdeal.nD Cert.FfnSampleRefIdeal.τ).loc Cert.FfnSampleRefIdeal.main_arg4)
          ∧ r.2.mem ((c.tc : Thread Cert.FfnSampleRefIdeal.nD Cert.FfnSampleRefIdeal.τ).loc Cert.FfnSampleRefIdeal.main_arg5) = m' ((c.tc : Thread Cert.FfnSampleRefIdeal.nD Cert.FfnSampleRefIdeal.τ).loc Cert.FfnSampleRefIdeal.main_arg5)
          ∧ r.2.mem ((c.tc : Thread Cert.FfnSampleRefIdeal.nD Cert.FfnSampleRefIdeal.τ).loc Cert.FfnSampleRefIdeal.main_arg6) = m' ((c.tc : Thread Cert.FfnSampleRefIdeal.nD Cert.FfnSampleRefIdeal.τ).loc Cert.FfnSampleRefIdeal.main_arg6)
          ∧ r.2.mem ((c.tc : Thread Cert.FfnSampleRefIdeal.nD Cert.FfnSampleRefIdeal.τ).loc Cert.FfnSampleRefIdeal.main_arg7) = m' ((c.tc : Thread Cert.FfnSampleRefIdeal.nD Cert.FfnSampleRefIdeal.τ).loc Cert.FfnSampleRefIdeal.main_arg7)
          ∧ r.2.mem ((c.tc : Thread Cert.FfnSampleRefIdeal.nD Cert.FfnSampleRefIdeal.τ).loc Cert.FfnSampleRefIdeal.main_arg8) = m' ((c.tc : Thread Cert.FfnSampleRefIdeal.nD Cert.FfnSampleRefIdeal.τ).loc Cert.FfnSampleRefIdeal.main_arg8)
          ∧ r.2.mem ((c.tc : Thread Cert.FfnSampleRefIdeal.nD Cert.FfnSampleRefIdeal.τ).loc Cert.FfnSampleRefIdeal.main_arg9) = m' ((c.tc : Thread Cert.FfnSampleRefIdeal.nD Cert.FfnSampleRefIdeal.τ).loc Cert.FfnSampleRefIdeal.main_arg9)
          ∧ r.2.mem ((c.tc : Thread Cert.FfnSampleRefIdeal.nD Cert.FfnSampleRefIdeal.τ).loc Cert.FfnSampleRefIdeal.main_arg10) = m' ((c.tc : Thread Cert.FfnSampleRefIdeal.nD Cert.FfnSampleRefIdeal.τ).loc Cert.FfnSampleRefIdeal.main_arg10))

def Claim : Prop :=
  ∃ (hMla : Cert.Mla.Facts) (hMlaIdeal : Cert.MlaIdeal.Facts) (hMlaRefIdeal : Cert.MlaRefIdeal.Facts) (hFfn : Cert.Ffn.Facts) (hFfnIdeal : Cert.FfnIdeal.Facts) (hFfnRefIdeal : Cert.FfnRefIdeal.Facts) (hInProj : Cert.InProj.Facts) (hInProjIdeal : Cert.InProjIdeal.Facts) (hInProjRefIdeal : Cert.InProjRefIdeal.Facts) (hGqa : Cert.Gqa.Facts) (hGqaIdeal : Cert.GqaIdeal.Facts) (hGqaRefIdeal : Cert.GqaRefIdeal.Facts) (hFfnSample : Cert.FfnSample.Facts) (hFfnSampleIdeal : Cert.FfnSampleIdeal.Facts) (hFfnSampleRefIdeal : Cert.FfnSampleRefIdeal.Facts) (hPre_mla_gains_finite : Cert.Pre_mla_gains_finite.Facts) (hPre_gqa_finite : Cert.Pre_gqa_finite.Facts),
    quiescent_Mla (hMla := hMla)
    ∧ quiescent_MlaIdeal (hMlaIdeal := hMlaIdeal)
    ∧ quiescent_MlaIdeal_pre_mla_gains_finite (hMlaIdeal := hMlaIdeal) (hPre_mla_gains_finite := hPre_mla_gains_finite)
    ∧ quiescent_MlaRefIdeal (hMlaRefIdeal := hMlaRefIdeal)
    ∧ quiescent_MlaRefIdeal_pre_mla_gains_finite (hMlaRefIdeal := hMlaRefIdeal) (hPre_mla_gains_finite := hPre_mla_gains_finite)
    ∧ quiescent_Ffn (hFfn := hFfn)
    ∧ quiescent_FfnIdeal (hFfnIdeal := hFfnIdeal)
    ∧ quiescent_FfnRefIdeal (hFfnRefIdeal := hFfnRefIdeal)
    ∧ quiescent_InProj (hInProj := hInProj)
    ∧ quiescent_InProjIdeal (hInProjIdeal := hInProjIdeal)
    ∧ quiescent_InProjRefIdeal (hInProjRefIdeal := hInProjRefIdeal)
    ∧ quiescent_Gqa (hGqa := hGqa)
    ∧ quiescent_GqaIdeal (hGqaIdeal := hGqaIdeal)
    ∧ quiescent_GqaIdeal_pre_gqa_finite (hGqaIdeal := hGqaIdeal) (hPre_gqa_finite := hPre_gqa_finite)
    ∧ quiescent_GqaRefIdeal (hGqaRefIdeal := hGqaRefIdeal)
    ∧ quiescent_GqaRefIdeal_pre_gqa_finite (hGqaRefIdeal := hGqaRefIdeal) (hPre_gqa_finite := hPre_gqa_finite)
    ∧ quiescent_FfnSample (hFfnSample := hFfnSample)
    ∧ quiescent_FfnSampleIdeal (hFfnSampleIdeal := hFfnSampleIdeal)
    ∧ quiescent_FfnSampleRefIdeal (hFfnSampleRefIdeal := hFfnSampleRefIdeal)
    ∧ preserves_Mla_MlaIdeal
    ∧ algebraic_MlaIdeal_MlaRefIdeal_pre_mla_gains_finite (hMlaIdeal := hMlaIdeal) (hMlaRefIdeal := hMlaRefIdeal) (hPre_mla_gains_finite := hPre_mla_gains_finite)
    ∧ preserves_Ffn_FfnIdeal
    ∧ algebraic_FfnIdeal_FfnRefIdeal (hFfnIdeal := hFfnIdeal) (hFfnRefIdeal := hFfnRefIdeal)
    ∧ preserves_InProj_InProjIdeal
    ∧ algebraic_InProjIdeal_InProjRefIdeal (hInProjIdeal := hInProjIdeal) (hInProjRefIdeal := hInProjRefIdeal)
    ∧ preserves_Gqa_GqaIdeal
    ∧ algebraic_GqaIdeal_GqaRefIdeal_pre_gqa_finite (hGqaIdeal := hGqaIdeal) (hGqaRefIdeal := hGqaRefIdeal) (hPre_gqa_finite := hPre_gqa_finite)
    ∧ preserves_FfnSample_FfnSampleIdeal
    ∧ algebraic_FfnSampleIdeal_FfnSampleRefIdeal (hFfnSampleIdeal := hFfnSampleIdeal) (hFfnSampleRefIdeal := hFfnSampleRefIdeal)
-- ==== Pre_gqa_finite.lean ====
abbrev S8192x512 : Shape := ⟨2, ![8192, 512]⟩
abbrev S8192x128 : Shape := ⟨2, ![8192, 128]⟩
abbrev S64 : Shape := ⟨1, ![64]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S8192x128 : S_.BroadcastsInDim S8192x128 (![] : Fin 0 → Fin S8192x128.rank)
  reducesTo_S8192x128_S_d0_1 : S8192x128.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S8192x512 .f32) (main_arg1 : FVec F S8192x128 .f32) (main_arg2 : FVec F S8192x128 .f32) (main_arg3 : FVec F S64 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x128 .f32 := Host.absf main_arg1
  let main_cst_0 : FVec F S_ .f32 := constant S_ .f32 0x7F800000#32
  let main_v5 : FVec F S8192x128 .f32 := broadcastInDim S8192x128 ![] bcast_S_S8192x128 main_cst_0
  let main_v6 : IVec S8192x128 1 := cmpf .olt main_v4 main_v5
  let main_c_1 : IVec S_ 1 := constantI S_ 1 1#1
  let main_v7 : IVec S_ 1 := (fun x v => Host.reduce IntOp.andi x v reducesTo_S8192x128_S_d0_1 h_S_) main_v6 main_c_1
  let main_v8 : FVec F S64 .f32 := Host.absf main_arg3
  let main_cst_2 : FVec F S_ .f32 := constant S_ .f32 0x7F800000#32
  let main_v9 : FVec F S64 .f32 := broadcastInDim S64 ![] bcast_S_S64 main_cst_2
  let main_v10 : IVec S64 1 := cmpf .olt main_v8 main_v9
  let main_c_3 : IVec S_ 1 := constantI S_ 1 1#1
  let main_v11 : IVec S_ 1 := (fun x v => Host.reduce IntOp.andi x v reducesTo_S64_S_d0 h_S_) main_v10 main_c_3
  let main_v12 : IVec S_ 1 := andi main_v3 main_v7
  let main_v13 : IVec S_ 1 := andi main_v12 main_v11
  main_v13
-- ==== Pre_mla_gains_finite.lean ====
abbrev S8192x768 : Shape := ⟨2, ![8192, 768]⟩
abbrev S8192x128 : Shape := ⟨2, ![8192, 128]⟩
abbrev S8192x32 : Shape := ⟨2, ![8192, 32]⟩
abbrev S128x1024 : Shape := ⟨2, ![128, 1024]⟩
abbrev S96 : Shape := ⟨1, ![96]⟩
abbrev S_ : Shape := ⟨0, ![]⟩

class Facts : Prop where
  bcast_S_S96 : S_.BroadcastsInDim S96 (![] : Fin 0 → Fin S96.rank)

variable [Facts]

def fn {F : FTy → Type} [FloatOps F] (main_arg0 : FVec F S8192x768 .f32) (main_arg1 : FVec F S8192x128 .f32) (main_arg2 : FVec F S8192x32 .f32) (main_arg3 : FVec F S128x1024 .f32) (main_arg4 : FVec F S96 .f32) (main_arg5 : FVec F S96 .f32) : IVec S96 1 :=
  let main_v0 : FVec F S96 .f32 := Host.absf main_arg4
  let main_cst : FVec F S_ .f32 := constant S_ .f32 0x7F800000#32
  let main_v1 : FVec F S96 .f32 := broadcastInDim S96 ![] bcast_S_S96 main_cst
  let main_v2 : IVec S96 1 := cmpf .olt main_v0 main_v1
  let main_v3 : FVec F S96 .f32 := Host.absf main_arg5
  let main_cst_0 : FVec F S_ .f32 := constant S_ .f32 0x7F800000#32
  let main_v4 : FVec F S96 .f32 := broadcastInDim S96 ![] bcast_S_S96 main_cst_0
  let main_v5 : IVec S96 1 := cmpf .olt main_v3 main_v4
  let main_v6 : IVec S96 1 := andi main_v2 main_v5
  main_v6
-- ==== Mla.lean ====
abbrev S8192x768 : Shape := ⟨2, ![8192, 768]⟩
abbrev S8192x128 : Shape := ⟨2, ![8192, 128]⟩
abbrev S8192x32 : Shape := ⟨2, ![8192, 32]⟩
abbrev S128x1024 : Shape := ⟨2, ![128, 1024]⟩
abbrev S96 : Shape := ⟨1, ![96]⟩
abbrev S128x8x128 : Shape := ⟨3, ![128, 8, 128]⟩
abbrev S128x8x64 : Shape := ⟨3, ![128, 8, 64]⟩
abbrev S1x96 : Shape := ⟨2, ![1, 96]⟩
abbrev S8x96 : Shape := ⟨2, ![8, 96]⟩
abbrev S768 : Shape := ⟨1, ![768]⟩
abbrev S1x768 : Shape := ⟨2, ![1, 768]⟩
abbrev S1x8x96 : Shape := ⟨3, ![1, 8, 96]⟩
abbrev S_ : Shape := ⟨0, ![]⟩
abbrev S1x8x32 : Shape := ⟨3, ![1, 8, 32]⟩
abbrev S1x8x64 : Shape := ⟨3, ![1, 8, 64]⟩
abbrev S1x8x128 : Shape := ⟨3, ![1, 8, 128]⟩
abbrev S1x1024 : Shape := ⟨2, ![1, 1024]⟩
abbrev S1x128 : Shape := ⟨2, ![1, 128]⟩
abbrev S8192x8x96 : Shape := ⟨3, ![8192, 8, 96]⟩
abbrev S8192x8x32 : Shape := ⟨3, ![8192, 8, 32]⟩
abbrev S8192x8x64 : Shape := ⟨3, ![8192, 8, 64]⟩
abbrev S8192x8x128 : Shape := ⟨3, ![8192, 8, 128]⟩
abbrev S8192x1024 : Shape := ⟨2, ![8192, 1024]⟩
abbrev S8192x512 : Shape := ⟨2, ![8192, 512]⟩
abbrev S256x256 : Shape := ⟨2, ![256, 256]⟩
abbrev S256x128 : Shape := ⟨2, ![256, 128]⟩
abbrev S128x256 : Shape := ⟨2, ![128, 256]⟩
abbrev S2x256x128 : Shape := ⟨3, ![2, 256, 128]⟩
abbrev S128x128 : Shape := ⟨2, ![128, 128]⟩
abbrev S256 : Shape := ⟨1, ![256]⟩
abbrev S256x1 : Shape := ⟨2, ![256, 1]⟩
abbrev S1x256x128 : Shape := ⟨3, ![1, 256, 128]⟩

abbrev nBuf : Space → Nat
  | .hbm => 47
  | .vmem => 14
  | .smem => 0
  | _ => 0

abbrev bufTy : (tb : Table) → Fin (tcTables nBuf tb) → BufTy
  | .hbm, ⟨0, _⟩ => ⟨S8192x768, .f32⟩
  | .hbm, ⟨1, _⟩ => ⟨S8192x128, .f32⟩
  | .hbm, ⟨2, _⟩ => ⟨S8192x32, .f32⟩
  | .hbm, ⟨3, _⟩ => ⟨S128x1024, .f32⟩
  | .hbm, ⟨4, _⟩ => ⟨S96, .f32⟩
  | .hbm, ⟨5, _⟩ => ⟨S96, .f32⟩
  | .hbm, ⟨6, _⟩ => ⟨S128x8x128, .f32⟩
  | .hbm, ⟨7, _⟩ => ⟨S128x8x64, .f32⟩
  | .hbm, ⟨8, _⟩ => ⟨S128x8x64, .f32⟩
  | .hbm, ⟨9, _⟩ => ⟨S128x8x128, .f32⟩
  | .hbm, ⟨10, _⟩ => ⟨S128x1024, .f32⟩
  | .hbm, ⟨11, _⟩ => ⟨S1x96, .f32⟩
  | .hbm, ⟨12, _⟩ => ⟨S8x96, .f32⟩
  | .hbm, ⟨13, _⟩ => ⟨S768, .f32⟩
  | .hbm, ⟨14, _⟩ => ⟨S1x768, .f32⟩
  | .hbm, ⟨15, _⟩ => ⟨S1x8x96, .f32⟩
  | .hbm, ⟨16, _⟩ => ⟨S_, .f32⟩
  | .hbm, ⟨17, _⟩ => ⟨S1x8x32, .f32⟩
  | .hbm, ⟨18, _⟩ => ⟨S1x8x32, .f32⟩
  | .hbm, ⟨19, _⟩ => ⟨S1x8x64, .f32⟩
  | .hbm, ⟨20, _⟩ => ⟨S1x8x128, .f32⟩
  | .hbm, ⟨21, _⟩ => ⟨S1x1024, .f32⟩
  | .hbm, ⟨22, _⟩ => ⟨S1x128, .f32⟩
  | .hbm, ⟨23, _⟩ => ⟨S1x96, .f32⟩
  | .hbm, ⟨24, _⟩ => ⟨S8x96, .f32⟩
  | .hbm, ⟨25, _⟩ => ⟨S768, .f32⟩
  | .hbm, ⟨26, _⟩ => ⟨S1x768, .f32⟩
  | .hbm, ⟨27, _⟩ => ⟨S1x8x96, .f32⟩
  | .hbm, ⟨28, _⟩ => ⟨S_, .f32⟩
  | .hbm, ⟨29, _⟩ => ⟨S1x8x32, .f32⟩
  | .hbm, ⟨30, _⟩ => ⟨S1x8x32, .f32⟩
  | .hbm, ⟨31, _⟩ => ⟨S1x8x64, .f32⟩
  | .hbm, ⟨32, _⟩ => ⟨S1x8x128, .f32⟩
  | .hbm, ⟨33, _⟩ => ⟨S1x1024, .f32⟩
  | .hbm, ⟨34, _⟩ => ⟨S1x128, .f32⟩
  | .hbm, ⟨35, _⟩ => ⟨S128x1024, .bf16⟩
  | .hbm, ⟨36, _⟩ => ⟨S8192x8x96, .f32⟩
  | .hbm, ⟨37, _⟩ => ⟨S_, .f32⟩
  | .hbm, ⟨38, _⟩ => ⟨S8192x8x32, .f32⟩
  | .hbm, ⟨39, _⟩ => ⟨S8192x8x32, .f32⟩
  | .hbm, ⟨40, _⟩ => ⟨S8192x8x64, .f32⟩
  | .hbm, ⟨41, _⟩ => ⟨S8192x8x128, .f32⟩
  | .hbm, ⟨42, _⟩ => ⟨S8192x1024, .f32⟩
  | .hbm, ⟨43, _⟩ => ⟨S_, .i32⟩
  | .hbm, ⟨44, _⟩ => ⟨S_, .f32⟩
  | .hbm, ⟨45, _⟩ => ⟨S8192x128, .f32⟩
  | .hbm, ⟨46, _⟩ => ⟨S8192x512, .f32⟩
  | .local _ .vmem, ⟨0, _⟩ => ⟨S256x256, .f32⟩
  | .local _ .vmem, ⟨1, _⟩ => ⟨S256x256, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S128x256, .bf16⟩
  | .local _ .vmem, ⟨7, _⟩ => ⟨S128x256, .bf16⟩
  | .local _ .vmem, ⟨8, _⟩ => ⟨S1x128, .f32⟩
  | .local _ .vmem, ⟨9, _⟩ => ⟨S1x128, .f32⟩
  | .local _ .vmem, ⟨10, _⟩ => ⟨S256x128, .f32⟩
  | .local _ .vmem, ⟨11, _⟩ => ⟨S256x128, .f32⟩
  | .local _ .vmem, ⟨12, _⟩ => ⟨S2x256x128, .bf16⟩
  | .local _ .vmem, ⟨13, _⟩ => ⟨S2x256x128, .bf16⟩
  | _, _ => ⟨S8192x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_0 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst_1 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_c : Ref sig .tc := ⟨.hbm, 43, rfl⟩
abbrev main_call0_v0 : Ref sig .tc := ⟨.hbm, 44, rfl⟩
abbrev main_v34 : Ref sig .tc := ⟨.hbm, 45, rfl⟩
abbrev main_v35 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨3, ![32, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![v1.toNat, arg1.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== MlaIdeal.lean ====
variable {F : FTy → Type} [FloatOps F] [Named F]
def κ : String → Option EReal := fun
  | "inv96" => some ((96⁻¹ : ℝ) : EReal)
  | _ => none
-- ==== MlaRefIdeal.lean ====
abbrev S8192x768 : Shape := ⟨2, ![8192, 768]⟩
abbrev S8192x128 : Shape := ⟨2, ![8192, 128]⟩
abbrev S8192x32 : Shape := ⟨2, ![8192, 32]⟩
abbrev S128x1024 : Shape := ⟨2, ![128, 1024]⟩
abbrev S96 : Shape := ⟨1, ![96]⟩
abbrev S32x256x8x96 : Shape := ⟨4, ![32, 256, 8, 96]⟩
abbrev S_ : Shape := ⟨0, ![]⟩
abbrev S32x256x8 : Shape := ⟨3, ![32, 256, 8]⟩
abbrev S32x256x8x1 : Shape := ⟨4, ![32, 256, 8, 1]⟩
abbrev S1x1x1x96 : Shape := ⟨4, ![1, 1, 1, 96]⟩
abbrev S32x256x128 : Shape := ⟨3, ![32, 256, 128]⟩
abbrev S32x256x1024 : Shape := ⟨3, ![32, 256, 1024]⟩
abbrev S32x256x8x128 : Shape := ⟨4, ![32, 256, 8, 128]⟩
abbrev S32x256x1x32 : Shape := ⟨4, ![32, 256, 1, 32]⟩
abbrev S32x256x8x32 : Shape := ⟨4, ![32, 256, 8, 32]⟩
abbrev S32x256x8x64 : Shape := ⟨4, ![32, 256, 8, 64]⟩
abbrev S32x8x256x256 : Shape := ⟨4, ![32, 8, 256, 256]⟩
abbrev S32x8x256 : Shape := ⟨3, ![32, 8, 256]⟩
abbrev S32x8x256x1 : Shape := ⟨4, ![32, 8, 256, 1]⟩
abbrev S32x8x64x256 : Shape := ⟨4, ![32, 8, 64, 256]⟩
abbrev S8192x512 : Shape := ⟨2, ![8192, 512]⟩

abbrev nBuf : Space → Nat
  | .hbm => 68
  | .vmem => 0
  | .smem => 0
  | _ => 0

abbrev bufTy : (tb : Table) → Fin (tcTables nBuf tb) → BufTy
  | .hbm, ⟨0, _⟩ => ⟨S8192x768, .f32⟩
  | .hbm, ⟨1, _⟩ => ⟨S8192x128, .f32⟩
  | .hbm, ⟨2, _⟩ => ⟨S8192x32, .f32⟩
  | .hbm, ⟨3, _⟩ => ⟨S128x1024, .f32⟩
  | .hbm, ⟨4, _⟩ => ⟨S96, .f32⟩
  | .hbm, ⟨5, _⟩ => ⟨S96, .f32⟩
  | .hbm, ⟨6, _⟩ => ⟨S32x256x8x96, .f32⟩
  | .hbm, ⟨7, _⟩ => ⟨S32x256x8x96, .f32⟩
  | .hbm, ⟨8, _⟩ => ⟨S_, .f32⟩
  | .hbm, ⟨9, _⟩ => ⟨S32x256x8, .f32⟩
  | .hbm, ⟨10, _⟩ => ⟨S32x256x8x1, .f32⟩
  | .hbm, ⟨11, _⟩ => ⟨S_, .f32⟩
  | .hbm, ⟨12, _⟩ => ⟨S32x256x8x1, .f32⟩
  | .hbm, ⟨13, _⟩ => ⟨S32x256x8x1, .f32⟩
  | .hbm, ⟨14, _⟩ => ⟨S_, .f32⟩
  | .hbm, ⟨15, _⟩ => ⟨S32x256x8x1, .f32⟩
  | .hbm, ⟨16, _⟩ => ⟨S32x256x8x1, .f32⟩
  | .hbm, ⟨17, _⟩ => ⟨S32x256x8x1, .f32⟩
  | .hbm, ⟨18, _⟩ => ⟨S32x256x8x96, .f32⟩
  | .hbm, ⟨19, _⟩ => ⟨S32x256x8x96, .f32⟩
  | .hbm, ⟨20, _⟩ => ⟨S1x1x1x96, .f32⟩
  | .hbm, ⟨21, _⟩ => ⟨S32x256x8x96, .f32⟩
  | .hbm, ⟨22, _⟩ => ⟨S32x256x8x96, .f32⟩
  | .hbm, ⟨23, _⟩ => ⟨S32x256x128, .f32⟩
  | .hbm, ⟨24, _⟩ => ⟨S32x256x1024, .f32⟩
  | .hbm, ⟨25, _⟩ => ⟨S32x256x8x128, .f32⟩
  | .hbm, ⟨26, _⟩ => ⟨S32x256x1x32, .f32⟩
  | .hbm, ⟨27, _⟩ => ⟨S32x256x8x32, .f32⟩
  | .hbm, ⟨28, _⟩ => ⟨S32x256x8x64, .f32⟩
  | .hbm, ⟨29, _⟩ => ⟨S32x256x8x96, .f32⟩
  | .hbm, ⟨30, _⟩ => ⟨S32x256x8x96, .f32⟩
  | .hbm, ⟨31, _⟩ => ⟨S_, .f32⟩
  | .hbm, ⟨32, _⟩ => ⟨S32x256x8, .f32⟩
  | .hbm, ⟨33, _⟩ => ⟨S32x256x8x1, .f32⟩
  | .hbm, ⟨34, _⟩ => ⟨S_, .f32⟩
  | .hbm, ⟨35, _⟩ => ⟨S32x256x8x1, .f32⟩
  | .hbm, ⟨36, _⟩ => ⟨S32x256x8x1, .f32⟩
  | .hbm, ⟨37, _⟩ => ⟨S_, .f32⟩
  | .hbm, ⟨38, _⟩ => ⟨S32x256x8x1, .f32⟩
  | .hbm, ⟨39, _⟩ => ⟨S32x256x8x1, .f32⟩
  | .hbm, ⟨40, _⟩ => ⟨S32x256x8x1, .f32⟩
  | .hbm, ⟨41, _⟩ => ⟨S32x256x8x96, .f32⟩
  | .hbm, ⟨42, _⟩ => ⟨S32x256x8x96, .f32⟩
  | .hbm, ⟨43, _⟩ => ⟨S1x1x1x96, .f32⟩
  | .hbm, ⟨44, _⟩ => ⟨S32x256x8x96, .f32⟩
  | .hbm, ⟨45, _⟩ => ⟨S32x256x8x96, .f32⟩
  | .hbm, ⟨46, _⟩ => ⟨S32x256x8x64, .f32⟩
  | .hbm, ⟨47, _⟩ => ⟨S32x8x256x256, .f32⟩
  | .hbm, ⟨48, _⟩ => ⟨S_, .f32⟩
  | .hbm, ⟨49, _⟩ => ⟨S32x8x256x256, .f32⟩
  | .hbm, ⟨50, _⟩ => ⟨S32x8x256x256, .f32⟩
  | .hbm, ⟨51, _⟩ => ⟨S_, .f32⟩
  | .hbm, ⟨52, _⟩ => ⟨S32x8x256, .f32⟩
  | .hbm, ⟨53, _⟩ => ⟨S_, .f32⟩
  | .hbm, ⟨54, _⟩ => ⟨S32x8x256, .f32⟩
  | .hbm, ⟨55, _⟩ => ⟨S32x8x256, .f32⟩
  | .hbm, ⟨56, _⟩ => ⟨S32x8x256x1, .f32⟩
  | .hbm, ⟨57, _⟩ => ⟨S32x8x256x256, .f32⟩
  | .hbm, ⟨58, _⟩ => ⟨S32x8x256x256, .f32⟩
  | .hbm, ⟨59, _⟩ => ⟨S32x8x256x256, .f32⟩
  | .hbm, ⟨60, _⟩ => ⟨S_, .f32⟩
  | .hbm, ⟨61, _⟩ => ⟨S32x8x256, .f32⟩
  | .hbm, ⟨62, _⟩ => ⟨S32x8x256x1, .f32⟩
  | .hbm, ⟨63, _⟩ => ⟨S32x8x256x256, .f32⟩
  | .hbm, ⟨64, _⟩ => ⟨S32x8x256x256, .f32⟩
  | .hbm, ⟨65, _⟩ => ⟨S32x8x64x256, .f32⟩
  | .hbm, ⟨66, _⟩ => ⟨S32x256x8x64, .f32⟩
  | .hbm, ⟨67, _⟩ => ⟨S8192x512, .f32⟩
  | _, _ => ⟨S8192x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_2 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_5 : Ref sig .tc := ⟨.hbm, 48, rfl⟩
abbrev main_v36 : Ref sig .tc := ⟨.hbm, 49, rfl⟩
abbrev main_v37 : Ref sig .tc := ⟨.hbm, 50, rfl⟩
abbrev main_cst_6 : Ref sig .tc := ⟨.hbm, 51, rfl⟩
abbrev main_v38 : Ref sig .tc := ⟨.hbm, 52, rfl⟩
abbrev main_cst_7 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_8 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩

abbrev nD : Nat := 1
abbrev τ : Topo := Topo.v7x

variable {F : FTy → Type} [FloatOps F]
-- ==== Ffn.lean ====
abbrev S8192x1024 : Shape := ⟨2, ![8192, 1024]⟩
abbrev S8192x512 : Shape := ⟨2, ![8192, 512]⟩
abbrev S8192x3072 : Shape := ⟨2, ![8192, 3072]⟩
abbrev S8x6x1024 : Shape := ⟨3, ![8, 6, 1024]⟩
abbrev S3x512x1024 : Shape := ⟨3, ![3, 512, 1024]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S256x1024 : Shape := ⟨2, ![256, 1024]⟩
abbrev S256x512 : Shape := ⟨2, ![256, 512]⟩
abbrev S256x3072 : Shape := ⟨2, ![256, 3072]⟩
abbrev S1x6x1024 : Shape := ⟨3, ![1, 6, 1024]⟩
abbrev S1x512x1024 : Shape := ⟨3, ![1, 512, 1024]⟩
abbrev S512x1024 : Shape := ⟨2, ![512, 1024]⟩
abbrev S1x1x1024 : Shape := ⟨3, ![1, 1, 1024]⟩
abbrev S256 : Shape := ⟨1, ![256]⟩
abbrev S256x1 : Shape := ⟨2, ![256, 1]⟩
abbrev S1024x1408 : Shape := ⟨2, ![1024, 1408]⟩
abbrev S256x1408 : Shape := ⟨2, ![256, 1408]⟩
abbrev S1408x1024 : Shape := ⟨2, ![1408, 1024]⟩

abbrev nBuf : Space → Nat
  | .hbm => 17
  | .vmem => 19
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S8192x512, .f32⟩
  | .hbm, ⟨3, _⟩ => ⟨S8192x512, .f32⟩
  | .hbm, ⟨4, _⟩ => ⟨S8192x3072, .f32⟩
  | .hbm, ⟨5, _⟩ => ⟨S8x6x1024, .f32⟩
  | .hbm, ⟨6, _⟩ => ⟨S3x512x1024, .f32⟩
  | .hbm, ⟨7, _⟩ => ⟨S1024x1024, .f32⟩
  | .hbm, ⟨8, _⟩ => ⟨S1024, .f32⟩
  | .hbm, ⟨9, _⟩ => ⟨S1024x5632, .f32⟩
  | .hbm, ⟨10, _⟩ => ⟨S2816x1024, .f32⟩
  | .hbm, ⟨11, _⟩ => ⟨S3x512x1024, .bf16⟩
  | .hbm, ⟨12, _⟩ => ⟨S1024x1024, .bf16⟩
  | .hbm, ⟨13, _⟩ => ⟨S1x1024, .f32⟩
  | .hbm, ⟨14, _⟩ => ⟨S1024x5632, .bf16⟩
  | .hbm, ⟨15, _⟩ => ⟨S2816x1024, .bf16⟩
  | .hbm, ⟨16, _⟩ => ⟨S8192x1024, .f32⟩
  | .local _ .vmem, ⟨0, _⟩ => ⟨S256x1024, .f32⟩
  | .local _ .vmem, ⟨1, _⟩ => ⟨S256x1024, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x3072, .f32⟩
  | .local _ .vmem, ⟨9, _⟩ => ⟨S256x3072, .f32⟩
  | .local _ .vmem, ⟨10, _⟩ => ⟨S1x6x1024, .f32⟩
  | .local _ .vmem, ⟨11, _⟩ => ⟨S1x6x1024, .f32⟩
  | .local _ .vmem, ⟨12, _⟩ => ⟨S1x1024, .f32⟩
  | .local _ .vmem, ⟨13, _⟩ => ⟨S3x512x1024, .bf16⟩
  | .local _ .vmem, ⟨14, _⟩ => ⟨S1024x1024, .bf16⟩
  | .local _ .vmem, ⟨15, _⟩ => ⟨S1024x5632, .bf16⟩
  | .local _ .vmem, ⟨16, _⟩ => ⟨S2816x1024, .bf16⟩
  | .local _ .vmem, ⟨17, _⟩ => ⟨S256x1024, .f32⟩
  | .local _ .vmem, ⟨18, _⟩ => ⟨S256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c256_i32 : BitVec 32 := 256#32
  let v0 : BitVec 32 := Scalar.muli arg0 c256_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let v18 : BitVec 32 := Scalar.addi c0_i32_4 v17
  let c0_i32_5 : BitVec 32 := 0#32
  let c0_i32_6 : BitVec 32 := 0#32
  let c0_i32_7 : BitVec 32 := 0#32
  ![v18.toNat, c0_i32_5.toNat, c0_i32_6.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x3072 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x6x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S3x512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x5632 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2816x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== FfnRefIdeal.lean ====
abbrev S8192x1024 : Shape := ⟨2, ![8192, 1024]⟩
abbrev S8192x512 : Shape := ⟨2, ![8192, 512]⟩
abbrev S8192x3072 : Shape := ⟨2, ![8192, 3072]⟩
abbrev S8x6x1024 : Shape := ⟨3, ![8, 6, 1024]⟩
abbrev S3x512x1024 : Shape := ⟨3, ![3, 512, 1024]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S1x1x1024 : Shape := ⟨3, ![1, 1, 1024]⟩
abbrev S8192x1x512 : Shape := ⟨3, ![8192, 1, 512]⟩
abbrev S8192x3x512 : Shape := ⟨3, ![8192, 3, 512]⟩
abbrev S3x1024x8192 : Shape := ⟨3, ![3, 1024, 8192]⟩
abbrev S8192x3x1024 : Shape := ⟨3, ![8192, 3, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S8192x5632 : Shape := ⟨2, ![8192, 5632]⟩
abbrev S8192x2816 : Shape := ⟨2, ![8192, 2816]⟩

abbrev nBuf : Space → Nat
  | .hbm => 75
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S8192x512, .f32⟩
  | .hbm, ⟨3, _⟩ => ⟨S8192x512, .f32⟩
  | .hbm, ⟨4, _⟩ => ⟨S8192x3072, .f32⟩
  | .hbm, ⟨5, _⟩ => ⟨S8x6x1024, .f32⟩
  | .hbm, ⟨6, _⟩ => ⟨S3x512x1024, .f32⟩
  | .hbm, ⟨7, _⟩ => ⟨S1024x1024, .f32⟩
  | .hbm, ⟨8, _⟩ => ⟨S1024, .f32⟩
  | .hbm, ⟨9, _⟩ => ⟨S1024x5632, .f32⟩
  | .hbm, ⟨10, _⟩ => ⟨S2816x1024, .f32⟩
  | .hbm, ⟨11, _⟩ => ⟨S1x1x1024, .f32⟩
  | .hbm, ⟨12, _⟩ => ⟨S1024, .f32⟩
  | .hbm, ⟨13, _⟩ => ⟨S1x1x1024, .f32⟩
  | .hbm, ⟨14, _⟩ => ⟨S1024, .f32⟩
  | .hbm, ⟨15, _⟩ => ⟨S1x1x1024, .f32⟩
  | .hbm, ⟨16, _⟩ => ⟨S1024, .f32⟩
  | .hbm, ⟨17, _⟩ => ⟨S1x1x1024, .f32⟩
  | .hbm, ⟨18, _⟩ => ⟨S1024, .f32⟩
  | .hbm, ⟨19, _⟩ => ⟨S8192x1x512, .f32⟩
  | .hbm, ⟨20, _⟩ => ⟨S8192x1x512, .f32⟩
  | .hbm, ⟨21, _⟩ => ⟨S8192x1x512, .f32⟩
  | .hbm, ⟨22, _⟩ => ⟨S8192x3x512, .f32⟩
  | .hbm, ⟨23, _⟩ => ⟨S3x1024x8192, .f32⟩
  | .hbm, ⟨24, _⟩ => ⟨S8192x3x1024, .f32⟩
  | .hbm, ⟨25, _⟩ => ⟨S8192x3x1024, .f32⟩
  | .hbm, ⟨26, _⟩ => ⟨S8192x1024, .f32⟩
  | .hbm, ⟨27, _⟩ => ⟨S8192x1024, .f32⟩
  | .hbm, ⟨28, _⟩ => ⟨S1x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S8192, .f32⟩
  | .hbm, ⟨35, _⟩ => ⟨S8192x1, .f32⟩
  | .hbm, ⟨36, _⟩ => ⟨S_, .f32⟩
  | .hbm, ⟨37, _⟩ => ⟨S8192x1, .f32⟩
  | .hbm, ⟨38, _⟩ => ⟨S8192x1, .f32⟩
  | .hbm, ⟨39, _⟩ => ⟨S_, .f32⟩
  | .hbm, ⟨40, _⟩ => ⟨S8192x1, .f32⟩
  | .hbm, ⟨41, _⟩ => ⟨S8192x1, .f32⟩
  | .hbm, ⟨42, _⟩ => ⟨S8192x1, .f32⟩
  | .hbm, ⟨43, _⟩ => ⟨S8192x1024, .f32⟩
  | .hbm, ⟨44, _⟩ => ⟨S8192x1024, .f32⟩
  | .hbm, ⟨45, _⟩ => ⟨S1x1024, .f32⟩
  | .hbm, ⟨46, _⟩ => ⟨S8192x1024, .f32⟩
  | .hbm, ⟨47, _⟩ => ⟨S8192x1024, .f32⟩
  | .hbm, ⟨48, _⟩ => ⟨S_, .f32⟩
  | .hbm, ⟨49, _⟩ => ⟨S1024, .f32⟩
  | .hbm, ⟨50, _⟩ => ⟨S1024, .f32⟩
  | .hbm, ⟨51, _⟩ => ⟨S1x1024, .f32⟩
  | .hbm, ⟨52, _⟩ => ⟨S8192x1024, .f32⟩
  | .hbm, ⟨53, _⟩ => ⟨S8192x1024, .f32⟩
  | .hbm, ⟨54, _⟩ => ⟨S1x1024, .f32⟩
  | .hbm, ⟨55, _⟩ => ⟨S8192x1024, .f32⟩
  | .hbm, ⟨56, _⟩ => ⟨S8192x1024, .f32⟩
  | .hbm, ⟨57, _⟩ => ⟨S8192x5632, .f32⟩
  | .hbm, ⟨58, _⟩ => ⟨S8192x2816, .f32⟩
  | .hbm, ⟨59, _⟩ => ⟨S8192x2816, .f32⟩
  | .hbm, ⟨60, _⟩ => ⟨S8192x2816, .f32⟩
  | .hbm, ⟨61, _⟩ => ⟨S8192x2816, .f32⟩
  | .hbm, ⟨62, _⟩ => ⟨S_, .f32⟩
  | .hbm, ⟨63, _⟩ => ⟨S8192x2816, .f32⟩
  | .hbm, ⟨64, _⟩ => ⟨S8192x2816, .f32⟩
  | .hbm, ⟨65, _⟩ => ⟨S_, .f32⟩
  | .hbm, ⟨66, _⟩ => ⟨S8192x2816, .f32⟩
  | .hbm, ⟨67, _⟩ => ⟨S8192x2816, .f32⟩
  | .hbm, ⟨68, _⟩ => ⟨S8192x2816, .f32⟩
  | .hbm, ⟨69, _⟩ => ⟨S8192x2816, .f32⟩
  | .hbm, ⟨70, _⟩ => ⟨S8192x1024, .f32⟩
  | .hbm, ⟨71, _⟩ => ⟨S1x1024, .f32⟩
  | .hbm, ⟨72, _⟩ => ⟨S8192x1024, .f32⟩
  | .hbm, ⟨73, _⟩ => ⟨S8192x1024, .f32⟩
  | .hbm, ⟨74, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst : Ref sig .tc := ⟨.hbm, 33, rfl⟩
abbrev main_v22 : Ref sig .tc := ⟨.hbm, 34, rfl⟩
abbrev main_v23 : Ref sig .tc := ⟨.hbm, 35, rfl⟩
abbrev main_cst_0 : Ref sig .tc := ⟨.hbm, 36, rfl⟩
abbrev main_v24 : Ref sig .tc := ⟨.hbm, 37, rfl⟩
abbrev main_v25 : Ref sig .tc := ⟨.hbm, 38, rfl⟩
abbrev main_cst_1 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_2 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_call0_v0 : Ref sig .tc := ⟨.hbm, 60, rfl⟩
abbrev main_call0_v1 : Ref sig .tc := ⟨.hbm, 61, rfl⟩
abbrev main_call0_cst : Ref sig .tc := ⟨.hbm, 62, rfl⟩
abbrev main_call0_v2 : Ref sig .tc := ⟨.hbm, 63, rfl⟩
abbrev main_call0_v3 : Ref sig .tc := ⟨.hbm, 64, rfl⟩
abbrev main_call0_cst_0 : Ref sig .tc := ⟨.hbm, 65, rfl⟩
abbrev main_call0_v4 : Ref sig .tc := ⟨.hbm, 66, rfl⟩
abbrev main_call0_v5 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩

abbrev nD : Nat := 1
abbrev τ : Topo := Topo.v7x

variable {F : FTy → Type} [FloatOps F]
-- ==== InProj.lean ====
abbrev S8192x1024 : Shape := ⟨2, ![8192, 1024]⟩
abbrev S8x6x1024 : Shape := ⟨3, ![8, 6, 1024]⟩
abbrev S1024 : Shape := ⟨1, ![1024]⟩
abbrev S1024x6320 : Shape := ⟨2, ![1024, 6320]⟩
abbrev S16 : Shape := ⟨1, ![16]⟩
abbrev S256 : Shape := ⟨1, ![256]⟩
abbrev S256x768 : Shape := ⟨2, ![256, 768]⟩
abbrev S128 : Shape := ⟨1, ![128]⟩
abbrev S64 : Shape := ⟨1, ![64]⟩
abbrev S1024x3072 : Shape := ⟨2, ![1024, 3072]⟩
abbrev S1024x512 : Shape := ⟨2, ![1024, 512]⟩
abbrev S1024x16 : Shape := ⟨2, ![1024, 16]⟩
abbrev S1024x256 : Shape := ⟨2, ![1024, 256]⟩
abbrev S1024x128 : Shape := ⟨2, ![1024, 128]⟩
abbrev S1024x32 : Shape := ⟨2, ![1024, 32]⟩
abbrev S_ : Shape := ⟨0, ![]⟩
abbrev S1024x6528 : Shape := ⟨2, ![1024, 6528]⟩
abbrev S1x16 : Shape := ⟨2, ![1, 16]⟩
abbrev S1x128 : Shape := ⟨2, ![1, 128]⟩
abbrev S1x1024 : Shape := ⟨2, ![1, 1024]⟩
abbrev S1x256 : Shape := ⟨2, ![1, 256]⟩
abbrev S256x8x96 : Shape := ⟨3, ![256, 8, 96]⟩
abbrev S256x8x32 : Shape := ⟨3, ![256, 8, 32]⟩
abbrev S256x8x64 : Shape := ⟨3, ![256, 8, 64]⟩
abbrev S256x8x128 : Shape := ⟨3, ![256, 8, 128]⟩
abbrev S256x1024 : Shape := ⟨2, ![256, 1024]⟩
abbrev S1x64 : Shape := ⟨2, ![1, 64]⟩
abbrev S2x64 : Shape := ⟨2, ![2, 64]⟩
abbrev S8192x3072 : Shape := ⟨2, ![8192, 3072]⟩
abbrev S8192x1536 : Shape := ⟨2, ![8192, 1536]⟩
abbrev S8192x512 : Shape := ⟨2, ![8192, 512]⟩
abbrev S8192x128 : Shape := ⟨2, ![8192, 128]⟩
abbrev S1x6x1024 : Shape := ⟨3, ![1, 6, 1024]⟩
abbrev S256x3072 : Shape := ⟨2, ![256, 3072]⟩
abbrev S256x1536 : Shape := ⟨2, ![256, 1536]⟩
abbrev S256x512 : Shape := ⟨2, ![256, 512]⟩
abbrev S256x128 : Shape := ⟨2, ![256, 128]⟩
abbrev S1x1x1024 : Shape := ⟨3, ![1, 1, 1024]⟩
abbrev S256x1 : Shape := ⟨2, ![256, 1]⟩
abbrev S256x256 : Shape := ⟨2, ![256, 256]⟩

abbrev nBuf : Space → Nat
  | .hbm => 58
  | .vmem => 31
  | .smem => 0
  | _ => 0

abbrev bufTy : (tb : Table) → Fin (tcTables nBuf tb) → BufTy
  | .hbm, ⟨0, _⟩ => ⟨S8192x1024, .f32⟩
  | .hbm, ⟨1, _⟩ => ⟨S8x6x1024, .f32⟩
  | .hbm, ⟨2, _⟩ => ⟨S1024, .f32⟩
  | .hbm, ⟨3, _⟩ => ⟨S1024x6320, .f32⟩
  | .hbm, ⟨4, _⟩ => ⟨S16, .f32⟩
  | .hbm, ⟨5, _⟩ => ⟨S256, .f32⟩
  | .hbm, ⟨6, _⟩ => ⟨S256x768, .f32⟩
  | .hbm, ⟨7, _⟩ => ⟨S128, .f32⟩
  | .hbm, ⟨8, _⟩ => ⟨S64, .f32⟩
  | .hbm, ⟨9, _⟩ => ⟨S1024x3072, .f32⟩
  | .hbm, ⟨10, _⟩ => ⟨S1024x512, .f32⟩
  | .hbm, ⟨11, _⟩ => ⟨S1024x512, .f32⟩
  | .hbm, ⟨12, _⟩ => ⟨S1024x512, .f32⟩
  | .hbm, ⟨13, _⟩ => ⟨S1024x512, .f32⟩
  | .hbm, ⟨14, _⟩ => ⟨S1024x16, .f32⟩
  | .hbm, ⟨15, _⟩ => ⟨S1024x256, .f32⟩
  | .hbm, ⟨16, _⟩ => ⟨S1024x128, .f32⟩
  | .hbm, ⟨17, _⟩ => ⟨S1024x32, .f32⟩
  | .hbm, ⟨18, _⟩ => ⟨S1024x512, .f32⟩
  | .hbm, ⟨19, _⟩ => ⟨S1024x128, .f32⟩
  | .hbm, ⟨20, _⟩ => ⟨S1024x128, .f32⟩
  | .hbm, ⟨21, _⟩ => ⟨S_, .i32⟩
  | .hbm, ⟨22, _⟩ => ⟨S_, .f32⟩
  | .hbm, ⟨23, _⟩ => ⟨S1024x128, .f32⟩
  | .hbm, ⟨24, _⟩ => ⟨S_, .i32⟩
  | .hbm, ⟨25, _⟩ => ⟨S_, .f32⟩
  | .hbm, ⟨26, _⟩ => ⟨S1024x128, .f32⟩
  | .hbm, ⟨27, _⟩ => ⟨S1024x6528, .f32⟩
  | .hbm, ⟨28, _⟩ => ⟨S1024x6528, .bf16⟩
  | .hbm, ⟨29, _⟩ => ⟨S1x16, .f32⟩
  | .hbm, ⟨30, _⟩ => ⟨S_, .i32⟩
  | .hbm, ⟨31, _⟩ => ⟨S_, .f32⟩
  | .hbm, ⟨32, _⟩ => ⟨S1x128, .f32⟩
  | .hbm, ⟨33, _⟩ => ⟨S1x1024, .f32⟩
  | .hbm, ⟨34, _⟩ => ⟨S1x256, .f32⟩
  | .hbm, ⟨35, _⟩ => ⟨S1x128, .f32⟩
  | .hbm, ⟨36, _⟩ => ⟨S256x8x96, .f32⟩
  | .hbm, ⟨37, _⟩ => ⟨S_, .f32⟩
  | .hbm, ⟨38, _⟩ => ⟨S256x8x32, .f32⟩
  | .hbm, ⟨39, _⟩ => ⟨S256x8x32, .f32⟩
  | .hbm, ⟨40, _⟩ => ⟨S256x8x64, .f32⟩
  | .hbm, ⟨41, _⟩ => ⟨S256x8x128, .f32⟩
  | .hbm, ⟨42, _⟩ => ⟨S256x1024, .f32⟩
  | .hbm, ⟨43, _⟩ => ⟨S256x1024, .bf16⟩
  | .hbm, ⟨44, _⟩ => ⟨S1x64, .f32⟩
  | .hbm, ⟨45, _⟩ => ⟨S2x64, .f32⟩
  | .hbm, ⟨46, _⟩ => ⟨S128, .f32⟩
  | .hbm, ⟨47, _⟩ => ⟨S1x128, .f32⟩
  | .hbm, ⟨48, _⟩ => ⟨S8192x3072, .f32⟩
  | .hbm, ⟨49, _⟩ => ⟨S8192x1536, .bf16⟩
  | .hbm, ⟨50, _⟩ => ⟨S8192x512, .f32⟩
  | .hbm, ⟨51, _⟩ => ⟨S8192x128, .f32⟩
  | .hbm, ⟨52, _⟩ => ⟨S8192x1024, .f32⟩
  | .hbm, ⟨53, _⟩ => ⟨S8192x128, .f32⟩
  | .hbm, ⟨54, _⟩ => ⟨S8192x128, .f32⟩
  | .hbm, ⟨55, _⟩ => ⟨S8192x512, .f32⟩
  | .hbm, ⟨56, _⟩ => ⟨S8192x128, .f32⟩
  | .hbm, ⟨57, _⟩ => ⟨S8192x128, .f32⟩
  | .local _ .vmem, ⟨0, _⟩ => ⟨S256x1024, .f32⟩
  | .local _ .vmem, ⟨1, _⟩ => ⟨S256x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1024x6528, .bf16⟩
  | .local _ .vmem, ⟨6, _⟩ => ⟨S1x128, .f32⟩
  | .local _ .vmem, ⟨7, _⟩ => ⟨S1x256, .f32⟩
  | .local _ .vmem, ⟨8, _⟩ => ⟨S256x1024, .bf16⟩
  | .local _ .vmem, ⟨9, _⟩ => ⟨S1x128, .f32⟩
  | .local _ .vmem, ⟨10, _⟩ => ⟨S1x128, .f32⟩
  | .local _ .vmem, ⟨11, _⟩ => ⟨S256x3072, .f32⟩
  | .local _ .vmem, ⟨12, _⟩ => ⟨S256x3072, .f32⟩
  | .local _ .vmem, ⟨13, _⟩ => ⟨S256x1536, .bf16⟩
  | .local _ .vmem, ⟨14, _⟩ => ⟨S256x1536, .bf16⟩
  | .local _ .vmem, ⟨15, _⟩ => ⟨S256x512, .f32⟩
  | .local _ .vmem, ⟨16, _⟩ => ⟨S256x512, .f32⟩
  | .local _ .vmem, ⟨17, _⟩ => ⟨S256x128, .f32⟩
  | .local _ .vmem, ⟨18, _⟩ => ⟨S256x128, .f32⟩
  | .local _ .vmem, ⟨19, _⟩ => ⟨S256x1024, .f32⟩
  | .local _ .vmem, ⟨20, _⟩ => ⟨S256x1024, .f32⟩
  | .local _ .vmem, ⟨21, _⟩ => ⟨S256x128, .f32⟩
  | .local _ .vmem, ⟨22, _⟩ => ⟨S256x128, .f32⟩
  | .local _ .vmem, ⟨23, _⟩ => ⟨S256x128, .f32⟩
  | .local _ .vmem, ⟨24, _⟩ => ⟨S256x128, .f32⟩
  | .local _ .vmem, ⟨25, _⟩ => ⟨S256x512, .f32⟩
  | .local _ .vmem, ⟨26, _⟩ => ⟨S256x512, .f32⟩
  | .local _ .vmem, ⟨27, _⟩ => ⟨S256x128, .f32⟩
  | .local _ .vmem, ⟨28, _⟩ => ⟨S256x128, .f32⟩
  | .local _ .vmem, ⟨29, _⟩ => ⟨S256x128, .f32⟩
  | .local _ .vmem, ⟨30, _⟩ => ⟨S256x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c : Ref sig .tc := ⟨.hbm, 21, rfl⟩
abbrev main_call0_v0 : Ref sig .tc := ⟨.hbm, 22, rfl⟩
abbrev main_v12 : Ref sig .tc := ⟨.hbm, 23, rfl⟩
abbrev main_c_0 : Ref sig .tc := ⟨.hbm, 24, rfl⟩
abbrev main_call1_v0 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_c_1 : Ref sig .tc := ⟨.hbm, 30, rfl⟩
abbrev main_call2_v0 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32_0 : Ref sig .tc := ⟨.hbm, 48, rfl⟩
abbrev main_v32_1 : Ref sig .tc := ⟨.hbm, 49, rfl⟩
abbrev main_v32_2 : Ref sig .tc := ⟨.hbm, 50, rfl⟩
abbrev main_v32_3 : Ref sig .tc := ⟨.hbm, 51, rfl⟩
abbrev main_v32_4 : Ref sig .tc := ⟨.hbm, 52, rfl⟩
abbrev main_v32_5 : Ref sig .tc := ⟨.hbm, 53, rfl⟩
abbrev main_v32_6 : Ref sig .tc := ⟨.hbm, 54, rfl⟩
abbrev main_v32_7 : Ref sig .tc := ⟨.hbm, 55, rfl⟩
abbrev main_v32_8 : Ref sig .tc := ⟨.hbm, 56, rfl⟩
abbrev main_v32_9 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg17_1 : Ref sig .tc := ⟨.vmem, 28, rfl⟩
abbrev cc0_stg18_0 : Ref sig .tc := ⟨.vmem, 29, rfl⟩
abbrev cc0_stg18_1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27
abbrev cc0_sem17_1 : DmaSem sig := 28
abbrev cc0_sem18_0 : DmaSem sig := 29
abbrev cc0_sem18_1 : DmaSem sig := 30

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c256_i32 : BitVec 32 := 256#32
  let v0 : BitVec 32 := Scalar.muli arg0 c256_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let v18 : BitVec 32 := Scalar.addi c0_i32_4 v17
  let c0_i32_5 : BitVec 32 := 0#32
  let c0_i32_6 : BitVec 32 := 0#32
  let c0_i32_7 : BitVec 32 := 0#32
  ![v18.toNat, c0_i32_5.toNat, c0_i32_6.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x6528 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x3072 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1536 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== InProjRefIdeal.lean ====
abbrev S8192x1024 : Shape := ⟨2, ![8192, 1024]⟩
abbrev S8x6x1024 : Shape := ⟨3, ![8, 6, 1024]⟩
abbrev S1024 : Shape := ⟨1, ![1024]⟩
abbrev S1024x6320 : Shape := ⟨2, ![1024, 6320]⟩
abbrev S16 : Shape := ⟨1, ![16]⟩
abbrev S256 : Shape := ⟨1, ![256]⟩
abbrev S256x768 : Shape := ⟨2, ![256, 768]⟩
abbrev S128 : Shape := ⟨1, ![128]⟩
abbrev S64 : Shape := ⟨1, ![64]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1x1x1024 : Shape := ⟨3, ![1, 1, 1024]⟩
abbrev S8192x6320 : Shape := ⟨2, ![8192, 6320]⟩
abbrev S8192x3072 : Shape := ⟨2, ![8192, 3072]⟩
abbrev S8192x512 : Shape := ⟨2, ![8192, 512]⟩
abbrev S8192x16 : Shape := ⟨2, ![8192, 16]⟩
abbrev S8192x256 : Shape := ⟨2, ![8192, 256]⟩
abbrev S8192x128 : Shape := ⟨2, ![8192, 128]⟩
abbrev S8192x32 : Shape := ⟨2, ![8192, 32]⟩
abbrev S8192x1536 : Shape := ⟨2, ![8192, 1536]⟩
abbrev S1x16 : Shape := ⟨2, ![1, 16]⟩
abbrev S1x256 : Shape := ⟨2, ![1, 256]⟩
abbrev S8192x768 : Shape := ⟨2, ![8192, 768]⟩
abbrev S8192x8x96 : Shape := ⟨3, ![8192, 8, 96]⟩
abbrev S8192x8x32 : Shape := ⟨3, ![8192, 8, 32]⟩
abbrev S8192x8x64 : Shape := ⟨3, ![8192, 8, 64]⟩
abbrev S8192x8x128 : Shape := ⟨3, ![8192, 8, 128]⟩
abbrev S1x128 : Shape := ⟨2, ![1, 128]⟩
abbrev S8192x2x64 : Shape := ⟨3, ![8192, 2, 64]⟩
abbrev S8192x2 : Shape := ⟨2, ![8192, 2]⟩
abbrev S8192x2x1 : Shape := ⟨3, ![8192, 2, 1]⟩
abbrev S1x1x64 : Shape := ⟨3, ![1, 1, 64]⟩

abbrev nBuf : Space → Nat
  | .hbm => 139
  | .vmem => 0
  | .smem => 0
  | _ => 0

abbrev hbmTy0_0 (i : Nat) : BufTy := match i % 128 with
  | 0 => ⟨S8192x1024, .f32⟩
  | 1 => ⟨S8x6x1024, .f32⟩
  | 2 => ⟨S1024, .f32⟩
  | 3 => ⟨S1024x6320, .f32⟩
  | 4 => ⟨S16, .f32⟩
  | 5 => ⟨S256, .f32⟩
  | 6 => ⟨S256x768, .f32⟩
  | 7 => ⟨S128, .f32⟩
  | 8 => ⟨S64, .f32⟩
  | 9 => ⟨S8192x1024, .f32⟩
  | 10 => ⟨S_, .f32⟩
  | 11 => ⟨S8192, .f32⟩
  | 12 => ⟨S8192x1, .f32⟩
  | 13 => ⟨S_, .f32⟩
  | 14 => ⟨S8192x1, .f32⟩
  | 15 => ⟨S8192x1, .f32⟩
  | 16 => ⟨S_, .f32⟩
  | 17 => ⟨S8192x1, .f32⟩
  | 18 => ⟨S8192x1, .f32⟩
  | 19 => ⟨S8192x1, .f32⟩
  | 20 => ⟨S8192x1024, .f32⟩
  | 21 => ⟨S8192x1024, .f32⟩
  | 22 => ⟨S1x1024, .f32⟩
  | 23 => ⟨S8192x1024, .f32⟩
  | 24 => ⟨S8192x1024, .f32⟩
  | 25 => ⟨S1x1x1024, .f32⟩
  | 26 => ⟨S1024, .f32⟩
  | 27 => ⟨S_, .f32⟩
  | 28 => ⟨S1024, .f32⟩
  | 29 => ⟨S1024, .f32⟩
  | 30 => ⟨S1x1024, .f32⟩
  | 31 => ⟨S8192x1024, .f32⟩
  | 32 => ⟨S8192x1024, .f32⟩
  | 33 => ⟨S1x1x1024, .f32⟩
  | 34 => ⟨S1024, .f32⟩
  | 35 => ⟨S1x1024, .f32⟩
  | 36 => ⟨S8192x1024, .f32⟩
  | 37 => ⟨S8192x1024, .f32⟩
  | 38 => ⟨S8192x6320, .f32⟩
  | 39 => ⟨S8192x3072, .f32⟩
  | 40 => ⟨S8192x512, .f32⟩
  | 41 => ⟨S8192x512, .f32⟩
  | 42 => ⟨S8192x512, .f32⟩
  | 43 => ⟨S8192x512, .f32⟩
  | 44 => ⟨S8192x16, .f32⟩
  | 45 => ⟨S8192x256, .f32⟩
  | 46 => ⟨S8192x128, .f32⟩
  | 47 => ⟨S8192x32, .f32⟩
  | 48 => ⟨S8192x512, .f32⟩
  | 49 => ⟨S8192x128, .f32⟩
  | 50 => ⟨S8192x128, .f32⟩
  | 51 => ⟨S8192x3072, .f32⟩
  | 52 => ⟨S8192x3072, .f32⟩
  | 53 => ⟨S_, .f32⟩
  | 54 => ⟨S8192x3072, .f32⟩
  | 55 => ⟨S8192x3072, .f32⟩
  | 56 => ⟨S_, .f32⟩
  | 57 => ⟨S8192x3072, .f32⟩
  | 58 => ⟨S8192x3072, .f32⟩
  | 59 => ⟨S_, .f32⟩
  | 60 => ⟨S8192x512, .f32⟩
  | 61 => ⟨S8192x512, .f32⟩
  | 62 => ⟨S8192x1536, .f32⟩
  | 63 => ⟨S8192x1536, .bf16⟩
  | 64 => ⟨S8192x512, .f32⟩
  | 65 => ⟨S8192x512, .f32⟩
  | 66 => ⟨S_, .f32⟩
  | 67 => ⟨S8192x512, .f32⟩
  | 68 => ⟨S8192x512, .f32⟩
  | 69 => ⟨S_, .f32⟩
  | 70 => ⟨S8192x512, .f32⟩
  | 71 => ⟨S8192x512, .f32⟩
  | 72 => ⟨S1x16, .f32⟩
  | 73 => ⟨S8192x16, .f32⟩
  | 74 => ⟨S8192x16, .f32⟩
  | 75 => ⟨S_, .i32⟩
  | 76 => ⟨S_, .f32⟩
  | 77 => ⟨S8192x128, .f32⟩
  | 78 => ⟨S8192x256, .f32⟩
  | 79 => ⟨S_, .f32⟩
  | 80 => ⟨S8192, .f32⟩
  | 81 => ⟨S8192x1, .f32⟩
  | 82 => ⟨S_, .f32⟩
  | 83 => ⟨S8192x1, .f32⟩
  | 84 => ⟨S8192x1, .f32⟩
  | 85 => ⟨S_, .f32⟩
  | 86 => ⟨S8192x1, .f32⟩
  | 87 => ⟨S8192x1, .f32⟩
  | 88 => ⟨S8192x1, .f32⟩
  | 89 => ⟨S8192x256, .f32⟩
  | 90 => ⟨S8192x256, .f32⟩
  | 91 => ⟨S1x256, .f32⟩
  | 92 => ⟨S8192x256, .f32⟩
  | 93 => ⟨S8192x256, .f32⟩
  | 94 => ⟨S8192x768, .f32⟩
  | 95 => ⟨S8192x8x96, .f32⟩
  | 96 => ⟨S8192x8x32, .f32⟩
  | 97 => ⟨S_, .f32⟩
  | 98 => ⟨S8192x8x32, .f32⟩
  | 99 => ⟨S8192x8x64, .f32⟩
  | 100 => ⟨S8192x8x128, .f32⟩
  | 101 => ⟨S8192x1024, .f32⟩
  | 102 => ⟨S8192x128, .f32⟩
  | 103 => ⟨S_, .f32⟩
  | 104 => ⟨S8192, .f32⟩
  | 105 => ⟨S8192x1, .f32⟩
  | 106 => ⟨S_, .f32⟩
  | 107 => ⟨S8192x1, .f32⟩
  | 108 => ⟨S8192x1, .f32⟩
  | 109 => ⟨S_, .f32⟩
  | 110 => ⟨S8192x1, .f32⟩
  | 111 => ⟨S8192x1, .f32⟩
  | 112 => ⟨S8192x1, .f32⟩
  | 113 => ⟨S8192x128, .f32⟩
  | 114 => ⟨S8192x128, .f32⟩
  | 115 => ⟨S1x128, .f32⟩
  | 116 => ⟨S8192x128, .f32⟩
  | 117 => ⟨S8192x128, .f32⟩
  | 118 => ⟨S_, .i32⟩
  | 119 => ⟨S_, .f32⟩
  | 120 => ⟨S8192x128, .f32⟩
  | 121 => ⟨S8192x2x64, .f32⟩
  | 122 => ⟨S8192x2x64, .f32⟩
  | 123 => ⟨S_, .f32⟩
  | 124 => ⟨S8192x2, .f32⟩
  | 125 => ⟨S8192x2x1, .f32⟩
  | 126 => ⟨S_, .f32⟩
  | 127 => ⟨S8192x2x1, .f32⟩
  | _ => ⟨S8192x1024, .f32⟩

abbrev hbmTy0_1 (i : Nat) : BufTy := match i % 128 with
  | 0 => ⟨S8192x2x1, .f32⟩
  | 1 => ⟨S_, .f32⟩
  | 2 => ⟨S8192x2x1, .f32⟩
  | 3 => ⟨S8192x2x1, .f32⟩
  | 4 => ⟨S8192x2x1, .f32⟩
  | 5 => ⟨S8192x2x64, .f32⟩
  | 6 => ⟨S8192x2x64, .f32⟩
  | 7 => ⟨S1x1x64, .f32⟩
  | 8 => ⟨S8192x2x64, .f32⟩
  | 9 => ⟨S8192x2x64, .f32⟩
  | 10 => ⟨S8192x128, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_3 : Ref sig .tc := ⟨.hbm, 53, rfl⟩
abbrev main_v40 : Ref sig .tc := ⟨.hbm, 54, rfl⟩
abbrev main_v41 : Ref sig .tc := ⟨.hbm, 55, rfl⟩
abbrev main_cst_4 : Ref sig .tc := ⟨.hbm, 56, rfl⟩
abbrev main_v42 : Ref sig .tc := ⟨.hbm, 57, rfl⟩
abbrev main_v43 : Ref sig .tc := ⟨.hbm, 58, rfl⟩
abbrev main_cst_5 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_cst_6 : Ref sig .tc := ⟨.hbm, 66, rfl⟩
abbrev main_v50 : Ref sig .tc := ⟨.hbm, 67, rfl⟩
abbrev main_v51 : Ref sig .tc := ⟨.hbm, 68, rfl⟩
abbrev main_cst_7 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_c : Ref sig .tc := ⟨.hbm, 75, rfl⟩
abbrev main_call0_v0 : Ref sig .tc := ⟨.hbm, 76, rfl⟩
abbrev main_v57 : Ref sig .tc := ⟨.hbm, 77, rfl⟩
abbrev main_v58 : Ref sig .tc := ⟨.hbm, 78, rfl⟩
abbrev main_cst_8 : Ref sig .tc := ⟨.hbm, 79, rfl⟩
abbrev main_v59 : Ref sig .tc := ⟨.hbm, 80, rfl⟩
abbrev main_v60 : Ref sig .tc := ⟨.hbm, 81, rfl⟩
abbrev main_cst_9 : Ref sig .tc := ⟨.hbm, 82, rfl⟩
abbrev main_v61 : Ref sig .tc := ⟨.hbm, 83, rfl⟩
abbrev main_v62 : Ref sig .tc := ⟨.hbm, 84, rfl⟩
abbrev main_cst_10 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_cst_11 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_cst_12 : Ref sig .tc := ⟨.hbm, 103, rfl⟩
abbrev main_v79 : Ref sig .tc := ⟨.hbm, 104, rfl⟩
abbrev main_v80 : Ref sig .tc := ⟨.hbm, 105, rfl⟩
abbrev main_cst_13 : Ref sig .tc := ⟨.hbm, 106, rfl⟩
abbrev main_v81 : Ref sig .tc := ⟨.hbm, 107, rfl⟩
abbrev main_v82 : Ref sig .tc := ⟨.hbm, 108, rfl⟩
abbrev main_cst_14 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_c_15 : Ref sig .tc := ⟨.hbm, 118, rfl⟩
abbrev main_call1_v0 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_cst_16 : Ref sig .tc := ⟨.hbm, 123, rfl⟩
abbrev main_v94 : Ref sig .tc := ⟨.hbm, 124, rfl⟩
abbrev main_v95 : Ref sig .tc := ⟨.hbm, 125, rfl⟩
abbrev main_cst_17 : Ref sig .tc := ⟨.hbm, 126, rfl⟩
abbrev main_v96 : Ref sig .tc := ⟨.hbm, 127, rfl⟩
abbrev main_v97 : Ref sig .tc := ⟨.hbm, 128, rfl⟩
abbrev main_cst_18 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩

abbrev nD : Nat := 1
abbrev τ : Topo := Topo.v7x

variable {F : FTy → Type} [FloatOps F]
-- ==== Gqa.lean ====
abbrev S8192x512 : Shape := ⟨2, ![8192, 512]⟩
abbrev S8192x128 : Shape := ⟨2, ![8192, 128]⟩
abbrev S64 : Shape := ⟨1, ![64]⟩
abbrev S1x64 : Shape := ⟨2, ![1, 64]⟩
abbrev S4x64 : Shape := ⟨2, ![4, 64]⟩
abbrev S256 : Shape := ⟨1, ![256]⟩
abbrev S1x256 : Shape := ⟨2, ![1, 256]⟩
abbrev S256x256 : Shape := ⟨2, ![256, 256]⟩
abbrev S256x128 : Shape := ⟨2, ![256, 128]⟩
abbrev S256x1 : Shape := ⟨2, ![256, 1]⟩

abbrev nBuf : Space → Nat
  | .hbm => 9
  | .vmem => 11
  | .smem => 0
  | _ => 0

abbrev bufTy : (tb : Table) → Fin (tcTables nBuf tb) → BufTy
  | .hbm, ⟨0, _⟩ => ⟨S8192x512, .f32⟩
  | .hbm, ⟨1, _⟩ => ⟨S8192x128, .f32⟩
  | .hbm, ⟨2, _⟩ => ⟨S8192x128, .f32⟩
  | .hbm, ⟨3, _⟩ => ⟨S64, .f32⟩
  | .hbm, ⟨4, _⟩ => ⟨S1x64, .f32⟩
  | .hbm, ⟨5, _⟩ => ⟨S4x64, .f32⟩
  | .hbm, ⟨6, _⟩ => ⟨S256, .f32⟩
  | .hbm, ⟨7, _⟩ => ⟨S1x256, .f32⟩
  | .hbm, ⟨8, _⟩ => ⟨S8192x512, .f32⟩
  | .local _ .vmem, ⟨0, _⟩ => ⟨S256x256, .f32⟩
  | .local _ .vmem, ⟨1, _⟩ => ⟨S256x256, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S1x256, .f32⟩
  | .local _ .vmem, ⟨7, _⟩ => ⟨S256x256, .f32⟩
  | .local _ .vmem, ⟨8, _⟩ => ⟨S256x256, .f32⟩
  | .local _ .vmem, ⟨9, _⟩ => ⟨S256x256, .bf16⟩
  | .local _ .vmem, ⟨10, _⟩ => ⟨S256x128, .bf16⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![32, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![v1.toNat, arg1.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== GqaRefIdeal.lean ====
abbrev S8192x512 : Shape := ⟨2, ![8192, 512]⟩
abbrev S8192x128 : Shape := ⟨2, ![8192, 128]⟩
abbrev S64 : Shape := ⟨1, ![64]⟩
abbrev S32x256x8x64 : Shape := ⟨4, ![32, 256, 8, 64]⟩
abbrev S_ : Shape := ⟨0, ![]⟩
abbrev S32x256x8 : Shape := ⟨3, ![32, 256, 8]⟩
abbrev S32x256x8x1 : Shape := ⟨4, ![32, 256, 8, 1]⟩
abbrev S1x1x1x64 : Shape := ⟨4, ![1, 1, 1, 64]⟩
abbrev S32x256x2x4x64 : Shape := ⟨5, ![32, 256, 2, 4, 64]⟩
abbrev S32x256x2x64 : Shape := ⟨4, ![32, 256, 2, 64]⟩
abbrev S32x2x256x256x4 : Shape := ⟨5, ![32, 2, 256, 256, 4]⟩
abbrev S32x2x4x256x256 : Shape := ⟨5, ![32, 2, 4, 256, 256]⟩
abbrev S32x2x4x256 : Shape := ⟨4, ![32, 2, 4, 256]⟩
abbrev S32x2x4x256x1 : Shape := ⟨5, ![32, 2, 4, 256, 1]⟩
abbrev S32x2x64x4x256 : Shape := ⟨5, ![32, 2, 64, 4, 256]⟩

abbrev nBuf : Space → Nat
  | .hbm => 46
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x128, .f32⟩
  | .hbm, ⟨2, _⟩ => ⟨S8192x128, .f32⟩
  | .hbm, ⟨3, _⟩ => ⟨S64, .f32⟩
  | .hbm, ⟨4, _⟩ => ⟨S32x256x8x64, .f32⟩
  | .hbm, ⟨5, _⟩ => ⟨S32x256x8x64, .f32⟩
  | .hbm, ⟨6, _⟩ => ⟨S_, .f32⟩
  | .hbm, ⟨7, _⟩ => ⟨S32x256x8, .f32⟩
  | .hbm, ⟨8, _⟩ => ⟨S32x256x8x1, .f32⟩
  | .hbm, ⟨9, _⟩ => ⟨S_, .f32⟩
  | .hbm, ⟨10, _⟩ => ⟨S32x256x8x1, .f32⟩
  | .hbm, ⟨11, _⟩ => ⟨S32x256x8x1, .f32⟩
  | .hbm, ⟨12, _⟩ => ⟨S_, .f32⟩
  | .hbm, ⟨13, _⟩ => ⟨S32x256x8x1, .f32⟩
  | .hbm, ⟨14, _⟩ => ⟨S32x256x8x1, .f32⟩
  | .hbm, ⟨15, _⟩ => ⟨S32x256x8x1, .f32⟩
  | .hbm, ⟨16, _⟩ => ⟨S32x256x8x64, .f32⟩
  | .hbm, ⟨17, _⟩ => ⟨S32x256x8x64, .f32⟩
  | .hbm, ⟨18, _⟩ => ⟨S1x1x1x64, .f32⟩
  | .hbm, ⟨19, _⟩ => ⟨S32x256x8x64, .f32⟩
  | .hbm, ⟨20, _⟩ => ⟨S32x256x8x64, .f32⟩
  | .hbm, ⟨21, _⟩ => ⟨S32x256x2x4x64, .f32⟩
  | .hbm, ⟨22, _⟩ => ⟨S32x256x2x64, .f32⟩
  | .hbm, ⟨23, _⟩ => ⟨S32x256x2x64, .f32⟩
  | .hbm, ⟨24, _⟩ => ⟨S32x2x256x256x4, .f32⟩
  | .hbm, ⟨25, _⟩ => ⟨S32x2x4x256x256, .f32⟩
  | .hbm, ⟨26, _⟩ => ⟨S_, .f32⟩
  | .hbm, ⟨27, _⟩ => ⟨S32x2x4x256x256, .f32⟩
  | .hbm, ⟨28, _⟩ => ⟨S32x2x4x256x256, .f32⟩
  | .hbm, ⟨29, _⟩ => ⟨S_, .f32⟩
  | .hbm, ⟨30, _⟩ => ⟨S32x2x4x256, .f32⟩
  | .hbm, ⟨31, _⟩ => ⟨S_, .f32⟩
  | .hbm, ⟨32, _⟩ => ⟨S32x2x4x256, .f32⟩
  | .hbm, ⟨33, _⟩ => ⟨S32x2x4x256, .f32⟩
  | .hbm, ⟨34, _⟩ => ⟨S32x2x4x256x1, .f32⟩
  | .hbm, ⟨35, _⟩ => ⟨S32x2x4x256x256, .f32⟩
  | .hbm, ⟨36, _⟩ => ⟨S32x2x4x256x256, .f32⟩
  | .hbm, ⟨37, _⟩ => ⟨S32x2x4x256x256, .f32⟩
  | .hbm, ⟨38, _⟩ => ⟨S_, .f32⟩
  | .hbm, ⟨39, _⟩ => ⟨S32x2x4x256, .f32⟩
  | .hbm, ⟨40, _⟩ => ⟨S32x2x4x256x1, .f32⟩
  | .hbm, ⟨41, _⟩ => ⟨S32x2x4x256x256, .f32⟩
  | .hbm, ⟨42, _⟩ => ⟨S32x2x4x256x256, .f32⟩
  | .hbm, ⟨43, _⟩ => ⟨S32x2x64x4x256, .f32⟩
  | .hbm, ⟨44, _⟩ => ⟨S32x256x2x4x64, .f32⟩
  | .hbm, ⟨45, _⟩ => ⟨S8192x512, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_5 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩

abbrev nD : Nat := 1
abbrev τ : Topo := Topo.v7x

variable {F : FTy → Type} [FloatOps F]
-- ==== FfnSample.lean ====
abbrev S8192x1024 : Shape := ⟨2, ![8192, 1024]⟩
abbrev S8192x512 : Shape := ⟨2, ![8192, 512]⟩
abbrev S8192x3072 : Shape := ⟨2, ![8192, 3072]⟩
abbrev S8x6x1024 : Shape := ⟨3, ![8, 6, 1024]⟩
abbrev S3x512x1024 : Shape := ⟨3, ![3, 512, 1024]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S256x1024 : Shape := ⟨2, ![256, 1024]⟩
abbrev S256x512 : Shape := ⟨2, ![256, 512]⟩
abbrev S256x3072 : Shape := ⟨2, ![256, 3072]⟩
abbrev S1x6x1024 : Shape := ⟨3, ![1, 6, 1024]⟩
abbrev S1x512x1024 : Shape := ⟨3, ![1, 512, 1024]⟩
abbrev S512x1024 : Shape := ⟨2, ![512, 1024]⟩
abbrev S1x1x1024 : Shape := ⟨3, ![1, 1, 1024]⟩
abbrev S256 : Shape := ⟨1, ![256]⟩
abbrev S256x1 : Shape := ⟨2, ![256, 1]⟩
abbrev S1024x1408 : Shape := ⟨2, ![1024, 1408]⟩
abbrev S256x1408 : Shape := ⟨2, ![256, 1408]⟩
abbrev S1408x1024 : Shape := ⟨2, ![1408, 1024]⟩

abbrev nBuf : Space → Nat
  | .hbm => 17
  | .vmem => 19
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S8192x512, .f32⟩
  | .hbm, ⟨3, _⟩ => ⟨S8192x512, .f32⟩
  | .hbm, ⟨4, _⟩ => ⟨S8192x3072, .f32⟩
  | .hbm, ⟨5, _⟩ => ⟨S8x6x1024, .f32⟩
  | .hbm, ⟨6, _⟩ => ⟨S3x512x1024, .f32⟩
  | .hbm, ⟨7, _⟩ => ⟨S1024x1024, .f32⟩
  | .hbm, ⟨8, _⟩ => ⟨S1024, .f32⟩
  | .hbm, ⟨9, _⟩ => ⟨S1024x5632, .f32⟩
  | .hbm, ⟨10, _⟩ => ⟨S2816x1024, .f32⟩
  | .hbm, ⟨11, _⟩ => ⟨S3x512x1024, .bf16⟩
  | .hbm, ⟨12, _⟩ => ⟨S1024x1024, .bf16⟩
  | .hbm, ⟨13, _⟩ => ⟨S1x1024, .f32⟩
  | .hbm, ⟨14, _⟩ => ⟨S1024x5632, .bf16⟩
  | .hbm, ⟨15, _⟩ => ⟨S2816x1024, .bf16⟩
  | .hbm, ⟨16, _⟩ => ⟨S8192x1024, .f32⟩
  | .local _ .vmem, ⟨0, _⟩ => ⟨S256x1024, .f32⟩
  | .local _ .vmem, ⟨1, _⟩ => ⟨S256x1024, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x3072, .f32⟩
  | .local _ .vmem, ⟨9, _⟩ => ⟨S256x3072, .f32⟩
  | .local _ .vmem, ⟨10, _⟩ => ⟨S1x6x1024, .f32⟩
  | .local _ .vmem, ⟨11, _⟩ => ⟨S1x6x1024, .f32⟩
  | .local _ .vmem, ⟨12, _⟩ => ⟨S1x1024, .f32⟩
  | .local _ .vmem, ⟨13, _⟩ => ⟨S3x512x1024, .bf16⟩
  | .local _ .vmem, ⟨14, _⟩ => ⟨S1024x1024, .bf16⟩
  | .local _ .vmem, ⟨15, _⟩ => ⟨S1024x5632, .bf16⟩
  | .local _ .vmem, ⟨16, _⟩ => ⟨S2816x1024, .bf16⟩
  | .local _ .vmem, ⟨17, _⟩ => ⟨S256x1024, .f32⟩
  | .local _ .vmem, ⟨18, _⟩ => ⟨S256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c256_i32 : BitVec 32 := 256#32
  let v0 : BitVec 32 := Scalar.muli arg0 c256_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi c1_i32_4 v17
  let c0_i32_5 : BitVec 32 := 0#32
  let c0_i32_6 : BitVec 32 := 0#32
  let c0_i32_7 : BitVec 32 := 0#32
  ![v18.toNat, c0_i32_5.toNat, c0_i32_6.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x3072 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x6x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S3x512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x5632 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2816x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== FfnSampleRefIdeal.lean ====
abbrev S8192x1024 : Shape := ⟨2, ![8192, 1024]⟩
abbrev S8192x512 : Shape := ⟨2, ![8192, 512]⟩
abbrev S8192x3072 : Shape := ⟨2, ![8192, 3072]⟩
abbrev S8x6x1024 : Shape := ⟨3, ![8, 6, 1024]⟩
abbrev S3x512x1024 : Shape := ⟨3, ![3, 512, 1024]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S4x6x1024 : Shape := ⟨3, ![4, 6, 1024]⟩
abbrev S4x2048x6x1024 : Shape := ⟨4, ![4, 2048, 6, 1024]⟩
abbrev S8192x6x1024 : Shape := ⟨3, ![8192, 6, 1024]⟩
abbrev S8192x1x1024 : Shape := ⟨3, ![8192, 1, 1024]⟩
abbrev S8192x1x512 : Shape := ⟨3, ![8192, 1, 512]⟩
abbrev S8192x3x512 : Shape := ⟨3, ![8192, 3, 512]⟩
abbrev S3x1024x8192 : Shape := ⟨3, ![3, 1024, 8192]⟩
abbrev S8192x3x1024 : Shape := ⟨3, ![8192, 3, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x5632 : Shape := ⟨2, ![8192, 5632]⟩
abbrev S8192x2816 : Shape := ⟨2, ![8192, 2816]⟩

abbrev nBuf : Space → Nat
  | .hbm => 70
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S8192x512, .f32⟩
  | .hbm, ⟨3, _⟩ => ⟨S8192x512, .f32⟩
  | .hbm, ⟨4, _⟩ => ⟨S8192x3072, .f32⟩
  | .hbm, ⟨5, _⟩ => ⟨S8x6x1024, .f32⟩
  | .hbm, ⟨6, _⟩ => ⟨S3x512x1024, .f32⟩
  | .hbm, ⟨7, _⟩ => ⟨S1024x1024, .f32⟩
  | .hbm, ⟨8, _⟩ => ⟨S1024, .f32⟩
  | .hbm, ⟨9, _⟩ => ⟨S1024x5632, .f32⟩
  | .hbm, ⟨10, _⟩ => ⟨S2816x1024, .f32⟩
  | .hbm, ⟨11, _⟩ => ⟨S4x6x1024, .f32⟩
  | .hbm, ⟨12, _⟩ => ⟨S4x2048x6x1024, .f32⟩
  | .hbm, ⟨13, _⟩ => ⟨S8192x6x1024, .f32⟩
  | .hbm, ⟨14, _⟩ => ⟨S8192x1x1024, .f32⟩
  | .hbm, ⟨15, _⟩ => ⟨S8192x1024, .f32⟩
  | .hbm, ⟨16, _⟩ => ⟨S8192x1x1024, .f32⟩
  | .hbm, ⟨17, _⟩ => ⟨S8192x1024, .f32⟩
  | .hbm, ⟨18, _⟩ => ⟨S8192x1x1024, .f32⟩
  | .hbm, ⟨19, _⟩ => ⟨S8192x1024, .f32⟩
  | .hbm, ⟨20, _⟩ => ⟨S8192x1x1024, .f32⟩
  | .hbm, ⟨21, _⟩ => ⟨S8192x1024, .f32⟩
  | .hbm, ⟨22, _⟩ => ⟨S8192x1x512, .f32⟩
  | .hbm, ⟨23, _⟩ => ⟨S8192x1x512, .f32⟩
  | .hbm, ⟨24, _⟩ => ⟨S8192x1x512, .f32⟩
  | .hbm, ⟨25, _⟩ => ⟨S8192x3x512, .f32⟩
  | .hbm, ⟨26, _⟩ => ⟨S3x1024x8192, .f32⟩
  | .hbm, ⟨27, _⟩ => ⟨S8192x3x1024, .f32⟩
  | .hbm, ⟨28, _⟩ => ⟨S8192x3x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S8192, .f32⟩
  | .hbm, ⟨36, _⟩ => ⟨S8192x1, .f32⟩
  | .hbm, ⟨37, _⟩ => ⟨S_, .f32⟩
  | .hbm, ⟨38, _⟩ => ⟨S8192x1, .f32⟩
  | .hbm, ⟨39, _⟩ => ⟨S8192x1, .f32⟩
  | .hbm, ⟨40, _⟩ => ⟨S_, .f32⟩
  | .hbm, ⟨41, _⟩ => ⟨S8192x1, .f32⟩
  | .hbm, ⟨42, _⟩ => ⟨S8192x1, .f32⟩
  | .hbm, ⟨43, _⟩ => ⟨S8192x1, .f32⟩
  | .hbm, ⟨44, _⟩ => ⟨S8192x1024, .f32⟩
  | .hbm, ⟨45, _⟩ => ⟨S8192x1024, .f32⟩
  | .hbm, ⟨46, _⟩ => ⟨S1x1024, .f32⟩
  | .hbm, ⟨47, _⟩ => ⟨S8192x1024, .f32⟩
  | .hbm, ⟨48, _⟩ => ⟨S8192x1024, .f32⟩
  | .hbm, ⟨49, _⟩ => ⟨S_, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x5632, .f32⟩
  | .hbm, ⟨55, _⟩ => ⟨S8192x2816, .f32⟩
  | .hbm, ⟨56, _⟩ => ⟨S8192x2816, .f32⟩
  | .hbm, ⟨57, _⟩ => ⟨S8192x2816, .f32⟩
  | .hbm, ⟨58, _⟩ => ⟨S8192x2816, .f32⟩
  | .hbm, ⟨59, _⟩ => ⟨S_, .f32⟩
  | .hbm, ⟨60, _⟩ => ⟨S8192x2816, .f32⟩
  | .hbm, ⟨61, _⟩ => ⟨S8192x2816, .f32⟩
  | .hbm, ⟨62, _⟩ => ⟨S_, .f32⟩
  | .hbm, ⟨63, _⟩ => ⟨S8192x2816, .f32⟩
  | .hbm, ⟨64, _⟩ => ⟨S8192x2816, .f32⟩
  | .hbm, ⟨65, _⟩ => ⟨S8192x2816, .f32⟩
  | .hbm, ⟨66, _⟩ => ⟨S8192x2816, .f32⟩
  | .hbm, ⟨67, _⟩ => ⟨S8192x1024, .f32⟩
  | .hbm, ⟨68, _⟩ => ⟨S8192x1024, .f32⟩
  | .hbm, ⟨69, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst : Ref sig .tc := ⟨.hbm, 34, rfl⟩
abbrev main_v23 : Ref sig .tc := ⟨.hbm, 35, rfl⟩
abbrev main_v24 : Ref sig .tc := ⟨.hbm, 36, rfl⟩
abbrev main_cst_0 : Ref sig .tc := ⟨.hbm, 37, rfl⟩
abbrev main_v25 : Ref sig .tc := ⟨.hbm, 38, rfl⟩
abbrev main_v26 : Ref sig .tc := ⟨.hbm, 39, rfl⟩
abbrev main_cst_1 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_2 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_call0_v0 : Ref sig .tc := ⟨.hbm, 57, rfl⟩
abbrev main_call0_v1 : Ref sig .tc := ⟨.hbm, 58, rfl⟩
abbrev main_call0_cst : Ref sig .tc := ⟨.hbm, 59, rfl⟩
abbrev main_call0_v2 : Ref sig .tc := ⟨.hbm, 60, rfl⟩
abbrev main_call0_v3 : Ref sig .tc := ⟨.hbm, 61, rfl⟩
abbrev main_call0_cst_0 : Ref sig .tc := ⟨.hbm, 62, rfl⟩
abbrev main_call0_v4 : Ref sig .tc := ⟨.hbm, 63, rfl⟩
abbrev main_call0_v5 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩

abbrev nD : Nat := 1
abbrev τ : Topo := Topo.v7x

variable {F : FTy → Type} [FloatOps F]
-- ==== Proof.FfnSpec.lean ====
module

public import Idealize.ShloMosaic.Lib.Pointwise

/-! The merge of the three branches and the feed-forward block of one token, as plain functions on the extended reals.
    Kernel and reference are each shown to compute these. -/

@[expose] public section

set_option maxRecDepth 16384

noncomputable section

namespace Cert.FfnSpec

open Idealize.ShloMosaic

/-- The token's three branch outputs, each taken through its matrix, gated and summed. -/
def mixed (ym ya yg : Fin 512 → EReal) (g : Fin 3072 → EReal) (wb : Fin 3 → Fin 512 → Fin 1024 → EReal) (e : Fin 1024) : EReal :=
  (∑ k, ym k * wb 0 k e) * g ⟨e.val, by omega⟩ + (∑ k, ya k * wb 1 k e) * g ⟨1024 + e.val, by omega⟩
    + (∑ k, yg k * wb 2 k e) * g ⟨2048 + e.val, by omega⟩

/-- The token plus its gated mixer output. -/
def resid (x gt1 mx : Fin 1024 → EReal) (wo : Fin 1024 → Fin 1024 → EReal) (d : Fin 1024) : EReal :=
  x d + gt1 d * ∑ e, mx e * wo e d

/-- The rms norm of the token with its gain, scaled and shifted by the modulation. -/
def normed (z g sc sh : Fin 1024 → EReal) (e : Fin 1024) : EReal :=
  z e * Ideal.rsqrt ((∑ i, z i * z i) * Ideal.ofBits .f32 0x3A800000#32 + Ideal.ofBits .f32 0x358637BD#32) * g e * (1 + sc e) + sh e

/-- One hidden unit: the silu of its gate times its value. -/
def hidden (h : Fin 1024 → EReal) (wi : Fin 1024 → Fin 5632 → EReal) (f : Fin 2816) : EReal :=
  (∑ e, h e * wi e ⟨f.val, by omega⟩) * Ideal.div 1 (1 + Ideal.exp (-(∑ e, h e * wi e ⟨f.val, by omega⟩)))
    * ∑ e, h e * wi e ⟨2816 + f.val, by omega⟩

/-- The token after the feed-forward block. -/
def out (z gt2 : Fin 1024 → EReal) (hid : Fin 2816 → EReal) (w : Fin 2816 → Fin 1024 → EReal) (d : Fin 1024) : EReal :=
  z d + gt2 d * ∑ f, hid f * w f d

/-- The whole block for one token. -/
def row (x : Fin 1024 → EReal) (ym ya yg : Fin 512 → EReal) (g : Fin 3072 → EReal) (gt1 sh sc gt2 : Fin 1024 → EReal)
    (wb : Fin 3 → Fin 512 → Fin 1024 → EReal) (wo : Fin 1024 → Fin 1024 → EReal) (gain : Fin 1024 → EReal)
    (wi : Fin 1024 → Fin 5632 → EReal) (w : Fin 2816 → Fin 1024 → EReal) (d : Fin 1024) : EReal :=
  out (resid x gt1 (mixed ym ya yg g wb) wo) gt2 (hidden (normed (resid x gt1 (mixed ym ya yg g wb) wo) gain sc sh) wi) w d

/-- The sum over the hidden units in two halves. -/
theorem out_halves (z gt2 : Fin 1024 → EReal) (hid : Fin 2816 → EReal) (w : Fin 2816 → Fin 1024 → EReal) (d : Fin 1024) :
    out z gt2 hid w d = z d + gt2 d * ((∑ f : Fin 1408, hid ⟨f.val, by omega⟩ * w ⟨f.val, by omega⟩ d)
      + ∑ f : Fin 1408, hid ⟨1408 + f.val, by omega⟩ * w ⟨1408 + f.val, by omega⟩ d) := by
  rw [out, Fin.sum_univ_two_halves 1408 1408 rfl]

/-- The pattern of 2^-10 is 1/1024. -/
theorem ofBits_inv1024 : Ideal.ofBits .f32 0x3A800000#32 = ((1 / 1024 : ℝ) : EReal) := by
  simp [Ideal.ofBits, Ideal.ieee, -EReal.coe_mul]; norm_num

/-- The pattern of 1024.0 is 1024. -/
theorem ofBits_1024 : Ideal.ofBits .f32 0x44800000#32 = ((1024 : ℝ) : EReal) := by
  simp [Ideal.ofBits, Ideal.ieee, -EReal.coe_mul]; norm_num

/-- Dividing by 1024 is multiplying by 2^-10. -/
theorem div_1024 (x : EReal) : Ideal.div x (Ideal.ofBits .f32 0x44800000#32) = x * Ideal.ofBits .f32 0x3A800000#32 := by
  rw [ofBits_1024, Ideal.div_coe (by norm_num), ofBits_inv1024]

end Cert.FfnSpec

end
-- ==== Proof.FfnKernel.lean ====
module

public import proofs.«01_k».proof.Proof.Gen.FfnIdeal.Frame
public import proofs.«01_k».proof.Proof.FfnSpec
public import Idealize.ShloMosaic.Lib.Pipeline.ValueKit

/-! What one grid point of the kernel writes for one token, in the terms of `FfnSpec`. -/

@[expose] public section

set_option maxRecDepth 16384

noncomputable section

namespace Cert.FfnKernel

open Cert.FfnIdeal Cert.FfnIdeal.Gen Idealize.ShloMosaic Idealize.ShloMosaic.TcCoe Idealize.SL.Sem
open Idealize.ShloMosaic.Pipeline (Dat)

/-- The gated sum of the branches, from the loaded pieces. -/
theorem pay2_at (v1 : FVec Ideal S256x512 .f32) (v3 : FVec Ideal S1x512x1024 .bf16) (v6 : FVec Ideal S256x1024 .f32)
    (v8 : FVec Ideal S256x512 .f32) (v10 : FVec Ideal S1x512x1024 .bf16) (v13 : FVec Ideal S256x1024 .f32)
    (v16 : FVec Ideal S256x512 .f32) (v18 : FVec Ideal S1x512x1024 .bf16) (v21 : FVec Ideal S256x1024 .f32)
    (r : Fin 256) (e : Fin 1024) :
    k0_pay2 (F := Ideal) v1 v3 v6 v8 v10 v13 v16 v18 v21 (ix2 r e)
      = (∑ k : Fin 512, v1 (ix2 r k) * v3 (ix3 0 k e)) * v6 (ix2 r e) + (∑ k : Fin 512, v8 (ix2 r k) * v10 (ix3 0 k e)) * v13 (ix2 r e)
        + (∑ k : Fin 512, v16 (ix2 r k) * v18 (ix3 0 k e)) * v21 (ix2 r e) := by
  pointwise! [k0_pay2]

/-- The residual after the mixer. -/
theorem pay3_at (v0 : FVec Ideal S256x1024 .f32) (v25 : FVec Ideal S1x1024 .f32) (v26 : FVec Ideal S256x1024 .bf16)
    (v27 : FVec Ideal S1024x1024 .bf16) (r : Fin 256) (d : Fin 1024) :
    k0_pay3 (F := Ideal) v0 v25 v26 v27 (ix2 r d)
      = FfnSpec.resid (fun d => v0 (ix2 r d)) (fun d => v25 (ix2 0 d)) (fun e => v26 (ix2 r e)) (fun e d => v27 (ix2 e d)) d := by
  pointwise! [k0_pay3, FfnSpec.resid]

/-- The norm before the feed-forward block. -/
theorem pay5_at (v0 : FVec Ideal S256x1024 .f32) (v25 : FVec Ideal S1x1024 .f32) (v26 : FVec Ideal S256x1024 .bf16)
    (v27 : FVec Ideal S1024x1024 .bf16) (v33 v35 : FVec Ideal S1x1x1024 .f32) (v49 : FVec Ideal S1x1024 .f32)
    (r : Fin 256) (d : Fin 1024) :
    k0_pay5 (F := Ideal) v0 v25 v26 v27 v33 v35 v49 (ix2 r d)
      = FfnSpec.normed (fun d => k0_pay3 (F := Ideal) v0 v25 v26 v27 (ix2 r d)) (fun d => v49 (ix2 0 d)) (fun d => v35 (ix3 0 0 d)) (fun d => v33 (ix3 0 0 d)) d := by
  pointwise! [k0_pay5, FfnSpec.normed]

/-- The gate columns' product. -/
theorem pay6_at (v0 : FVec Ideal S256x1024 .f32) (v25 : FVec Ideal S1x1024 .f32) (v26 : FVec Ideal S256x1024 .bf16)
    (v27 : FVec Ideal S1024x1024 .bf16) (v33 v35 : FVec Ideal S1x1x1024 .f32) (v49 : FVec Ideal S1x1024 .f32)
    (v60 : FVec Ideal S1024x1408 .bf16) (r : Fin 256) (f : Fin 1408) :
    k0_pay6 (F := Ideal) v0 v25 v26 v27 v33 v35 v49 v60 (ix2 r f)
      = ∑ e : Fin 1024, k0_pay5 (F := Ideal) v0 v25 v26 v27 v33 v35 v49 (ix2 r e) * v60 (ix2 e f) := by
  pointwise! [k0_pay6]

/-- The value columns' product. -/
theorem pay7_at (v0 : FVec Ideal S256x1024 .f32) (v25 : FVec Ideal S1x1024 .f32) (v26 : FVec Ideal S256x1024 .bf16)
    (v27 : FVec Ideal S1024x1024 .bf16) (v33 v35 : FVec Ideal S1x1x1024 .f32) (v49 : FVec Ideal S1x1024 .f32)
    (v60 : FVec Ideal S1024x1408 .bf16) (r : Fin 256) (f : Fin 1408) :
    k0_pay7 (F := Ideal) v0 v25 v26 v27 v33 v35 v49 v60 (ix2 r f)
      = ∑ e : Fin 1024, k0_pay5 (F := Ideal) v0 v25 v26 v27 v33 v35 v49 (ix2 r e) * v60 (ix2 e f) := by
  pointwise! [k0_pay7]

/-- The result from the residual, the norm and the weights, the hidden units in two halves. -/
theorem pay8_at (v32 : FVec Ideal S256x1024 .f32) (v38 : FVec Ideal S1x1024 .f32) (v59 : FVec Ideal S256x1024 .bf16)
    (v62 v65 : FVec Ideal S256x1408 .f32) (v76 : FVec Ideal S1408x1024 .bf16) (v79 v82 : FVec Ideal S1024x1408 .bf16)
    (v95 : FVec Ideal S1408x1024 .bf16) (r : Fin 256) (d : Fin 1024) :
    k0_pay8 (F := Ideal) v32 v38 v59 v62 v65 v76 v79 v82 v95 (ix2 r d)
      = v32 (ix2 r d) + v38 (ix2 0 d) * ((∑ f : Fin 1408, v62 (ix2 r f) * Ideal.div 1 (1 + Ideal.exp (-v62 (ix2 r f))) * v65 (ix2 r f) * v76 (ix2 f d))
        + ∑ f : Fin 1408, (∑ e : Fin 1024, v59 (ix2 r e) * v79 (ix2 e f)) * Ideal.div 1 (1 + Ideal.exp (-(∑ e : Fin 1024, v59 (ix2 r e) * v79 (ix2 e f))))
            * (∑ e : Fin 1024, v59 (ix2 r e) * v82 (ix2 e f)) * v95 (ix2 f d)) := by
  pointwise [k0_pay8, zero_sub]

end Cert.FfnKernel

end
-- ==== Proof.FfnOut.lean ====
module

public import proofs.«01_k».proof.Proof.FfnKernel

/-! One grid point's whole result, from the blocks it was given. -/

@[expose] public section

set_option maxRecDepth 16384

noncomputable section

namespace Cert.FfnKernel

open Cert.FfnIdeal Cert.FfnIdeal.Gen Idealize.ShloMosaic Idealize.ShloMosaic.TcCoe Idealize.SL.Sem
open Idealize.ShloMosaic.Pipeline (Dat)

/-- The gated sum of the branches, from the blocks. -/
theorem mixed_at (x0 : FVec Ideal S256x1024 .f32) (x1 x2 x3 : FVec Ideal S256x512 .f32) (x4 : FVec Ideal S256x3072 .f32) (x5 : FVec Ideal S1x6x1024 .f32)
    (x6 : FVec Ideal S1x1024 .f32) (x7 : FVec Ideal S3x512x1024 .bf16) (x8 : FVec Ideal S1024x1024 .bf16) (x9 : FVec Ideal S1024x5632 .bf16)
    (x10 : FVec Ideal S2816x1024 .bf16) (r : Fin 256) (e : Fin 1024) :
    k0_pay10 (F := Ideal) x0 x1 x2 x3 x4 x5 x6 x7 x8 x9 x10 (ix2 r e)
      = FfnSpec.mixed (fun k => x1 (ix2 r k)) (fun k => x2 (ix2 r k)) (fun k => x3 (ix2 r k)) (fun k => x4 (ix2 r k)) (fun b k e => x7 (ix3 b k e)) e := by
  unfold k0_pay10
  frame_out
  rw [pay2_at]
  pointwise [FfnSpec.mixed]

/-- What the point writes for one token, from its blocks. -/
theorem out_at (x0 : FVec Ideal S256x1024 .f32) (x1 x2 x3 : FVec Ideal S256x512 .f32) (x4 : FVec Ideal S256x3072 .f32) (x5 : FVec Ideal S1x6x1024 .f32)
    (x6 : FVec Ideal S1x1024 .f32) (x7 : FVec Ideal S3x512x1024 .bf16) (x8 : FVec Ideal S1024x1024 .bf16) (x9 : FVec Ideal S1024x5632 .bf16)
    (x10 : FVec Ideal S2816x1024 .bf16) (r : Fin 256) (d : Fin 1024) :
    out0_11 (F := Ideal) x0 x1 x2 x3 x4 x5 x6 x7 x8 x9 x10 (ix2 r d)
      = FfnSpec.row (fun d => x0 (ix2 r d)) (fun k => x1 (ix2 r k)) (fun k => x2 (ix2 r k)) (fun k => x3 (ix2 r k)) (fun k => x4 (ix2 r k))
          (fun d => x5 (ix3 0 2 d)) (fun d => x5 (ix3 0 3 d)) (fun d => x5 (ix3 0 4 d)) (fun d => x5 (ix3 0 5 d))
          (fun b k e => x7 (ix3 b k e)) (fun e d => x8 (ix2 e d)) (fun d => x6 (ix2 0 d)) (fun e f => x9 (ix2 e f)) (fun f d => x10 (ix2 f d)) d := by
  have hgt : ∀ d : Fin 1024, k0_pay9 (F := Ideal) x0 x1 x2 x3 x4 x5 x6 x7 x8 x9 x10 (ix2 0 d) = x5 (ix3 0 2 d) := fun d => by
    pointwise [k0_pay9, k0_pay1]
  frame_out
  rw [pay8_at, FfnSpec.row, FfnSpec.out_halves]
  simp only [pay6_at, pay7_at, pay5_at, pay3_at, mixed_at, hgt, FfnSpec.hidden]
  pointwise [k0_pay4]
  have hf : ∀ f : Fin 1408, (⟨2816 + (1408 + f.val), by omega⟩ : Fin 5632) = ⟨4224 + f.val, by omega⟩ := fun f => Fin.ext (by simp only []; omega)
  simp only [hf]

end Cert.FfnKernel

end
-- ==== Proof.FfnReference.lean ====
module

public import proofs.«01_k».proof.Proof.Gen.FfnRefIdeal.Read
public import proofs.«01_k».proof.Proof.FfnSpec

/-! What the reference computes for one token, in the terms of `FfnSpec`. -/

@[expose] public section

set_option maxRecDepth 16384

noncomputable section

namespace Cert.FfnReference

open Cert.FfnRefIdeal Cert.FfnRefIdeal.Gen Cert.FfnRefIdeal.Read Idealize.ShloMosaic Idealize.ShloMosaic.TcCoe Idealize.SL.Sem

variable (x0 : FVec Ideal S8192x1024 .f32) (x1 : FVec Ideal S8192x512 .f32) (x2 : FVec Ideal S8192x512 .f32) (x3 : FVec Ideal S8192x512 .f32) (x4 : FVec Ideal S8192x3072 .f32) (x5 : FVec Ideal S8x6x1024 .f32) (x6 : FVec Ideal S3x512x1024 .f32) (x7 : FVec Ideal S1024x1024 .f32) (x8 : FVec Ideal S1024 .f32) (x9 : FVec Ideal S1024x5632 .f32) (x10 : FVec Ideal S2816x1024 .f32)

/-- The stacked branch outputs. -/
theorem ys_at (n : Fin 8192) (b : Fin 3) (w : Fin 512) :
    val_main_v11 (F := Ideal) x1 x2 x3 (ix3 n b w) = if b = 0 then x1 (ix2 n w) else if b = 1 then x2 (ix2 n w) else x3 (ix2 n w) := by
  pointwise [val_main_v11, val_main_v8, val_main_v9, val_main_v10]
  match b with
  | 0 => simp
  | 1 => simp
  | 2 => simp

/-- The branches through their matrices. -/
theorem branch_at (b : Fin 3) (d : Fin 1024) (n : Fin 8192) :
    val_main_v12 (F := Ideal) x1 x2 x3 x6 (ix3 b d n) = ∑ w : Fin 512, val_main_v11 (F := Ideal) x1 x2 x3 (ix3 n b w) * x6 (ix3 b w d) := by
  pointwise! [val_main_v12]

/-- The gated sum of the branches. -/
theorem mixed_at (n : Fin 8192) (e : Fin 1024) :
    val_main_v15 (F := Ideal) x1 x2 x3 x4 x6 (ix2 n e)
      = FfnSpec.mixed (fun k => x1 (ix2 n k)) (fun k => x2 (ix2 n k)) (fun k => x3 (ix2 n k)) (fun k => x4 (ix2 n k))
          (fun b k e => x6 (ix3 b k e)) e := by
  pointwise [val_main_v15, val_main_v14, val_main_v13]
  simp only [Fin.sum_univ_three, branch_at, ys_at]
  simp [FfnSpec.mixed]
  ac_nf

/-- The residual after the mixer. -/
theorem resid_at (n : Fin 8192) (d : Fin 1024) :
    val_main_v20 (F := Ideal) x0 x1 x2 x3 x4 x5 x6 x7 (ix2 n d)
      = FfnSpec.resid (fun d => x0 (ix2 n d)) (fun d => x5 (ix3 0 2 d)) (fun e => val_main_v15 (F := Ideal) x1 x2 x3 x4 x6 (ix2 n e))
          (fun e d => x7 (ix2 e d)) d := by
  pointwise! [val_main_v20, val_main_v19, val_main_v18, val_main_v17, val_main_v16, val_main_v1, val_main_v0, FfnSpec.resid]

/-- The norm before the feed-forward block. -/
theorem normed_at (n : Fin 8192) (d : Fin 1024) :
    val_main_v41 (F := Ideal) x0 x1 x2 x3 x4 x5 x6 x7 x8 (ix2 n d)
      = FfnSpec.normed (fun d => val_main_v20 (F := Ideal) x0 x1 x2 x3 x4 x5 x6 x7 (ix2 n d)) (fun d => x8 (ix1 d)) (fun d => x5 (ix3 0 4 d)) (fun d => x5 (ix3 0 3 d)) d := by
  pointwise! [val_main_v41, val_main_v40, val_main_v39, val_main_v38, val_main_v37, val_main_v36, val_main_v35, val_main_v34, val_main_cst_2,
    val_main_v33, val_main_v32, val_main_v31, val_main_v30, val_main_v29, val_main_v28, val_main_v27, val_main_v26, val_main_cst_1,
    val_main_v25, val_main_v24, val_main_cst_0, val_main_v23, val_main_v22, val_main_cst, val_main_v21, val_main_v5, val_main_v4, val_main_v3, val_main_v2,
    FfnSpec.normed, FfnSpec.div_1024]

/-- The product with the first weight matrix. -/
theorem up_at (n : Fin 8192) (f : Fin 5632) :
    val_main_v42 (F := Ideal) x0 x1 x2 x3 x4 x5 x6 x7 x8 x9 (ix2 n f) = ∑ e : Fin 1024, val_main_v41 (F := Ideal) x0 x1 x2 x3 x4 x5 x6 x7 x8 (ix2 n e) * x9 (ix2 e f) := by
  pointwise! [val_main_v42]

/-- The hidden units. -/
theorem hidden_at (n : Fin 8192) (f : Fin 2816) :
    val_main_v46 (F := Ideal) x0 x1 x2 x3 x4 x5 x6 x7 x8 x9 (ix2 n f)
      = FfnSpec.hidden (fun e => val_main_v41 (F := Ideal) x0 x1 x2 x3 x4 x5 x6 x7 x8 (ix2 n e)) (fun e f => x9 (ix2 e f)) f := by
  pointwise [val_main_v46, val_main_v45, val_main_call0_v5, val_main_call0_v4, val_main_call0_cst_0, val_main_call0_v3, val_main_call0_v2,
    val_main_call0_cst, val_main_call0_v1, val_main_call0_v0, val_main_v44, val_main_v43]
  simp only [up_at, FfnSpec.hidden]

/-- The reference's result for one token. -/
theorem result_at (n : Fin 8192) (d : Fin 1024) :
    val_main_v51 (F := Ideal) x0 x1 x2 x3 x4 x5 x6 x7 x8 x9 x10 (ix2 n d)
      = FfnSpec.out (fun d => val_main_v20 (F := Ideal) x0 x1 x2 x3 x4 x5 x6 x7 (ix2 n d)) (fun d => x5 (ix3 0 5 d))
          (fun f => val_main_v46 (F := Ideal) x0 x1 x2 x3 x4 x5 x6 x7 x8 x9 (ix2 n f)) (fun f d => x10 (ix2 f d)) d := by
  pointwise! [val_main_v51, val_main_v50, val_main_v49, val_main_v48, val_main_v47, val_main_v7, val_main_v6, FfnSpec.out]

/-- The reference's result for one token, from its arguments. -/
theorem row_at (n : Fin 8192) (d : Fin 1024) :
    val_main_v51 (F := Ideal) x0 x1 x2 x3 x4 x5 x6 x7 x8 x9 x10 (ix2 n d)
      = FfnSpec.row (fun d => x0 (ix2 n d)) (fun k => x1 (ix2 n k)) (fun k => x2 (ix2 n k)) (fun k => x3 (ix2 n k)) (fun k => x4 (ix2 n k))
          (fun d => x5 (ix3 0 2 d)) (fun d => x5 (ix3 0 3 d)) (fun d => x5 (ix3 0 4 d)) (fun d => x5 (ix3 0 5 d))
          (fun b k e => x6 (ix3 b k e)) (fun e d => x7 (ix2 e d)) (fun d => x8 (ix1 d)) (fun e f => x9 (ix2 e f)) (fun f d => x10 (ix2 f d)) d := by
  rw [result_at, FfnSpec.row]
  simp only [hidden_at, normed_at, resid_at, mixed_at]

end Cert.FfnReference

end
-- ==== Proof.FfnFinal.lean ====
module

public import proofs.«01_k».proof.Proof.FfnOut
public import proofs.«01_k».proof.Proof.FfnReference
public import Idealize.ShloMosaic.Lib.Claim

/-! The kernel's result array is the reference's. -/

@[expose] public section

set_option maxRecDepth 16384

noncomputable section

namespace Cert.FfnFinal

open Cert.FfnIdeal Cert.FfnIdeal.Gen Idealize.ShloMosaic Idealize.ShloMosaic.TcCoe Idealize.SL.Sem
open Idealize.ShloMosaic.Pipeline (Dat)

variable (m : (ℓ : Loc nD τ sig) → Buf (Elt Ideal) ℓ)

/-- The reference's result over the kernel's arguments. -/
abbrev REF (c : Dev nD) : FVec Ideal S8192x1024 .f32 :=
  Cert.FfnRefIdeal.Read.val_main_v51 (F := Ideal) (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6))
    (m ((c : Thread nD τ).loc main_arg7)) (m ((c : Thread nD τ).loc main_arg8)) (m ((c : Thread nD τ).loc main_arg9)) (m ((c : Thread nD τ).loc main_arg10))

/-- The blocks' indices at each point. -/
theorem idx : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![0, 0, 0] ∧ win0_6.index t = ![0, 0] ∧ win0_7.index t = ![0, 0, 0] ∧ win0_8.index t = ![0, 0]
    ∧ win0_9.index t = ![0, 0] ∧ win0_10.index t = ![0, 0] ∧ win0_11.index t = ![t.val, 0] :=
  (by decide +kernel : ∀ t : Fin grid0.N, _)

/-- What each point writes at a position of its block is the reference's value at that place of the array. -/
theorem point (c : Dev nD) (t : Fin cfg0.N) (y : S256x1024.Idx) :
    out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t) y
      = REF m c (((cfg0.win 11).blk t).view.emb y) := by
  obtain ⟨r, d, rfl⟩ : ∃ (r : Fin 256) (d : Fin 1024), y = ix2 r d := ⟨y 0, y 1, eq_ix2 y⟩
  have ht : t.val < 32 := t.isLt
  have e : ((cfg0.win 11).blk t).view.emb (ix2 r d) = ix2 (⟨t.val * 256 + r.val, by omega⟩ : Fin 8192) d := by
    blk_ext [idx t]
  rw [e]
  refine (FfnKernel.out_at _ _ _ _ _ _ _ _ _ _ _ r d).trans (Eq.trans ?_ (FfnReference.row_at _ _ _ _ _ _ _ _ _ _ _ _ d).symm)
  blk_point [iblk, V, idx t]

/-- The result array after the run is the reference's. -/
theorem final (c : Dev nD) : (dats m 0 c).arrAt 11 (cfgs 0).N = REF m c := by
  refine (dats m 0 c).arrAt_eq_of_covers 11 _ (by decide +kernel) fun t _ y => ?_
  blk_simp
  rw [after0_11]
  exact point m c t y

end Cert.FfnFinal

end
-- ==== Proof.FfnClaim.lean ====
module

public import proofs.«01_k».proof.Defs
public import proofs.«01_k».proof.Proof.FfnFinal
public import proofs.«01_k».proof.Proof.Gen.FfnIdeal.Frame
public import proofs.«01_k».proof.Proof.Gen.FfnRefIdeal.Run
public import proofs.«01_k».proof.Proof.Gen.FfnRefIdeal.Read
public import Idealize.ShloMosaic.Lib.Claim

/-! The claims about the output projections with the gated feed-forward block: the reference runs and keeps its arguments;
    the kernel's result is the reference's. -/

@[expose] public section

set_option maxRecDepth 16384

noncomputable section

namespace Cert.FfnClaim

open Idealize.ShloMosaic Idealize.SL.Sem

/-- The reference runs to its end, keeps its arguments, and leaves every counter at zero. -/
theorem reference : Cert.quiescent_FfnRefIdeal := by
  intro m g _
  exact (θ_run Cert.FfnRefIdeal.defs _ _).mono (fun r h => ⟨fun c => (h c).2, funext fun s => nomatch s⟩) (Cert.FfnRefIdeal.Value.run (F := Ideal) m g)

/-- From equal arguments the kernel and the reference end with equal results. -/
theorem equal : Cert.algebraic_FfnIdeal_FfnRefIdeal := by
  pair_intro
  · run_from Cert.FfnIdeal.Gen.run_main m g
  · run_from Cert.FfnRefIdeal.Value.run m' g'
    rw [Cert.FfnFinal.final m c, Cert.FfnRefIdeal.Read.val_main_v51_eq]
    obtain ⟨h0, h1, h2, h3, h4, h5, h6, h7, h8, h9, h10⟩ := hagree c
    rw [h0, h1, h2, h3, h4, h5, h6, h7, h8, h9, h10]

end Cert.FfnClaim

end
-- ==== Proof.InProjSpec.lean ====
module

public import proofs.«01_k».proof.Proof.FfnSpec

/-! The input projections of one token, as plain functions on the extended reals. Kernel and reference are each shown to compute these. -/

@[expose] public section

set_option maxRecDepth 16384

noncomputable section

namespace Cert.InProjSpec

open Idealize.ShloMosaic

/-- One column of the combined projection. -/
def proj {N : ℕ} (h : Fin 1024 → EReal) (w : Fin 1024 → Fin N → EReal) (c : Fin N) : EReal := ∑ e, h e * w e c

/-- The logistic function, as both sides write it. -/
def sigm (x : EReal) : EReal := Ideal.div 1 (1 + Ideal.exp (-x))

/-- The rms norm of a row with its gain, the reciprocal of the width given. -/
def rms {N : ℕ} (inv : EReal) (a g : Fin N → EReal) (i : Fin N) : EReal :=
  a i * Ideal.rsqrt ((∑ j, a j * a j) * inv + Ideal.ofBits .f32 0x358637BD#32) * g i

/-- The three parts one after another, the middle one scaled. -/
def qkv (q k v : Fin 512 → EReal) (c : Fin 1536) : EReal :=
  if h : c.val < 512 then q ⟨c.val, h⟩
  else if h' : c.val - 512 < 512 then k ⟨c.val - 512, by omega⟩ * Ideal.ofBits .f32 0x3DB504F3#32 else v ⟨c.val - 512 - 512, by omega⟩

/-- A short row followed by zeros. -/
def pad {N : ℕ} (a : Fin N → EReal) (c : Fin 128) : EReal := if h : c.val < N then a ⟨c.val, h⟩ else 0

/-- Eight heads of 96 laid out in eight groups of 128: the last 32 of the head, 32 zeros, the first 64 of the head. -/
def lay (a : Fin 768 → EReal) (c : Fin 1024) : EReal :=
  if h : c.val % 128 < 32 then a ⟨c.val / 128 * 96 + (64 + c.val % 128), by omega⟩
  else if h' : c.val % 128 - 32 < 32 then 0 else a ⟨c.val / 128 * 96 + (c.val % 128 - 32 - 32), by omega⟩

/-- Two heads of 64 in one row, each with its own rms norm. -/
def heads (inv : EReal) (a : Fin 128 → EReal) (g : Fin 128 → EReal) (c : Fin 128) : EReal :=
  a c * Ideal.rsqrt ((∑ j : Fin 64, a ⟨c.val / 64 * 64 + j.val, by omega⟩ * a ⟨c.val / 64 * 64 + j.val, by omega⟩) * inv
    + Ideal.ofBits .f32 0x358637BD#32) * g c

/-- The integer zero as a float. -/
theorem zero : FloatOps.sitofp (F := Ideal) FTy.f32 (0#32) = (0 : EReal) := by
  show ((((0#32 : BitVec 32).toInt : ℝ)) : EReal) = 0
  simp

/-- A product with padded columns is the padded product. -/
theorem proj_pad {N : ℕ} (h : Fin 1024 → EReal) (w : Fin 1024 → Fin N → EReal) (c : Fin 128) :
    proj h (fun e k => pad (w e) k) c = pad (proj h w) c := by
  unfold proj pad
  by_cases hc : c.val < N
  · simp [hc]
  · simp [hc]

/-- A padded sum of rows. -/
theorem pad_add {N : ℕ} (a b : Fin N → EReal) (c : Fin 128) : pad a c + pad b c = pad (fun k => a k + b k) c := by
  unfold pad
  by_cases hc : c.val < N
  · simp [hc]
  · simp [hc]

/-- A product with laid-out columns is the laid-out product. -/
theorem lay_sum (a : Fin 256 → EReal) (w : Fin 256 → Fin 768 → EReal) (c : Fin 1024) :
    ∑ k, a k * lay (w k) c = lay (fun c => ∑ k, a k * w k c) c := by
  unfold lay
  by_cases h : c.val % 128 < 32
  · simp [h]
  · by_cases h' : c.val % 128 - 32 < 32
    · simp [h, h']
    · simp [h, h']

/-- The pattern of 2^-8 is 1/256. -/
theorem ofBits_inv256 : Ideal.ofBits .f32 0x3B800000#32 = ((1 / 256 : ℝ) : EReal) := by
  simp [Ideal.ofBits, Ideal.ieee, -EReal.coe_mul]; norm_num

/-- The pattern of 256.0 is 256. -/
theorem ofBits_256 : Ideal.ofBits .f32 0x43800000#32 = ((256 : ℝ) : EReal) := by
  simp [Ideal.ofBits, Ideal.ieee, -EReal.coe_mul]; norm_num

/-- Dividing by 256 is multiplying by 2^-8. -/
theorem div_256 (x : EReal) : Ideal.div x (Ideal.ofBits .f32 0x43800000#32) = x * Ideal.ofBits .f32 0x3B800000#32 := by
  rw [ofBits_256, Ideal.div_coe (by norm_num), ofBits_inv256]

/-- The pattern of 2^-7 is 1/128. -/
theorem ofBits_inv128 : Ideal.ofBits .f32 0x3C000000#32 = ((1 / 128 : ℝ) : EReal) := by
  simp [Ideal.ofBits, Ideal.ieee, -EReal.coe_mul]; norm_num

/-- The pattern of 128.0 is 128. -/
theorem ofBits_128 : Ideal.ofBits .f32 0x43000000#32 = ((128 : ℝ) : EReal) := by
  simp [Ideal.ofBits, Ideal.ieee, -EReal.coe_mul]; norm_num

/-- Dividing by 128 is multiplying by 2^-7. -/
theorem div_128 (x : EReal) : Ideal.div x (Ideal.ofBits .f32 0x43000000#32) = x * Ideal.ofBits .f32 0x3C000000#32 := by
  rw [ofBits_128, Ideal.div_coe (by norm_num), ofBits_inv128]

/-- The pattern of 2^-6 is 1/64. -/
theorem ofBits_inv64 : Ideal.ofBits .f32 0x3C800000#32 = ((1 / 64 : ℝ) : EReal) := by
  simp [Ideal.ofBits, Ideal.ieee, -EReal.coe_mul]; norm_num

/-- The pattern of 64.0 is 64. -/
theorem ofBits_64 : Ideal.ofBits .f32 0x42800000#32 = ((64 : ℝ) : EReal) := by
  simp [Ideal.ofBits, Ideal.ieee, -EReal.coe_mul]; norm_num

/-- Dividing by 64 is multiplying by 2^-6. -/
theorem div_64 (x : EReal) : Ideal.div x (Ideal.ofBits .f32 0x42800000#32) = x * Ideal.ofBits .f32 0x3C800000#32 := by
  rw [ofBits_64, Ideal.div_coe (by norm_num), ofBits_inv64]

end Cert.InProjSpec

end
-- ==== Proof.InProjKernel.lean ====
module

public import proofs.«01_k».proof.Proof.Gen.InProjIdeal.Frame
public import proofs.«01_k».proof.Proof.InProjSpec
public import Idealize.ShloMosaic.Lib.Pipeline.ValueKit

/-! What the parts of the kernel compute for one token, in the terms of `InProjSpec`. -/

@[expose] public section

set_option maxRecDepth 16384

noncomputable section

namespace Cert.InProjKernel

open Cert.InProjIdeal Cert.InProjIdeal.Gen Idealize.ShloMosaic Idealize.ShloMosaic.TcCoe Idealize.SL.Sem
open Idealize.ShloMosaic.Pipeline (Dat)

/-- The normed and modulated token. -/
theorem pay3_at (v0 : FVec Ideal S256x1024 .f32) (v1 v3 : FVec Ideal S1x1x1024 .f32) (v15 : FVec Ideal S1x1024 .f32) (r : Fin 256) (e : Fin 1024) :
    k0_pay3 (F := Ideal) v0 v1 v3 v15 (ix2 r e)
      = FfnSpec.normed (fun d => v0 (ix2 r d)) (fun d => v15 (ix2 0 d)) (fun d => v3 (ix3 0 0 d)) (fun d => v1 (ix3 0 0 d)) e := by
  pointwise! [k0_pay3, FfnSpec.normed]

/-- The branch gates. -/
theorem pay4_at (v0 : FVec Ideal S256x1024 .f32) (v1 v3 : FVec Ideal S1x1x1024 .f32) (v15 : FVec Ideal S1x1024 .f32) (v26 : FVec Ideal S1024x3072 .bf16)
    (r : Fin 256) (c : Fin 3072) :
    k0_pay4 (F := Ideal) v0 v1 v3 v15 v26 (ix2 r c)
      = InProjSpec.sigm (InProjSpec.proj (fun e => k0_pay3 (F := Ideal) v0 v1 v3 v15 (ix2 r e)) (fun e c => v26 (ix2 e c)) c) := by
  pointwise! [k0_pay4, InProjSpec.sigm, InProjSpec.proj, zero_sub]

/-- The queries of the recurrence. -/
theorem pay5_at (v25 : FVec Ideal S256x1024 .bf16) (w : FVec Ideal S1024x512 .bf16) (r : Fin 256) (c : Fin 512) :
    k0_pay5 (F := Ideal) v25 w (ix2 r c) = InProjSpec.proj (fun e => v25 (ix2 r e)) (fun e c => w (ix2 e c)) c := by
  pointwise! [k0_pay5, InProjSpec.proj]

/-- The keys of the recurrence. -/
theorem pay6_at (v25 : FVec Ideal S256x1024 .bf16) (w : FVec Ideal S1024x512 .bf16) (r : Fin 256) (c : Fin 512) :
    k0_pay6 (F := Ideal) v25 w (ix2 r c)
      = InProjSpec.proj (fun e => v25 (ix2 r e)) (fun e c => w (ix2 e c)) c * Ideal.ofBits .f32 0x3DB504F3#32 := by
  pointwise! [k0_pay6, InProjSpec.proj]

/-- The values of the recurrence. -/
theorem pay7_at (v25 : FVec Ideal S256x1024 .bf16) (w : FVec Ideal S1024x512 .bf16) (r : Fin 256) (c : Fin 512) :
    k0_pay7 (F := Ideal) v25 w (ix2 r c) = InProjSpec.proj (fun e => v25 (ix2 r e)) (fun e c => w (ix2 e c)) c := by
  pointwise! [k0_pay7, InProjSpec.proj]

/-- The output gate of the recurrence. -/
theorem pay8_at (v25 : FVec Ideal S256x1024 .bf16) (w : FVec Ideal S1024x512 .bf16) (r : Fin 256) (c : Fin 512) :
    k0_pay8 (F := Ideal) v25 w (ix2 r c) = InProjSpec.sigm (InProjSpec.proj (fun e => v25 (ix2 r e)) (fun e c => w (ix2 e c)) c) := by
  pointwise! [k0_pay8, InProjSpec.sigm, InProjSpec.proj, zero_sub]

/-- The gate preactivations of the recurrence. -/
theorem pay9_at (v25 : FVec Ideal S256x1024 .bf16) (w : FVec Ideal S1024x128 .bf16) (b : FVec Ideal S1x128 .f32) (r : Fin 256) (c : Fin 128) :
    k0_pay9 (F := Ideal) v25 w b (ix2 r c) = InProjSpec.proj (fun e => v25 (ix2 r e)) (fun e c => w (ix2 e c)) c + b (ix2 0 c) := by
  pointwise! [k0_pay9, InProjSpec.proj]

/-- The latent queries, up-projected. -/
theorem pay10_at (v25 : FVec Ideal S256x1024 .bf16) (w : FVec Ideal S1024x256 .bf16) (g : FVec Ideal S1x256 .f32) (u : FVec Ideal S256x1024 .bf16)
    (r : Fin 256) (c : Fin 1024) :
    k0_pay10 (F := Ideal) v25 w g u (ix2 r c)
      = ∑ k : Fin 256, InProjSpec.rms (Ideal.ofBits .f32 0x3B800000#32) (InProjSpec.proj (fun e => v25 (ix2 r e)) (fun e c => w (ix2 e c)))
          (fun k => g (ix2 0 k)) k * u (ix2 k c) := by
  pointwise! [k0_pay10, InProjSpec.proj, InProjSpec.rms]

/-- The latent keys and values. -/
theorem pay13_at (v25 : FVec Ideal S256x1024 .bf16) (w : FVec Ideal S1024x128 .bf16) (x : Ideal .f32) (g : FVec Ideal S1x128 .f32) (r : Fin 256) (c : Fin 128) :
    k0_pay13 (F := Ideal) (k0_pay11 v25 w) (k0_pay12 v25 w) x g (ix2 r c)
      = InProjSpec.rms x (InProjSpec.proj (fun e => v25 (ix2 r e)) (fun e c => w (ix2 e c))) (fun k => g (ix2 0 k)) c := by
  pointwise! [k0_pay13, k0_pay12, k0_pay11, InProjSpec.proj, InProjSpec.rms]

/-- The rotary key. -/
theorem pay14_at (v25 : FVec Ideal S256x1024 .bf16) (w : FVec Ideal S1024x128 .bf16) (r : Fin 256) (c : Fin 128) :
    k0_pay14 (F := Ideal) v25 w (ix2 r c) = InProjSpec.proj (fun e => v25 (ix2 r e)) (fun e c => w (ix2 e c)) c := by
  pointwise! [k0_pay14, InProjSpec.proj]

/-- The queries of the grouped attention. -/
theorem pay15_at (v25 : FVec Ideal S256x1024 .bf16) (w : FVec Ideal S1024x512 .bf16) (r : Fin 256) (c : Fin 512) :
    k0_pay15 (F := Ideal) v25 w (ix2 r c) = InProjSpec.proj (fun e => v25 (ix2 r e)) (fun e c => w (ix2 e c)) c := by
  pointwise! [k0_pay15, InProjSpec.proj]

/-- The keys of the grouped attention before their norm. -/
theorem pay16_at (v25 : FVec Ideal S256x1024 .bf16) (w : FVec Ideal S1024x128 .bf16) (r : Fin 256) (c : Fin 128) :
    k0_pay16 (F := Ideal) v25 w (ix2 r c) = InProjSpec.proj (fun e => v25 (ix2 r e)) (fun e c => w (ix2 e c)) c := by
  pointwise! [k0_pay16, InProjSpec.proj]

/-- The values of the grouped attention. -/
theorem pay2_at (v25 : FVec Ideal S256x1024 .bf16) (w : FVec Ideal S1024x128 .bf16) (r : Fin 256) (c : Fin 128) :
    k0_pay2 (F := Ideal) v25 w (ix2 r c) = InProjSpec.proj (fun e => v25 (ix2 r e)) (fun e c => w (ix2 e c)) c := by
  pointwise! [k0_pay2, InProjSpec.proj]

/-- Whether a lane lies in the first half. -/
theorem half : ∀ c : Fin 128, IntOp.cmpi CmpIPredicate.slt (BitVec.ofNat 32 c.val) 64#32 = if c.val < 64 then 1#1 else 0#1 := by
  decide +kernel

/-- The keys of the grouped attention, each of the two heads normed. -/
theorem pay1_at (v25 : FVec Ideal S256x1024 .bf16) (w : FVec Ideal S1024x128 .bf16) (g : FVec Ideal S1x128 .f32) (r : Fin 256) (c : Fin 128) :
    k0_pay1 (F := Ideal) (k0_pay16 v25 w) k0_pay17 (k0_pay18 v25 w) (k0_pay19 v25 w) k0_pay20 g (ix2 r c)
      = InProjSpec.heads (Ideal.ofBits .f32 0x3C800000#32) (InProjSpec.proj (fun e => v25 (ix2 r e)) (fun e c => w (ix2 e c))) (fun c => g (ix2 0 c)) c := by
  pointwise [k0_pay1, k0_pay17, k0_pay18, k0_pay19, k0_pay20, pay16_at]
  simp only [half]
  generalize InProjSpec.proj (fun e => v25 (ix2 r e)) (fun e c => w (ix2 e c)) = a
  simp only [Fin.sum_univ_two_halves 64 64 rfl]
  by_cases h : c.val < 64
  · have hc : c.val / 64 = 0 := by omega
    simp [h, hc, InProjSpec.heads, Scalar.select]
  · have hc : c.val / 64 = 1 := by omega
    simp [h, hc, InProjSpec.heads, Scalar.select]

end Cert.InProjKernel

end
-- ==== Proof.InProjOut.lean ====
module

public import proofs.«01_k».proof.Proof.InProjKernel

/-! One grid point's results, from the blocks it was given. -/

@[expose] public section

set_option maxRecDepth 16384

noncomputable section

namespace Cert.InProjKernel

open Cert.InProjIdeal Cert.InProjIdeal.Gen Idealize.ShloMosaic Idealize.ShloMosaic.TcCoe Idealize.SL.Sem
open Idealize.ShloMosaic.Pipeline (Dat)

/-- The normed and modulated token, from the blocks. -/
theorem token (x0 : FVec Ideal S256x1024 .f32) (x1 : FVec Ideal S1x6x1024 .f32) (x2 : FVec Ideal S1x1024 .f32) (x3 : FVec Ideal S1024x6528 .bf16)
    (x4 : FVec Ideal S1x128 .f32) (x5 : FVec Ideal S1x256 .f32) (x6 : FVec Ideal S256x1024 .bf16) (x7 x8 : FVec Ideal S1x128 .f32) (r : Fin 256) (e : Fin 1024) :
    k0_pay21 (F := Ideal) x0 x1 x2 x3 x4 x5 x6 x7 x8 (ix2 r e)
      = FfnSpec.normed (fun d => x0 (ix2 r d)) (fun d => x2 (ix2 0 d)) (fun d => x1 (ix3 0 1 d)) (fun d => x1 (ix3 0 0 d)) e := by
  unfold k0_pay21
  rw [pay3_at]
  pointwise

/-- The branch gates. -/
theorem out9_at (x0 : FVec Ideal S256x1024 .f32) (x1 : FVec Ideal S1x6x1024 .f32) (x2 : FVec Ideal S1x1024 .f32) (x3 : FVec Ideal S1024x6528 .bf16)
    (x4 : FVec Ideal S1x128 .f32) (x5 : FVec Ideal S1x256 .f32) (x6 : FVec Ideal S256x1024 .bf16) (x7 x8 : FVec Ideal S1x128 .f32) (r : Fin 256) (c : Fin 3072) :
    out0_9 (F := Ideal) x0 x1 x2 x3 x4 x5 x6 x7 x8 (ix2 r c)
      = InProjSpec.sigm ((InProjSpec.proj (FfnSpec.normed (fun d => x0 (ix2 r d)) (fun d => x2 (ix2 0 d)) (fun d => x1 (ix3 0 1 d)) (fun d => x1 (ix3 0 0 d)))
          (fun e (k : Fin 3072) => x3 (ix2 e ⟨0 + k.val, by omega⟩))) c) := by
  frame_out
  rw [pay4_at]
  simp only [pay3_at]
  pointwise

/-- The queries, keys and values of the recurrence. -/
theorem out10_at (x0 : FVec Ideal S256x1024 .f32) (x1 : FVec Ideal S1x6x1024 .f32) (x2 : FVec Ideal S1x1024 .f32) (x3 : FVec Ideal S1024x6528 .bf16)
    (x4 : FVec Ideal S1x128 .f32) (x5 : FVec Ideal S1x256 .f32) (x6 : FVec Ideal S256x1024 .bf16) (x7 x8 : FVec Ideal S1x128 .f32) (r : Fin 256) (c : Fin 1536) :
    out0_10 (F := Ideal) x0 x1 x2 x3 x4 x5 x6 x7 x8 (ix2 r c)
      = InProjSpec.qkv (InProjSpec.proj (FfnSpec.normed (fun d => x0 (ix2 r d)) (fun d => x2 (ix2 0 d)) (fun d => x1 (ix3 0 1 d)) (fun d => x1 (ix3 0 0 d)))
          (fun e (k : Fin 512) => x3 (ix2 e ⟨3072 + k.val, by omega⟩)))
        (InProjSpec.proj (FfnSpec.normed (fun d => x0 (ix2 r d)) (fun d => x2 (ix2 0 d)) (fun d => x1 (ix3 0 1 d)) (fun d => x1 (ix3 0 0 d)))
          (fun e (k : Fin 512) => x3 (ix2 e ⟨3584 + k.val, by omega⟩)))
        (InProjSpec.proj (FfnSpec.normed (fun d => x0 (ix2 r d)) (fun d => x2 (ix2 0 d)) (fun d => x1 (ix3 0 1 d)) (fun d => x1 (ix3 0 0 d)))
          (fun e (k : Fin 512) => x3 (ix2 e ⟨4096 + k.val, by omega⟩))) c := by
  frame_out
  canon_tiles x h
  · obtain ⟨a, b, rfl⟩ : ∃ (a : Fin 256) (b : Fin 512), x = ix2 a b := ⟨x 0, x 1, eq_ix2 x⟩
    obtain rfl : r = a := Fin.ext h0
    have hlt : 1024 + b.val < 1536 := by clear h1; omega
    obtain rfl : c = ⟨1024 + b.val, hlt⟩ := Fin.ext h1
    rw [pay7_at]
    simp only [token]
    unfold InProjSpec.qkv
    rw [dif_neg (by simp only []; omega), dif_neg (by simp only []; omega)]
    have hb : ∀ h, (⟨1024 + b.val - 512 - 512, h⟩ : Fin 512) = b := fun h => Fin.ext (by simp only []; omega)
    rw [hb]
    pointwise
  · obtain ⟨a, b, rfl⟩ : ∃ (a : Fin 256) (b : Fin 512), x = ix2 a b := ⟨x 0, x 1, eq_ix2 x⟩
    obtain rfl : r = a := Fin.ext h0
    have hlt : 512 + b.val < 1536 := by clear h1; omega
    obtain rfl : c = ⟨512 + b.val, hlt⟩ := Fin.ext h1
    rw [pay6_at]
    simp only [token]
    unfold InProjSpec.qkv
    rw [dif_neg (by simp only []; omega), dif_pos (by simp only []; omega)]
    have hb : ∀ h, (⟨512 + b.val - 512, h⟩ : Fin 512) = b := fun h => Fin.ext (by simp only []; omega)
    rw [hb]
    pointwise
  · obtain ⟨a, b, rfl⟩ : ∃ (a : Fin 256) (b : Fin 512), x = ix2 a b := ⟨x 0, x 1, eq_ix2 x⟩
    obtain rfl : r = a := Fin.ext h0
    have hlt : 0 + b.val < 1536 := by clear h1; omega
    obtain rfl : c = ⟨0 + b.val, hlt⟩ := Fin.ext (h1.trans (Nat.zero_add _).symm)
    rw [pay5_at]
    simp only [token]
    unfold InProjSpec.qkv
    rw [dif_pos (by simp only []; omega)]
    have hb : ∀ h, (⟨0 + b.val, h⟩ : Fin 512) = b := fun h => Fin.ext (by simp only []; omega)
    rw [hb]
    pointwise

/-- The output gate of the recurrence. -/
theorem out11_at (x0 : FVec Ideal S256x1024 .f32) (x1 : FVec Ideal S1x6x1024 .f32) (x2 : FVec Ideal S1x1024 .f32) (x3 : FVec Ideal S1024x6528 .bf16)
    (x4 : FVec Ideal S1x128 .f32) (x5 : FVec Ideal S1x256 .f32) (x6 : FVec Ideal S256x1024 .bf16) (x7 x8 : FVec Ideal S1x128 .f32) (r : Fin 256) (c : Fin 512) :
    out0_11 (F := Ideal) x0 x1 x2 x3 x4 x5 x6 x7 x8 (ix2 r c)
      = InProjSpec.sigm ((InProjSpec.proj (FfnSpec.normed (fun d => x0 (ix2 r d)) (fun d => x2 (ix2 0 d)) (fun d => x1 (ix3 0 1 d)) (fun d => x1 (ix3 0 0 d)))
          (fun e (k : Fin 512) => x3 (ix2 e ⟨4608 + k.val, by omega⟩))) c) := by
  frame_out
  rw [pay8_at]
  simp only [token]
  pointwise

/-- The gate preactivations of the recurrence. -/
theorem out12_at (x0 : FVec Ideal S256x1024 .f32) (x1 : FVec Ideal S1x6x1024 .f32) (x2 : FVec Ideal S1x1024 .f32) (x3 : FVec Ideal S1024x6528 .bf16)
    (x4 : FVec Ideal S1x128 .f32) (x5 : FVec Ideal S1x256 .f32) (x6 : FVec Ideal S256x1024 .bf16) (x7 x8 : FVec Ideal S1x128 .f32) (r : Fin 256) (c : Fin 128) :
    out0_12 (F := Ideal) x0 x1 x2 x3 x4 x5 x6 x7 x8 (ix2 r c)
      = (InProjSpec.proj (FfnSpec.normed (fun d => x0 (ix2 r d)) (fun d => x2 (ix2 0 d)) (fun d => x1 (ix3 0 1 d)) (fun d => x1 (ix3 0 0 d)))
          (fun e (k : Fin 128) => x3 (ix2 e ⟨5120 + k.val, by omega⟩))) c + x4 (ix2 0 c) := by
  frame_out
  rw [pay9_at]
  simp only [token]
  pointwise

/-- The up-projected latent queries. -/
theorem out13_at (x0 : FVec Ideal S256x1024 .f32) (x1 : FVec Ideal S1x6x1024 .f32) (x2 : FVec Ideal S1x1024 .f32) (x3 : FVec Ideal S1024x6528 .bf16)
    (x4 : FVec Ideal S1x128 .f32) (x5 : FVec Ideal S1x256 .f32) (x6 : FVec Ideal S256x1024 .bf16) (x7 x8 : FVec Ideal S1x128 .f32) (r : Fin 256) (c : Fin 1024) :
    out0_13 (F := Ideal) x0 x1 x2 x3 x4 x5 x6 x7 x8 (ix2 r c)
      = ∑ k : Fin 256, InProjSpec.rms (Ideal.ofBits .f32 0x3B800000#32) (InProjSpec.proj (FfnSpec.normed (fun d => x0 (ix2 r d)) (fun d => x2 (ix2 0 d)) (fun d => x1 (ix3 0 1 d)) (fun d => x1 (ix3 0 0 d)))
          (fun e (k : Fin 256) => x3 (ix2 e ⟨5248 + k.val, by omega⟩)))
          (fun k => x5 (ix2 0 k)) k * x6 (ix2 k c) := by
  frame_out
  rw [pay10_at]
  simp only [token]
  pointwise

/-- The latent keys and values. -/
theorem out14_at (x0 : FVec Ideal S256x1024 .f32) (x1 : FVec Ideal S1x6x1024 .f32) (x2 : FVec Ideal S1x1024 .f32) (x3 : FVec Ideal S1024x6528 .bf16)
    (x4 : FVec Ideal S1x128 .f32) (x5 : FVec Ideal S1x256 .f32) (x6 : FVec Ideal S256x1024 .bf16) (x7 x8 : FVec Ideal S1x128 .f32) (r : Fin 256) (c : Fin 128) :
    out0_14 (F := Ideal) x0 x1 x2 x3 x4 x5 x6 x7 x8 (ix2 r c)
      = InProjSpec.rms (Ideal.ofBits .f32 0x3C000000#32) (InProjSpec.proj (FfnSpec.normed (fun d => x0 (ix2 r d)) (fun d => x2 (ix2 0 d)) (fun d => x1 (ix3 0 1 d)) (fun d => x1 (ix3 0 0 d)))
          (fun e (k : Fin 128) => x3 (ix2 e ⟨5504 + k.val, by omega⟩)))
          (fun k => x7 (ix2 0 k)) c := by
  frame_out
  rw [pay13_at]
  simp only [token]
  pointwise

/-- The rotary key. -/
theorem out15_at (x0 : FVec Ideal S256x1024 .f32) (x1 : FVec Ideal S1x6x1024 .f32) (x2 : FVec Ideal S1x1024 .f32) (x3 : FVec Ideal S1024x6528 .bf16)
    (x4 : FVec Ideal S1x128 .f32) (x5 : FVec Ideal S1x256 .f32) (x6 : FVec Ideal S256x1024 .bf16) (x7 x8 : FVec Ideal S1x128 .f32) (r : Fin 256) (c : Fin 128) :
    out0_15 (F := Ideal) x0 x1 x2 x3 x4 x5 x6 x7 x8 (ix2 r c)
      = (InProjSpec.proj (FfnSpec.normed (fun d => x0 (ix2 r d)) (fun d => x2 (ix2 0 d)) (fun d => x1 (ix3 0 1 d)) (fun d => x1 (ix3 0 0 d)))
          (fun e (k : Fin 128) => x3 (ix2 e ⟨5632 + k.val, by omega⟩))) c := by
  frame_out
  rw [pay14_at]
  simp only [token]
  pointwise

/-- The queries of the grouped attention. -/
theorem out16_at (x0 : FVec Ideal S256x1024 .f32) (x1 : FVec Ideal S1x6x1024 .f32) (x2 : FVec Ideal S1x1024 .f32) (x3 : FVec Ideal S1024x6528 .bf16)
    (x4 : FVec Ideal S1x128 .f32) (x5 : FVec Ideal S1x256 .f32) (x6 : FVec Ideal S256x1024 .bf16) (x7 x8 : FVec Ideal S1x128 .f32) (r : Fin 256) (c : Fin 512) :
    out0_16 (F := Ideal) x0 x1 x2 x3 x4 x5 x6 x7 x8 (ix2 r c)
      = (InProjSpec.proj (FfnSpec.normed (fun d => x0 (ix2 r d)) (fun d => x2 (ix2 0 d)) (fun d => x1 (ix3 0 1 d)) (fun d => x1 (ix3 0 0 d)))
          (fun e (k : Fin 512) => x3 (ix2 e ⟨5760 + k.val, by omega⟩))) c := by
  frame_out
  rw [pay15_at]
  simp only [token]
  pointwise

/-- The keys of the grouped attention. -/
theorem out17_at (x0 : FVec Ideal S256x1024 .f32) (x1 : FVec Ideal S1x6x1024 .f32) (x2 : FVec Ideal S1x1024 .f32) (x3 : FVec Ideal S1024x6528 .bf16)
    (x4 : FVec Ideal S1x128 .f32) (x5 : FVec Ideal S1x256 .f32) (x6 : FVec Ideal S256x1024 .bf16) (x7 x8 : FVec Ideal S1x128 .f32) (r : Fin 256) (c : Fin 128) :
    out0_17 (F := Ideal) x0 x1 x2 x3 x4 x5 x6 x7 x8 (ix2 r c)
      = InProjSpec.heads (Ideal.ofBits .f32 0x3C800000#32) (InProjSpec.proj (FfnSpec.normed (fun d => x0 (ix2 r d)) (fun d => x2 (ix2 0 d)) (fun d => x1 (ix3 0 1 d)) (fun d => x1 (ix3 0 0 d)))
          (fun e (k : Fin 128) => x3 (ix2 e ⟨6272 + k.val, by omega⟩)))
          (fun k => x8 (ix2 0 k)) c := by
  frame_out
  rw [pay1_at]
  simp only [token]
  pointwise

/-- The values of the grouped attention. -/
theorem out18_at (x0 : FVec Ideal S256x1024 .f32) (x1 : FVec Ideal S1x6x1024 .f32) (x2 : FVec Ideal S1x1024 .f32) (x3 : FVec Ideal S1024x6528 .bf16)
    (x4 : FVec Ideal S1x128 .f32) (x5 : FVec Ideal S1x256 .f32) (x6 : FVec Ideal S256x1024 .bf16) (x7 x8 : FVec Ideal S1x128 .f32) (r : Fin 256) (c : Fin 128) :
    out0_18 (F := Ideal) x0 x1 x2 x3 x4 x5 x6 x7 x8 (ix2 r c)
      = (InProjSpec.proj (FfnSpec.normed (fun d => x0 (ix2 r d)) (fun d => x2 (ix2 0 d)) (fun d => x1 (ix3 0 1 d)) (fun d => x1 (ix3 0 0 d)))
          (fun e (k : Fin 128) => x3 (ix2 e ⟨6400 + k.val, by omega⟩))) c := by
  frame_out
  rw [pay2_at]
  simp only [token]
  pointwise

end Cert.InProjKernel

end
-- ==== Proof.InProjReference.lean ====
module

public import proofs.«01_k».proof.Proof.Gen.InProjRefIdeal.Read
public import proofs.«01_k».proof.Proof.InProjSpec

/-! What the reference computes for one token, in the terms of `InProjSpec`. -/

@[expose] public section

set_option maxRecDepth 16384

noncomputable section

namespace Cert.InProjReference

open Cert.InProjRefIdeal Cert.InProjRefIdeal.Gen Cert.InProjRefIdeal.Read Idealize.ShloMosaic Idealize.ShloMosaic.TcCoe Idealize.SL.Sem

variable (x0 : FVec Ideal S8192x1024 .f32) (x1 : FVec Ideal S8x6x1024 .f32) (x2 : FVec Ideal S1024 .f32) (x3 : FVec Ideal S1024x6320 .f32)
  (x4 : FVec Ideal S16 .f32) (x5 : FVec Ideal S256 .f32) (x6 : FVec Ideal S256x768 .f32) (x7 : FVec Ideal S128 .f32) (x8 : FVec Ideal S64 .f32)

/-- The normed and modulated token. -/
theorem normed_at (n : Fin 8192) (d : Fin 1024) :
    val_main_v24 (F := Ideal) x0 x1 x2 (ix2 n d)
      = FfnSpec.normed (fun d => x0 (ix2 n d)) (fun d => x2 (ix1 d)) (fun d => x1 (ix3 0 1 d)) (fun d => x1 (ix3 0 0 d)) d := by
  pointwise! [val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, FfnSpec.normed, FfnSpec.div_1024]

/-- The combined projection. -/
theorem proj_at (n : Fin 8192) (k : Fin 6320) :
    val_main_v25 (F := Ideal) x0 x1 x2 x3 (ix2 n k)
      = InProjSpec.proj (FfnSpec.normed (fun d => x0 (ix2 n d)) (fun d => x2 (ix1 d)) (fun d => x1 (ix3 0 1 d)) (fun d => x1 (ix3 0 0 d))) (fun e k => x3 (ix2 e k)) k := by
  pointwise [val_main_v25]
  simp only [normed_at, InProjSpec.proj]

/-- The columns from 0 on. -/
theorem part26 (n : Fin 8192) (k : Fin 3072) :
    val_main_v26 (F := Ideal) x0 x1 x2 x3 (ix2 n k) = (InProjSpec.proj (FfnSpec.normed (fun d => x0 (ix2 n d)) (fun d => x2 (ix1 d)) (fun d => x1 (ix3 0 1 d)) (fun d => x1 (ix3 0 0 d)))
          (fun e (k : Fin 3072) => x3 (ix2 e ⟨0 + k.val, by omega⟩))) k := by
  pointwise [val_main_v26]
  rw [proj_at]
  simp [InProjSpec.proj]

/-- The columns from 3072 on. -/
theorem part27 (n : Fin 8192) (k : Fin 512) :
    val_main_v27 (F := Ideal) x0 x1 x2 x3 (ix2 n k) = (InProjSpec.proj (FfnSpec.normed (fun d => x0 (ix2 n d)) (fun d => x2 (ix1 d)) (fun d => x1 (ix3 0 1 d)) (fun d => x1 (ix3 0 0 d)))
          (fun e (k : Fin 512) => x3 (ix2 e ⟨3072 + k.val, by omega⟩))) k := by
  pointwise [val_main_v27]
  rw [proj_at]
  simp [InProjSpec.proj]

/-- The columns from 3584 on. -/
theorem part28 (n : Fin 8192) (k : Fin 512) :
    val_main_v28 (F := Ideal) x0 x1 x2 x3 (ix2 n k) = (InProjSpec.proj (FfnSpec.normed (fun d => x0 (ix2 n d)) (fun d => x2 (ix1 d)) (fun d => x1 (ix3 0 1 d)) (fun d => x1 (ix3 0 0 d)))
          (fun e (k : Fin 512) => x3 (ix2 e ⟨3584 + k.val, by omega⟩))) k := by
  pointwise [val_main_v28]
  rw [proj_at]
  simp [InProjSpec.proj]

/-- The columns from 4096 on. -/
theorem part29 (n : Fin 8192) (k : Fin 512) :
    val_main_v29 (F := Ideal) x0 x1 x2 x3 (ix2 n k) = (InProjSpec.proj (FfnSpec.normed (fun d => x0 (ix2 n d)) (fun d => x2 (ix1 d)) (fun d => x1 (ix3 0 1 d)) (fun d => x1 (ix3 0 0 d)))
          (fun e (k : Fin 512) => x3 (ix2 e ⟨4096 + k.val, by omega⟩))) k := by
  pointwise [val_main_v29]
  rw [proj_at]
  simp [InProjSpec.proj]

/-- The columns from 4608 on. -/
theorem part30 (n : Fin 8192) (k : Fin 512) :
    val_main_v30 (F := Ideal) x0 x1 x2 x3 (ix2 n k) = (InProjSpec.proj (FfnSpec.normed (fun d => x0 (ix2 n d)) (fun d => x2 (ix1 d)) (fun d => x1 (ix3 0 1 d)) (fun d => x1 (ix3 0 0 d)))
          (fun e (k : Fin 512) => x3 (ix2 e ⟨4608 + k.val, by omega⟩))) k := by
  pointwise [val_main_v30]
  rw [proj_at]
  simp [InProjSpec.proj]

/-- The columns from 5120 on. -/
theorem part31 (n : Fin 8192) (k : Fin 16) :
    val_main_v31 (F := Ideal) x0 x1 x2 x3 (ix2 n k) = (InProjSpec.proj (FfnSpec.normed (fun d => x0 (ix2 n d)) (fun d => x2 (ix1 d)) (fun d => x1 (ix3 0 1 d)) (fun d => x1 (ix3 0 0 d)))
          (fun e (k : Fin 16) => x3 (ix2 e ⟨5120 + k.val, by omega⟩))) k := by
  pointwise [val_main_v31]
  rw [proj_at]
  simp [InProjSpec.proj]

/-- The columns from 5136 on. -/
theorem part32 (n : Fin 8192) (k : Fin 256) :
    val_main_v32 (F := Ideal) x0 x1 x2 x3 (ix2 n k) = (InProjSpec.proj (FfnSpec.normed (fun d => x0 (ix2 n d)) (fun d => x2 (ix1 d)) (fun d => x1 (ix3 0 1 d)) (fun d => x1 (ix3 0 0 d)))
          (fun e (k : Fin 256) => x3 (ix2 e ⟨5136 + k.val, by omega⟩))) k := by
  pointwise [val_main_v32]
  rw [proj_at]
  simp [InProjSpec.proj]

/-- The columns from 5392 on. -/
theorem part33 (n : Fin 8192) (k : Fin 128) :
    val_main_v33 (F := Ideal) x0 x1 x2 x3 (ix2 n k) = (InProjSpec.proj (FfnSpec.normed (fun d => x0 (ix2 n d)) (fun d => x2 (ix1 d)) (fun d => x1 (ix3 0 1 d)) (fun d => x1 (ix3 0 0 d)))
          (fun e (k : Fin 128) => x3 (ix2 e ⟨5392 + k.val, by omega⟩))) k := by
  pointwise [val_main_v33]
  rw [proj_at]
  simp [InProjSpec.proj]

/-- The columns from 5520 on. -/
theorem part34 (n : Fin 8192) (k : Fin 32) :
    val_main_v34 (F := Ideal) x0 x1 x2 x3 (ix2 n k) = (InProjSpec.proj (FfnSpec.normed (fun d => x0 (ix2 n d)) (fun d => x2 (ix1 d)) (fun d => x1 (ix3 0 1 d)) (fun d => x1 (ix3 0 0 d)))
          (fun e (k : Fin 32) => x3 (ix2 e ⟨5520 + k.val, by omega⟩))) k := by
  pointwise [val_main_v34]
  rw [proj_at]
  simp [InProjSpec.proj]

/-- The columns from 5552 on. -/
theorem part35 (n : Fin 8192) (k : Fin 512) :
    val_main_v35 (F := Ideal) x0 x1 x2 x3 (ix2 n k) = (InProjSpec.proj (FfnSpec.normed (fun d => x0 (ix2 n d)) (fun d => x2 (ix1 d)) (fun d => x1 (ix3 0 1 d)) (fun d => x1 (ix3 0 0 d)))
          (fun e (k : Fin 512) => x3 (ix2 e ⟨5552 + k.val, by omega⟩))) k := by
  pointwise [val_main_v35]
  rw [proj_at]
  simp [InProjSpec.proj]

/-- The columns from 6064 on. -/
theorem part36 (n : Fin 8192) (k : Fin 128) :
    val_main_v36 (F := Ideal) x0 x1 x2 x3 (ix2 n k) = (InProjSpec.proj (FfnSpec.normed (fun d => x0 (ix2 n d)) (fun d => x2 (ix1 d)) (fun d => x1 (ix3 0 1 d)) (fun d => x1 (ix3 0 0 d)))
          (fun e (k : Fin 128) => x3 (ix2 e ⟨6064 + k.val, by omega⟩))) k := by
  pointwise [val_main_v36]
  rw [proj_at]
  simp [InProjSpec.proj]

/-- The columns from 6192 on. -/
theorem part37 (n : Fin 8192) (k : Fin 128) :
    val_main_v37 (F := Ideal) x0 x1 x2 x3 (ix2 n k) = (InProjSpec.proj (FfnSpec.normed (fun d => x0 (ix2 n d)) (fun d => x2 (ix1 d)) (fun d => x1 (ix3 0 1 d)) (fun d => x1 (ix3 0 0 d)))
          (fun e (k : Fin 128) => x3 (ix2 e ⟨6192 + k.val, by omega⟩))) k := by
  pointwise [val_main_v37]
  rw [proj_at]
  simp [InProjSpec.proj]

/-- The branch gates. -/
theorem r43 (n : Fin 8192) (c : Fin 3072) :
    val_main_v43 (F := Ideal) x0 x1 x2 x3 (ix2 n c)
      = InProjSpec.sigm ((InProjSpec.proj (FfnSpec.normed (fun d => x0 (ix2 n d)) (fun d => x2 (ix1 d)) (fun d => x1 (ix3 0 1 d)) (fun d => x1 (ix3 0 0 d)))
          (fun e (k : Fin 3072) => x3 (ix2 e ⟨0 + k.val, by omega⟩))) c) := by
  pointwise [val_main_v43, val_main_v42, val_main_v41, val_main_v40, val_main_v39, val_main_v38, val_main_cst_3, val_main_cst_4, part26, InProjSpec.sigm]

/-- The queries, keys and values of the recurrence. -/
theorem r47 (n : Fin 8192) (c : Fin 1536) :
    val_main_v47 (F := Ideal) x0 x1 x2 x3 (ix2 n c)
      = InProjSpec.qkv (InProjSpec.proj (FfnSpec.normed (fun d => x0 (ix2 n d)) (fun d => x2 (ix1 d)) (fun d => x1 (ix3 0 1 d)) (fun d => x1 (ix3 0 0 d)))
          (fun e (k : Fin 512) => x3 (ix2 e ⟨3072 + k.val, by omega⟩)))
        (InProjSpec.proj (FfnSpec.normed (fun d => x0 (ix2 n d)) (fun d => x2 (ix1 d)) (fun d => x1 (ix3 0 1 d)) (fun d => x1 (ix3 0 0 d)))
          (fun e (k : Fin 512) => x3 (ix2 e ⟨3584 + k.val, by omega⟩)))
        (InProjSpec.proj (FfnSpec.normed (fun d => x0 (ix2 n d)) (fun d => x2 (ix1 d)) (fun d => x1 (ix3 0 1 d)) (fun d => x1 (ix3 0 0 d)))
          (fun e (k : Fin 512) => x3 (ix2 e ⟨4096 + k.val, by omega⟩))) c := by
  pointwise [val_main_v47, val_main_v46, val_main_v45, val_main_v44, val_main_cst_5, part27, part28, part29, InProjSpec.qkv]

/-- The output gate of the recurrence. -/
theorem r53 (n : Fin 8192) (c : Fin 512) :
    val_main_v53 (F := Ideal) x0 x1 x2 x3 (ix2 n c)
      = InProjSpec.sigm ((InProjSpec.proj (FfnSpec.normed (fun d => x0 (ix2 n d)) (fun d => x2 (ix1 d)) (fun d => x1 (ix3 0 1 d)) (fun d => x1 (ix3 0 0 d)))
          (fun e (k : Fin 512) => x3 (ix2 e ⟨4608 + k.val, by omega⟩))) c) := by
  pointwise [val_main_v53, val_main_v52, val_main_v51, val_main_v50, val_main_v49, val_main_v48, val_main_cst_6, val_main_cst_7, part30, InProjSpec.sigm]

/-- The gate preactivations of the recurrence. -/
theorem r57 (n : Fin 8192) (c : Fin 128) :
    val_main_v57 (F := Ideal) x0 x1 x2 x3 x4 (ix2 n c)
      = InProjSpec.pad (fun k : Fin 16 => (InProjSpec.proj (FfnSpec.normed (fun d => x0 (ix2 n d)) (fun d => x2 (ix1 d)) (fun d => x1 (ix3 0 1 d)) (fun d => x1 (ix3 0 0 d)))
          (fun e (k : Fin 16) => x3 (ix2 e ⟨5120 + k.val, by omega⟩))) k + x4 (ix1 k)) c := by
  pointwise [val_main_v57, val_main_v56, val_main_v55, val_main_v54, val_main_c, val_main_call0_v0, part31, InProjSpec.pad]
  rw [InProjSpec.zero]

/-- The normed latent queries. -/
theorem r70 (n : Fin 8192) (c : Fin 256) :
    val_main_v70 (F := Ideal) x0 x1 x2 x3 x5 (ix2 n c)
      = InProjSpec.rms (Ideal.ofBits .f32 0x3B800000#32) (InProjSpec.proj (FfnSpec.normed (fun d => x0 (ix2 n d)) (fun d => x2 (ix1 d)) (fun d => x1 (ix3 0 1 d)) (fun d => x1 (ix3 0 0 d)))
          (fun e (k : Fin 256) => x3 (ix2 e ⟨5136 + k.val, by omega⟩)))
          (fun k => x5 (ix1 k)) c := by
  pointwise [val_main_v70, val_main_v69, val_main_v68, val_main_v67, val_main_v66, val_main_v65, val_main_v64, val_main_v63, val_main_v62, val_main_v61, val_main_v60, val_main_v59, val_main_v58, val_main_cst_8, val_main_cst_9, val_main_cst_10, part32, InProjSpec.rms, InProjSpec.div_256]

/-- The up-projected latent queries, before they are laid out. -/
theorem r71 (n : Fin 8192) (c : Fin 768) :
    val_main_v71 (F := Ideal) x0 x1 x2 x3 x5 x6 (ix2 n c)
      = ∑ k : Fin 256, InProjSpec.rms (Ideal.ofBits .f32 0x3B800000#32) (InProjSpec.proj (FfnSpec.normed (fun d => x0 (ix2 n d)) (fun d => x2 (ix1 d)) (fun d => x1 (ix3 0 1 d)) (fun d => x1 (ix3 0 0 d)))
          (fun e (k : Fin 256) => x3 (ix2 e ⟨5136 + k.val, by omega⟩)))
          (fun k => x5 (ix1 k)) k * x6 (ix2 k c) := by
  pointwise [val_main_v71]
  simp only [r70]

/-- The up-projected latent queries. -/
theorem r77 (n : Fin 8192) (c : Fin 1024) :
    val_main_v77 (F := Ideal) x0 x1 x2 x3 x5 x6 (ix2 n c)
      = InProjSpec.lay (fun c => ∑ k : Fin 256, InProjSpec.rms (Ideal.ofBits .f32 0x3B800000#32) (InProjSpec.proj (FfnSpec.normed (fun d => x0 (ix2 n d)) (fun d => x2 (ix1 d)) (fun d => x1 (ix3 0 1 d)) (fun d => x1 (ix3 0 0 d)))
          (fun e (k : Fin 256) => x3 (ix2 e ⟨5136 + k.val, by omega⟩)))
          (fun k => x5 (ix1 k)) k * x6 (ix2 k c)) c := by
  pointwise [val_main_v77, val_main_v76, val_main_v75, val_main_v74, val_main_v73, val_main_v72, val_main_cst_11, InProjSpec.lay]
  simp only [r71]

/-- The latent keys and values. -/
theorem r90 (n : Fin 8192) (c : Fin 128) :
    val_main_v90 (F := Ideal) x0 x1 x2 x3 x7 (ix2 n c)
      = InProjSpec.rms (Ideal.ofBits .f32 0x3C000000#32) (InProjSpec.proj (FfnSpec.normed (fun d => x0 (ix2 n d)) (fun d => x2 (ix1 d)) (fun d => x1 (ix3 0 1 d)) (fun d => x1 (ix3 0 0 d)))
          (fun e (k : Fin 128) => x3 (ix2 e ⟨5392 + k.val, by omega⟩)))
          (fun k => x7 (ix1 k)) c := by
  pointwise [val_main_v90, val_main_v89, val_main_v88, val_main_v87, val_main_v86, val_main_v85, val_main_v84, val_main_v83, val_main_v82, val_main_v81, val_main_v80, val_main_v79, val_main_v78, val_main_cst_12, val_main_cst_13, val_main_cst_14, part33, InProjSpec.rms, InProjSpec.div_128]

/-- The rotary key. -/
theorem r91 (n : Fin 8192) (c : Fin 128) :
    val_main_v91 (F := Ideal) x0 x1 x2 x3 (ix2 n c)
      = InProjSpec.pad (InProjSpec.proj (FfnSpec.normed (fun d => x0 (ix2 n d)) (fun d => x2 (ix1 d)) (fun d => x1 (ix3 0 1 d)) (fun d => x1 (ix3 0 0 d)))
          (fun e (k : Fin 32) => x3 (ix2 e ⟨5520 + k.val, by omega⟩))) c := by
  pointwise [val_main_v91, val_main_c_15, val_main_call1_v0, part34, InProjSpec.pad]
  rw [InProjSpec.zero]

/-- The keys of the grouped attention. -/
theorem r106 (n : Fin 8192) (c : Fin 128) :
    val_main_v106 (F := Ideal) x0 x1 x2 x3 x8 (ix2 n c)
      = InProjSpec.heads (Ideal.ofBits .f32 0x3C800000#32) (InProjSpec.proj (FfnSpec.normed (fun d => x0 (ix2 n d)) (fun d => x2 (ix1 d)) (fun d => x1 (ix3 0 1 d)) (fun d => x1 (ix3 0 0 d)))
          (fun e (k : Fin 128) => x3 (ix2 e ⟨6064 + k.val, by omega⟩)))
          (fun k => x8 (ix1 ⟨k.val % 64, by omega⟩)) c := by
  pointwise [val_main_v106, val_main_v105, val_main_v104, val_main_v103, val_main_v102, val_main_v101, val_main_v100, val_main_v99, val_main_v98, val_main_v97, val_main_v96, val_main_v95, val_main_v94, val_main_v93, val_main_v92, val_main_cst_16, val_main_cst_17, val_main_cst_18, part36, InProjSpec.heads, InProjSpec.div_64]

end Cert.InProjReference

end
-- ==== Proof.InProjHost.lean ====
module

public import proofs.«01_k».proof.Proof.Gen.InProjIdeal.Frame
public import proofs.«01_k».proof.Proof.InProjSpec
public import Idealize.ShloMosaic.Lib.Pipeline.ValueKit
public import Idealize.ShloMosaic.Lib.StableHlo.RunRead

/-! What the host line makes of the call's weights before the kernel is launched. -/

@[expose] public section

set_option maxRecDepth 16384

noncomputable section

namespace Cert.InProjHost

open Cert.InProjIdeal Cert.InProjIdeal.Gen Idealize.ShloMosaic Idealize.ShloMosaic.TcCoe Idealize.SL.Sem
open Idealize.ShloMosaic.Pipeline (Dat)

variable (m : (ℓ : Loc nD τ sig) → Buf (Elt Ideal) ℓ)

/-- The packed weights' columns of the branch gates. -/
theorem weights0 (c : Dev nD) (e : Fin 1024) (k : Fin 3072) :
    (V m c main_v15 : FVec Ideal S1024x6528 .bf16) (ix2 e ⟨0 + k.val, by omega⟩)
      = (m ((c : Thread nD τ).loc main_arg3) : FVec Ideal S1024x6320 .f32) (ix2 e ⟨0 + k.val, by omega⟩) := by
  unfold V
  after_reads_simp
  pointwise

  after_reads_simp
  pointwise

/-- The packed weights' columns of the recurrence's queries. -/
theorem weights1 (c : Dev nD) (e : Fin 1024) (k : Fin 512) :
    (V m c main_v15 : FVec Ideal S1024x6528 .bf16) (ix2 e ⟨3072 + k.val, by omega⟩)
      = (m ((c : Thread nD τ).loc main_arg3) : FVec Ideal S1024x6320 .f32) (ix2 e ⟨3072 + k.val, by omega⟩) := by
  unfold V
  after_reads_simp
  pointwise

  after_reads_simp
  pointwise

/-- The packed weights' columns of the recurrence's keys. -/
theorem weights2 (c : Dev nD) (e : Fin 1024) (k : Fin 512) :
    (V m c main_v15 : FVec Ideal S1024x6528 .bf16) (ix2 e ⟨3584 + k.val, by omega⟩)
      = (m ((c : Thread nD τ).loc main_arg3) : FVec Ideal S1024x6320 .f32) (ix2 e ⟨3584 + k.val, by omega⟩) := by
  unfold V
  after_reads_simp
  pointwise
  rw [dif_neg (by omega)]
  rw [dif_neg (by omega)]
  rw [dif_pos (by omega)]
  have hk : ∀ h, (⟨3584 + k.val - 3072 - 512, h⟩ : Fin 512) = k := fun h => Fin.ext (by simp only []; omega)
  rw [hk]
  after_reads_simp
  pointwise

/-- The packed weights' columns of the recurrence's values. -/
theorem weights3 (c : Dev nD) (e : Fin 1024) (k : Fin 512) :
    (V m c main_v15 : FVec Ideal S1024x6528 .bf16) (ix2 e ⟨4096 + k.val, by omega⟩)
      = (m ((c : Thread nD τ).loc main_arg3) : FVec Ideal S1024x6320 .f32) (ix2 e ⟨4096 + k.val, by omega⟩) := by
  unfold V
  after_reads_simp
  pointwise
  rw [dif_neg (by omega)]
  rw [dif_neg (by omega)]
  rw [dif_neg (by omega)]
  rw [dif_pos (by omega)]
  have hk : ∀ h, (⟨4096 + k.val - 3072 - 512 - 512, h⟩ : Fin 512) = k := fun h => Fin.ext (by simp only []; omega)
  rw [hk]
  after_reads_simp
  pointwise

/-- The packed weights' columns of the recurrence's output gate. -/
theorem weights4 (c : Dev nD) (e : Fin 1024) (k : Fin 512) :
    (V m c main_v15 : FVec Ideal S1024x6528 .bf16) (ix2 e ⟨4608 + k.val, by omega⟩)
      = (m ((c : Thread nD τ).loc main_arg3) : FVec Ideal S1024x6320 .f32) (ix2 e ⟨4608 + k.val, by omega⟩) := by
  unfold V
  after_reads_simp
  pointwise
  rw [dif_neg (by omega)]
  rw [dif_neg (by omega)]
  rw [dif_neg (by omega)]
  rw [dif_neg (by omega)]
  rw [dif_pos (by omega)]
  have hk : ∀ h, (⟨4608 + k.val - 3072 - 512 - 512 - 512, h⟩ : Fin 512) = k := fun h => Fin.ext (by simp only []; omega)
  rw [hk]
  after_reads_simp
  pointwise

/-- The packed weights' columns of the recurrence's gates, padded with zeros. -/
theorem weights5 (c : Dev nD) (e : Fin 1024) (k : Fin 128) :
    (V m c main_v15 : FVec Ideal S1024x6528 .bf16) (ix2 e ⟨5120 + k.val, by omega⟩)
      = InProjSpec.pad (fun k : Fin 16 => (m ((c : Thread nD τ).loc main_arg3) : FVec Ideal S1024x6320 .f32) (ix2 e ⟨5120 + k.val, by omega⟩)) k := by
  unfold V
  after_reads_simp
  pointwise
  rw [dif_neg (by omega)]
  rw [dif_neg (by omega)]
  rw [dif_neg (by omega)]
  rw [dif_neg (by omega)]
  rw [dif_neg (by omega)]
  rw [dif_pos (by omega)]
  have hk : ∀ h, (⟨5120 + k.val - 3072 - 512 - 512 - 512 - 512, h⟩ : Fin 128) = k := fun h => Fin.ext (by simp only []; omega)
  rw [hk]
  after_reads_simp
  simp only [StableHlo.TRef.toBuf, StableHlo.TRef.ofBuf, cast_cast, cast_eq]
  pointwise [InProjSpec.pad]
  rw [InProjSpec.zero]

/-- The packed weights' columns of the latent queries. -/
theorem weights6 (c : Dev nD) (e : Fin 1024) (k : Fin 256) :
    (V m c main_v15 : FVec Ideal S1024x6528 .bf16) (ix2 e ⟨5248 + k.val, by omega⟩)
      = (m ((c : Thread nD τ).loc main_arg3) : FVec Ideal S1024x6320 .f32) (ix2 e ⟨5136 + k.val, by omega⟩) := by
  unfold V
  after_reads_simp
  pointwise
  rw [dif_neg (by omega)]
  rw [dif_neg (by omega)]
  rw [dif_neg (by omega)]
  rw [dif_neg (by omega)]
  rw [dif_neg (by omega)]
  rw [dif_neg (by omega)]
  rw [dif_pos (by omega)]
  have hk : ∀ h, (⟨5248 + k.val - 3072 - 512 - 512 - 512 - 512 - 128, h⟩ : Fin 256) = k := fun h => Fin.ext (by simp only []; omega)
  rw [hk]
  after_reads_simp
  pointwise

/-- The packed weights' columns of the latent keys and values. -/
theorem weights7 (c : Dev nD) (e : Fin 1024) (k : Fin 128) :
    (V m c main_v15 : FVec Ideal S1024x6528 .bf16) (ix2 e ⟨5504 + k.val, by omega⟩)
      = (m ((c : Thread nD τ).loc main_arg3) : FVec Ideal S1024x6320 .f32) (ix2 e ⟨5392 + k.val, by omega⟩) := by
  unfold V
  after_reads_simp
  pointwise
  rw [dif_neg (by omega)]
  rw [dif_neg (by omega)]
  rw [dif_neg (by omega)]
  rw [dif_neg (by omega)]
  rw [dif_neg (by omega)]
  rw [dif_neg (by omega)]
  rw [dif_neg (by omega)]
  rw [dif_pos (by omega)]
  have hk : ∀ h, (⟨5504 + k.val - 3072 - 512 - 512 - 512 - 512 - 128 - 256, h⟩ : Fin 128) = k := fun h => Fin.ext (by simp only []; omega)
  rw [hk]
  after_reads_simp
  pointwise

/-- The packed weights' columns of the rotary key, padded with zeros. -/
theorem weights8 (c : Dev nD) (e : Fin 1024) (k : Fin 128) :
    (V m c main_v15 : FVec Ideal S1024x6528 .bf16) (ix2 e ⟨5632 + k.val, by omega⟩)
      = InProjSpec.pad (fun k : Fin 32 => (m ((c : Thread nD τ).loc main_arg3) : FVec Ideal S1024x6320 .f32) (ix2 e ⟨5520 + k.val, by omega⟩)) k := by
  unfold V
  after_reads_simp
  pointwise
  rw [dif_neg (by omega)]
  rw [dif_neg (by omega)]
  rw [dif_neg (by omega)]
  rw [dif_neg (by omega)]
  rw [dif_neg (by omega)]
  rw [dif_neg (by omega)]
  rw [dif_neg (by omega)]
  rw [dif_neg (by omega)]
  rw [dif_pos (by omega)]
  have hk : ∀ h, (⟨5632 + k.val - 3072 - 512 - 512 - 512 - 512 - 128 - 256 - 128, h⟩ : Fin 128) = k := fun h => Fin.ext (by simp only []; omega)
  rw [hk]
  after_reads_simp
  simp only [StableHlo.TRef.toBuf, StableHlo.TRef.ofBuf, cast_cast, cast_eq]
  pointwise [InProjSpec.pad]
  rw [InProjSpec.zero]

/-- The packed weights' columns of the grouped queries. -/
theorem weights9 (c : Dev nD) (e : Fin 1024) (k : Fin 512) :
    (V m c main_v15 : FVec Ideal S1024x6528 .bf16) (ix2 e ⟨5760 + k.val, by omega⟩)
      = (m ((c : Thread nD τ).loc main_arg3) : FVec Ideal S1024x6320 .f32) (ix2 e ⟨5552 + k.val, by omega⟩) := by
  unfold V
  after_reads_simp
  pointwise
  rw [dif_neg (by omega)]
  rw [dif_neg (by omega)]
  rw [dif_neg (by omega)]
  rw [dif_neg (by omega)]
  rw [dif_neg (by omega)]
  rw [dif_neg (by omega)]
  rw [dif_neg (by omega)]
  rw [dif_neg (by omega)]
  rw [dif_neg (by omega)]
  rw [dif_pos (by omega)]
  have hk : ∀ h, (⟨5760 + k.val - 3072 - 512 - 512 - 512 - 512 - 128 - 256 - 128 - 128, h⟩ : Fin 512) = k := fun h => Fin.ext (by simp only []; omega)
  rw [hk]
  after_reads_simp
  pointwise

/-- The packed weights' columns of the grouped keys. -/
theorem weights10 (c : Dev nD) (e : Fin 1024) (k : Fin 128) :
    (V m c main_v15 : FVec Ideal S1024x6528 .bf16) (ix2 e ⟨6272 + k.val, by omega⟩)
      = (m ((c : Thread nD τ).loc main_arg3) : FVec Ideal S1024x6320 .f32) (ix2 e ⟨6064 + k.val, by omega⟩) := by
  unfold V
  after_reads_simp
  pointwise
  rw [dif_neg (by omega)]
  rw [dif_neg (by omega)]
  rw [dif_neg (by omega)]
  rw [dif_neg (by omega)]
  rw [dif_neg (by omega)]
  rw [dif_neg (by omega)]
  rw [dif_neg (by omega)]
  rw [dif_neg (by omega)]
  rw [dif_neg (by omega)]
  rw [dif_neg (by omega)]
  rw [dif_pos (by omega)]
  have hk : ∀ h, (⟨6272 + k.val - 3072 - 512 - 512 - 512 - 512 - 128 - 256 - 128 - 128 - 512, h⟩ : Fin 128) = k := fun h => Fin.ext (by simp only []; omega)
  rw [hk]
  after_reads_simp
  pointwise

/-- The packed weights' columns of the grouped values. -/
theorem weights11 (c : Dev nD) (e : Fin 1024) (k : Fin 128) :
    (V m c main_v15 : FVec Ideal S1024x6528 .bf16) (ix2 e ⟨6400 + k.val, by omega⟩)
      = (m ((c : Thread nD τ).loc main_arg3) : FVec Ideal S1024x6320 .f32) (ix2 e ⟨6192 + k.val, by omega⟩) := by
  unfold V
  after_reads_simp
  pointwise
  rw [dif_neg (by omega)]
  rw [dif_neg (by omega)]
  rw [dif_neg (by omega)]
  rw [dif_neg (by omega)]
  rw [dif_neg (by omega)]
  rw [dif_neg (by omega)]
  rw [dif_neg (by omega)]
  rw [dif_neg (by omega)]
  rw [dif_neg (by omega)]
  rw [dif_neg (by omega)]
  rw [dif_neg (by omega)]
  have hk : ∀ h, (⟨6400 + k.val - 3072 - 512 - 512 - 512 - 512 - 128 - 256 - 128 - 128 - 512 - 128, h⟩ : Fin 128) = k := fun h => Fin.ext (by simp only []; omega)
  rw [hk]
  after_reads_simp
  pointwise

/-- The up-projection's weights, laid out per head. -/
theorem up (c : Dev nD) (e : Fin 256) (k : Fin 1024) :
    (V m c main_v27 : FVec Ideal S256x1024 .bf16) (ix2 e k)
      = InProjSpec.lay (fun k => (m ((c : Thread nD τ).loc main_arg6) : FVec Ideal S256x768 .f32) (ix2 e k)) k := by
  unfold V
  after_reads_simp
  pointwise
  after_reads_simp
  pointwise [InProjSpec.lay]

/-- The gates' bias, padded with zeros. -/
theorem bias (c : Dev nD) (k : Fin 128) :
    (V m c main_v17 : FVec Ideal S1x128 .f32) (ix2 0 k)
      = InProjSpec.pad (fun k : Fin 16 => (m ((c : Thread nD τ).loc main_arg4) : FVec Ideal S16 .f32) (ix1 k)) k := by
  unfold V
  after_reads_simp
  simp only [StableHlo.TRef.toBuf, StableHlo.TRef.ofBuf, cast_cast, cast_eq]
  pointwise [InProjSpec.pad]
  rw [InProjSpec.zero]

/-- The keys' gain, for two heads. -/
theorem gain (c : Dev nD) (k : Fin 128) :
    (V m c main_v31 : FVec Ideal S1x128 .f32) (ix2 0 k)
      = (m ((c : Thread nD τ).loc main_arg8) : FVec Ideal S64 .f32) (ix1 ⟨k.val % 64, by omega⟩) := by
  unfold V
  after_reads_simp
  pointwise

/-- The norm's gain. -/
theorem gain1 (c : Dev nD) (k : Fin 1024) :
    (V m c main_v18 : FVec Ideal S1x1024 .f32) (ix2 0 k) = (m ((c : Thread nD τ).loc main_arg2) : FVec Ideal S1024 .f32) (ix1 k) := by
  unfold V
  after_reads_simp
  pointwise

/-- The latent queries' gain. -/
theorem gain2 (c : Dev nD) (k : Fin 256) :
    (V m c main_v19 : FVec Ideal S1x256 .f32) (ix2 0 k) = (m ((c : Thread nD τ).loc main_arg5) : FVec Ideal S256 .f32) (ix1 k) := by
  unfold V
  after_reads_simp
  pointwise

/-- The latent keys' and values' gain. -/
theorem gain3 (c : Dev nD) (k : Fin 128) :
    (V m c main_v20 : FVec Ideal S1x128 .f32) (ix2 0 k) = (m ((c : Thread nD τ).loc main_arg7) : FVec Ideal S128 .f32) (ix1 k) := by
  unfold V
  after_reads_simp
  pointwise

end Cert.InProjHost

end
-- ==== Proof.InProjBlocks.lean ====
module

public import proofs.«01_k».proof.Proof.Gen.InProjIdeal.Frame
public import Idealize.ShloMosaic.Lib.Pipeline.ValueKit

/-! What each grid point's input blocks hold. -/

@[expose] public section

set_option maxRecDepth 16384

noncomputable section

namespace Cert.InProjBlocks

open Cert.InProjIdeal Cert.InProjIdeal.Gen Idealize.ShloMosaic Idealize.ShloMosaic.TcCoe Idealize.SL.Sem
open Idealize.ShloMosaic.Pipeline (Dat)

variable (m : (ℓ : Loc nD τ sig) → Buf (Elt Ideal) ℓ)

/-- The blocks' indices at each point. -/
theorem idx : ∀ t : Fin cfg0.N, win0_0.index t = ![t.val, 0] ∧ win0_1.index t = ![0, 0, 0] ∧ win0_2.index t = ![0, 0] ∧ win0_3.index t = ![0, 0] ∧ win0_4.index t = ![0, 0] ∧ win0_5.index t = ![0, 0] ∧ win0_6.index t = ![0, 0] ∧ win0_7.index t = ![0, 0] ∧ win0_8.index t = ![0, 0]
    ∧ win0_9.index t = ![t.val, 0] ∧ win0_10.index t = ![t.val, 0] ∧ win0_11.index t = ![t.val, 0] ∧ win0_12.index t = ![t.val, 0] ∧ win0_13.index t = ![t.val, 0] ∧ win0_14.index t = ![t.val, 0] ∧ win0_15.index t = ![t.val, 0] ∧ win0_16.index t = ![t.val, 0] ∧ win0_17.index t = ![t.val, 0] ∧ win0_18.index t = ![t.val, 0] :=
  (by decide +kernel : ∀ t : Fin grid0.N, _)

/-- A token's row in its block. -/
theorem blk0 (c : Dev nD) (t : Fin cfg0.N) (r : Fin 256) (d : Fin 1024) (h : t.val * 256 + r.val < 8192) :
    iblk m c 0 t (ix2 r d) = (m ((c : Thread nD τ).loc main_arg0) : FVec Ideal S8192x1024 .f32) (ix2 ⟨t.val * 256 + r.val, h⟩ d) := by
  rw [← V_main_arg0 m c]
  blk_point [iblk, idx t]

/-- The modulation. -/
theorem blk1 (c : Dev nD) (t : Fin cfg0.N) (k : Fin 6) (d : Fin 1024) :
    iblk m c 1 t (ix3 0 k d) = (m ((c : Thread nD τ).loc main_arg1) : FVec Ideal S8x6x1024 .f32) (ix3 0 k d) := by
  rw [← V_main_arg1 m c]
  blk_point [iblk, idx t]

/-- Window 2 sees its whole array. -/
theorem blk2 (c : Dev nD) (t : Fin cfg0.N) (k : Fin 1024) : iblk m c 2 t (ix2 0 k) = V m c main_v18 (ix2 0 k) := by
  blk_point [iblk, idx t]

/-- Window 3 sees its whole array. -/
theorem blk3 (c : Dev nD) (t : Fin cfg0.N) (e : Fin 1024) (k : Fin 6528) : iblk m c 3 t (ix2 e k) = V m c main_v15 (ix2 e k) := by
  blk_point [iblk, idx t]

/-- Window 4 sees its whole array. -/
theorem blk4 (c : Dev nD) (t : Fin cfg0.N) (k : Fin 128) : iblk m c 4 t (ix2 0 k) = V m c main_v17 (ix2 0 k) := by
  blk_point [iblk, idx t]

/-- Window 5 sees its whole array. -/
theorem blk5 (c : Dev nD) (t : Fin cfg0.N) (k : Fin 256) : iblk m c 5 t (ix2 0 k) = V m c main_v19 (ix2 0 k) := by
  blk_point [iblk, idx t]

/-- Window 6 sees its whole array. -/
theorem blk6 (c : Dev nD) (t : Fin cfg0.N) (e : Fin 256) (k : Fin 1024) : iblk m c 6 t (ix2 e k) = V m c main_v27 (ix2 e k) := by
  blk_point [iblk, idx t]

/-- Window 7 sees its whole array. -/
theorem blk7 (c : Dev nD) (t : Fin cfg0.N) (k : Fin 128) : iblk m c 7 t (ix2 0 k) = V m c main_v20 (ix2 0 k) := by
  blk_point [iblk, idx t]

/-- Window 8 sees its whole array. -/
theorem blk8 (c : Dev nD) (t : Fin cfg0.N) (k : Fin 128) : iblk m c 8 t (ix2 0 k) = V m c main_v31 (ix2 0 k) := by
  blk_point [iblk, idx t]

end Cert.InProjBlocks

end
-- ==== Proof.InProjFinal.lean ====
module

public import proofs.«01_k».proof.Proof.InProjOut
public import proofs.«01_k».proof.Proof.InProjReference
public import proofs.«01_k».proof.Proof.InProjHost
public import proofs.«01_k».proof.Proof.InProjBlocks
public import Idealize.ShloMosaic.Lib.Claim

/-! The kernel's ten result arrays are the reference's. -/

@[expose] public section

set_option maxRecDepth 16384

noncomputable section

namespace Cert.InProjFinal

open Cert.InProjIdeal Cert.InProjIdeal.Gen Idealize.ShloMosaic Idealize.ShloMosaic.TcCoe Idealize.SL.Sem
open Idealize.ShloMosaic.Pipeline (Dat)

variable (m : (ℓ : Loc nD τ sig) → Buf (Elt Ideal) ℓ)

/-- The block's columns of the branch gates. -/
theorem weights0 (c : Dev nD) (t : Fin cfg0.N) (e : Fin 1024) (k : Fin 3072) :
    iblk m c 3 t (ix2 e ⟨0 + k.val, by omega⟩) = (m ((c : Thread nD τ).loc main_arg3) : FVec Ideal S1024x6320 .f32) (ix2 e ⟨0 + k.val, by omega⟩) :=
  (InProjBlocks.blk3 m c t e _).trans (InProjHost.weights0 m c e k)

/-- The block's columns of the recurrence's queries. -/
theorem weights1 (c : Dev nD) (t : Fin cfg0.N) (e : Fin 1024) (k : Fin 512) :
    iblk m c 3 t (ix2 e ⟨3072 + k.val, by omega⟩) = (m ((c : Thread nD τ).loc main_arg3) : FVec Ideal S1024x6320 .f32) (ix2 e ⟨3072 + k.val, by omega⟩) :=
  (InProjBlocks.blk3 m c t e _).trans (InProjHost.weights1 m c e k)

/-- The block's columns of the recurrence's keys. -/
theorem weights2 (c : Dev nD) (t : Fin cfg0.N) (e : Fin 1024) (k : Fin 512) :
    iblk m c 3 t (ix2 e ⟨3584 + k.val, by omega⟩) = (m ((c : Thread nD τ).loc main_arg3) : FVec Ideal S1024x6320 .f32) (ix2 e ⟨3584 + k.val, by omega⟩) :=
  (InProjBlocks.blk3 m c t e _).trans (InProjHost.weights2 m c e k)

/-- The block's columns of the recurrence's values. -/
theorem weights3 (c : Dev nD) (t : Fin cfg0.N) (e : Fin 1024) (k : Fin 512) :
    iblk m c 3 t (ix2 e ⟨4096 + k.val, by omega⟩) = (m ((c : Thread nD τ).loc main_arg3) : FVec Ideal S1024x6320 .f32) (ix2 e ⟨4096 + k.val, by omega⟩) :=
  (InProjBlocks.blk3 m c t e _).trans (InProjHost.weights3 m c e k)

/-- The block's columns of the recurrence's output gate. -/
theorem weights4 (c : Dev nD) (t : Fin cfg0.N) (e : Fin 1024) (k : Fin 512) :
    iblk m c 3 t (ix2 e ⟨4608 + k.val, by omega⟩) = (m ((c : Thread nD τ).loc main_arg3) : FVec Ideal S1024x6320 .f32) (ix2 e ⟨4608 + k.val, by omega⟩) :=
  (InProjBlocks.blk3 m c t e _).trans (InProjHost.weights4 m c e k)

/-- The block's columns of the recurrence's gates, padded with zeros. -/
theorem weights5 (c : Dev nD) (t : Fin cfg0.N) (e : Fin 1024) (k : Fin 128) :
    iblk m c 3 t (ix2 e ⟨5120 + k.val, by omega⟩) = InProjSpec.pad (fun k : Fin 16 => (m ((c : Thread nD τ).loc main_arg3) : FVec Ideal S1024x6320 .f32) (ix2 e ⟨5120 + k.val, by omega⟩)) k :=
  (InProjBlocks.blk3 m c t e _).trans (InProjHost.weights5 m c e k)

/-- The block's columns of the latent queries. -/
theorem weights6 (c : Dev nD) (t : Fin cfg0.N) (e : Fin 1024) (k : Fin 256) :
    iblk m c 3 t (ix2 e ⟨5248 + k.val, by omega⟩) = (m ((c : Thread nD τ).loc main_arg3) : FVec Ideal S1024x6320 .f32) (ix2 e ⟨5136 + k.val, by omega⟩) :=
  (InProjBlocks.blk3 m c t e _).trans (InProjHost.weights6 m c e k)

/-- The block's columns of the latent keys and values. -/
theorem weights7 (c : Dev nD) (t : Fin cfg0.N) (e : Fin 1024) (k : Fin 128) :
    iblk m c 3 t (ix2 e ⟨5504 + k.val, by omega⟩) = (m ((c : Thread nD τ).loc main_arg3) : FVec Ideal S1024x6320 .f32) (ix2 e ⟨5392 + k.val, by omega⟩) :=
  (InProjBlocks.blk3 m c t e _).trans (InProjHost.weights7 m c e k)

/-- The block's columns of the rotary key, padded with zeros. -/
theorem weights8 (c : Dev nD) (t : Fin cfg0.N) (e : Fin 1024) (k : Fin 128) :
    iblk m c 3 t (ix2 e ⟨5632 + k.val, by omega⟩) = InProjSpec.pad (fun k : Fin 32 => (m ((c : Thread nD τ).loc main_arg3) : FVec Ideal S1024x6320 .f32) (ix2 e ⟨5520 + k.val, by omega⟩)) k :=
  (InProjBlocks.blk3 m c t e _).trans (InProjHost.weights8 m c e k)

/-- The block's columns of the grouped queries. -/
theorem weights9 (c : Dev nD) (t : Fin cfg0.N) (e : Fin 1024) (k : Fin 512) :
    iblk m c 3 t (ix2 e ⟨5760 + k.val, by omega⟩) = (m ((c : Thread nD τ).loc main_arg3) : FVec Ideal S1024x6320 .f32) (ix2 e ⟨5552 + k.val, by omega⟩) :=
  (InProjBlocks.blk3 m c t e _).trans (InProjHost.weights9 m c e k)

/-- The block's columns of the grouped keys. -/
theorem weights10 (c : Dev nD) (t : Fin cfg0.N) (e : Fin 1024) (k : Fin 128) :
    iblk m c 3 t (ix2 e ⟨6272 + k.val, by omega⟩) = (m ((c : Thread nD τ).loc main_arg3) : FVec Ideal S1024x6320 .f32) (ix2 e ⟨6064 + k.val, by omega⟩) :=
  (InProjBlocks.blk3 m c t e _).trans (InProjHost.weights10 m c e k)

/-- The block's columns of the grouped values. -/
theorem weights11 (c : Dev nD) (t : Fin cfg0.N) (e : Fin 1024) (k : Fin 128) :
    iblk m c 3 t (ix2 e ⟨6400 + k.val, by omega⟩) = (m ((c : Thread nD τ).loc main_arg3) : FVec Ideal S1024x6320 .f32) (ix2 e ⟨6192 + k.val, by omega⟩) :=
  (InProjBlocks.blk3 m c t e _).trans (InProjHost.weights11 m c e k)

/-- The block of the norm's gain. -/
theorem gain1 (c : Dev nD) (t : Fin cfg0.N) (k : Fin 1024) : iblk m c 2 t (ix2 0 k) = (m ((c : Thread nD τ).loc main_arg2) : FVec Ideal S1024 .f32) (ix1 k) :=
  (InProjBlocks.blk2 m c t k).trans (InProjHost.gain1 m c k)

/-- The block of the latent queries' gain. -/
theorem gain2 (c : Dev nD) (t : Fin cfg0.N) (k : Fin 256) : iblk m c 5 t (ix2 0 k) = (m ((c : Thread nD τ).loc main_arg5) : FVec Ideal S256 .f32) (ix1 k) :=
  (InProjBlocks.blk5 m c t k).trans (InProjHost.gain2 m c k)

/-- The block of the latent keys' and values' gain. -/
theorem gain3 (c : Dev nD) (t : Fin cfg0.N) (k : Fin 128) : iblk m c 7 t (ix2 0 k) = (m ((c : Thread nD τ).loc main_arg7) : FVec Ideal S128 .f32) (ix1 k) :=
  (InProjBlocks.blk7 m c t k).trans (InProjHost.gain3 m c k)

/-- The block of the keys' gain. -/
theorem gain (c : Dev nD) (t : Fin cfg0.N) (k : Fin 128) : iblk m c 8 t (ix2 0 k) = (m ((c : Thread nD τ).loc main_arg8) : FVec Ideal S64 .f32) (ix1 ⟨k.val % 64, by omega⟩) :=
  (InProjBlocks.blk8 m c t k).trans (InProjHost.gain m c k)

/-- The block of the gates' bias. -/
theorem bias (c : Dev nD) (t : Fin cfg0.N) (k : Fin 128) : iblk m c 4 t (ix2 0 k) = InProjSpec.pad (fun k : Fin 16 => (m ((c : Thread nD τ).loc main_arg4) : FVec Ideal S16 .f32) (ix1 k)) k :=
  (InProjBlocks.blk4 m c t k).trans (InProjHost.bias m c k)

/-- The block of the up-projection. -/
theorem up (c : Dev nD) (t : Fin cfg0.N) (e : Fin 256) (k : Fin 1024) : iblk m c 6 t (ix2 e k) = InProjSpec.lay (fun k => (m ((c : Thread nD τ).loc main_arg6) : FVec Ideal S256x768 .f32) (ix2 e k)) k :=
  (InProjBlocks.blk6 m c t e k).trans (InProjHost.up m c e k)

/-- The reference's result over the kernel's arguments: the branch gates. -/
abbrev REF9 (c : Dev nD) : FVec Ideal S8192x3072 .f32 :=
  Cert.InProjRefIdeal.Read.val_main_v43 (F := Ideal) (m ((c : Thread nD τ).loc main_arg0)) (m ((c : Thread nD τ).loc main_arg1)) (m ((c : Thread nD τ).loc main_arg2)) (m ((c : Thread nD τ).loc main_arg3))

/-- What each point writes at a position of its block is the reference's value at that place of the array: the branch gates. -/
theorem point9 (c : Dev nD) (t : Fin cfg0.N) (y : S256x3072.Idx) :
    out0_9 (iblk m c 0 t) (iblk m c 1 t) (iblk m c 2 t) (iblk m c 3 t) (iblk m c 4 t) (iblk m c 5 t) (iblk m c 6 t) (iblk m c 7 t) (iblk m c 8 t) y
      = REF9 m c (((cfg0.win 9).blk t).view.emb y) := by
  obtain ⟨r, d, rfl⟩ : ∃ (r : Fin 256) (d : Fin 3072), y = ix2 r d := ⟨y 0, y 1, eq_ix2 y⟩
  have ht : t.val < 32 := t.isLt
  have e : ((cfg0.win 9).blk t).view.emb (ix2 r d) = ix2 (⟨t.val * 256 + r.val, by omega⟩ : Fin 8192) d := by
    blk_ext [InProjBlocks.idx t]
  have h0 := fun d => InProjBlocks.blk0 m c t r d (by omega)
  rw [e]
  refine (InProjKernel.out9_at _ _ _ _ _ _ _ _ _ r d).trans (Eq.trans ?_ (InProjReference.r43 _ _ _ _ _ d).symm)
  simp only [h0, InProjBlocks.blk1, gain1, weights0,
    InProjSpec.proj_pad, InProjSpec.pad_add, InProjSpec.lay_sum]

/-- The result array after the run is the reference's: the branch gates. -/
theorem final9 (c : Dev nD) : (dats m 0 c).arrAt 9 (cfgs 0).N = REF9 m c := by
  refine (dats m 0 c).arrAt_eq_of_covers 9 _ (by decide +kernel) fun t _ y => ?_
  blk_simp
  rw [after0_9]
  exact point9 m c t y

/-- The reference's result over the kernel's arguments: the recurrence's queries, keys and values. -/
abbrev REF10 (c : Dev nD) : FVec Ideal S8192x1536 .bf16 :=
  Cert.InProjRefIdeal.Read.val_main_v47 (F := Ideal) (m ((c : Thread nD τ).loc main_arg0)) (m ((c : Thread nD τ).loc main_arg1)) (m ((c : Thread nD τ).loc main_arg2)) (m ((c : Thread nD τ).loc main_arg3))

/-- What each point writes at a position of its block is the reference's value at that place of the array: the recurrence's queries, keys and values. -/
theorem point10 (c : Dev nD) (t : Fin cfg0.N) (y : S256x1536.Idx) :
    out0_10 (iblk m c 0 t) (iblk m c 1 t) (iblk m c 2 t) (iblk m c 3 t) (iblk m c 4 t) (iblk m c 5 t) (iblk m c 6 t) (iblk m c 7 t) (iblk m c 8 t) y
      = REF10 m c (((cfg0.win 10).blk t).view.emb y) := by
  obtain ⟨r, d, rfl⟩ : ∃ (r : Fin 256) (d : Fin 1536), y = ix2 r d := ⟨y 0, y 1, eq_ix2 y⟩
  have ht : t.val < 32 := t.isLt
  have e : ((cfg0.win 10).blk t).view.emb (ix2 r d) = ix2 (⟨t.val * 256 + r.val, by omega⟩ : Fin 8192) d := by
    blk_ext [InProjBlocks.idx t]
  have h0 := fun d => InProjBlocks.blk0 m c t r d (by omega)
  rw [e]
  refine (InProjKernel.out10_at _ _ _ _ _ _ _ _ _ r d).trans (Eq.trans ?_ (InProjReference.r47 _ _ _ _ _ d).symm)
  simp only [h0, InProjBlocks.blk1, gain1, weights1, weights2, weights3,
    InProjSpec.proj_pad, InProjSpec.pad_add, InProjSpec.lay_sum]

/-- The result array after the run is the reference's: the recurrence's queries, keys and values. -/
theorem final10 (c : Dev nD) : (dats m 0 c).arrAt 10 (cfgs 0).N = REF10 m c := by
  refine (dats m 0 c).arrAt_eq_of_covers 10 _ (by decide +kernel) fun t _ y => ?_
  blk_simp
  rw [after0_10]
  exact point10 m c t y

/-- The reference's result over the kernel's arguments: the recurrence's output gate. -/
abbrev REF11 (c : Dev nD) : FVec Ideal S8192x512 .f32 :=
  Cert.InProjRefIdeal.Read.val_main_v53 (F := Ideal) (m ((c : Thread nD τ).loc main_arg0)) (m ((c : Thread nD τ).loc main_arg1)) (m ((c : Thread nD τ).loc main_arg2)) (m ((c : Thread nD τ).loc main_arg3))

/-- What each point writes at a position of its block is the reference's value at that place of the array: the recurrence's output gate. -/
theorem point11 (c : Dev nD) (t : Fin cfg0.N) (y : S256x512.Idx) :
    out0_11 (iblk m c 0 t) (iblk m c 1 t) (iblk m c 2 t) (iblk m c 3 t) (iblk m c 4 t) (iblk m c 5 t) (iblk m c 6 t) (iblk m c 7 t) (iblk m c 8 t) y
      = REF11 m c (((cfg0.win 11).blk t).view.emb y) := by
  obtain ⟨r, d, rfl⟩ : ∃ (r : Fin 256) (d : Fin 512), y = ix2 r d := ⟨y 0, y 1, eq_ix2 y⟩
  have ht : t.val < 32 := t.isLt
  have e : ((cfg0.win 11).blk t).view.emb (ix2 r d) = ix2 (⟨t.val * 256 + r.val, by omega⟩ : Fin 8192) d := by
    blk_ext [InProjBlocks.idx t]
  have h0 := fun d => InProjBlocks.blk0 m c t r d (by omega)
  rw [e]
  refine (InProjKernel.out11_at _ _ _ _ _ _ _ _ _ r d).trans (Eq.trans ?_ (InProjReference.r53 _ _ _ _ _ d).symm)
  simp only [h0, InProjBlocks.blk1, gain1, weights4,
    InProjSpec.proj_pad, InProjSpec.pad_add, InProjSpec.lay_sum]

/-- The result array after the run is the reference's: the recurrence's output gate. -/
theorem final11 (c : Dev nD) : (dats m 0 c).arrAt 11 (cfgs 0).N = REF11 m c := by
  refine (dats m 0 c).arrAt_eq_of_covers 11 _ (by decide +kernel) fun t _ y => ?_
  blk_simp
  rw [after0_11]
  exact point11 m c t y

/-- The reference's result over the kernel's arguments: the recurrence's gate preactivations. -/
abbrev REF12 (c : Dev nD) : FVec Ideal S8192x128 .f32 :=
  Cert.InProjRefIdeal.Read.val_main_v57 (F := Ideal) (m ((c : Thread nD τ).loc main_arg0)) (m ((c : Thread nD τ).loc main_arg1)) (m ((c : Thread nD τ).loc main_arg2)) (m ((c : Thread nD τ).loc main_arg3)) (m ((c : Thread nD τ).loc main_arg4))

/-- What each point writes at a position of its block is the reference's value at that place of the array: the recurrence's gate preactivations. -/
theorem point12 (c : Dev nD) (t : Fin cfg0.N) (y : S256x128.Idx) :
    out0_12 (iblk m c 0 t) (iblk m c 1 t) (iblk m c 2 t) (iblk m c 3 t) (iblk m c 4 t) (iblk m c 5 t) (iblk m c 6 t) (iblk m c 7 t) (iblk m c 8 t) y
      = REF12 m c (((cfg0.win 12).blk t).view.emb y) := by
  obtain ⟨r, d, rfl⟩ : ∃ (r : Fin 256) (d : Fin 128), y = ix2 r d := ⟨y 0, y 1, eq_ix2 y⟩
  have ht : t.val < 32 := t.isLt
  have e : ((cfg0.win 12).blk t).view.emb (ix2 r d) = ix2 (⟨t.val * 256 + r.val, by omega⟩ : Fin 8192) d := by
    blk_ext [InProjBlocks.idx t]
  have h0 := fun d => InProjBlocks.blk0 m c t r d (by omega)
  rw [e]
  refine (InProjKernel.out12_at _ _ _ _ _ _ _ _ _ r d).trans (Eq.trans ?_ (InProjReference.r57 _ _ _ _ _ _ d).symm)
  simp only [h0, InProjBlocks.blk1, gain1, weights5, bias,
    InProjSpec.proj_pad, InProjSpec.pad_add, InProjSpec.lay_sum]

/-- The result array after the run is the reference's: the recurrence's gate preactivations. -/
theorem final12 (c : Dev nD) : (dats m 0 c).arrAt 12 (cfgs 0).N = REF12 m c := by
  refine (dats m 0 c).arrAt_eq_of_covers 12 _ (by decide +kernel) fun t _ y => ?_
  blk_simp
  rw [after0_12]
  exact point12 m c t y

/-- The reference's result over the kernel's arguments: the up-projected latent queries. -/
abbrev REF13 (c : Dev nD) : FVec Ideal S8192x1024 .f32 :=
  Cert.InProjRefIdeal.Read.val_main_v77 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6))

/-- What each point writes at a position of its block is the reference's value at that place of the array: the up-projected latent queries. -/
theorem point13 (c : Dev nD) (t : Fin cfg0.N) (y : S256x1024.Idx) :
    out0_13 (iblk m c 0 t) (iblk m c 1 t) (iblk m c 2 t) (iblk m c 3 t) (iblk m c 4 t) (iblk m c 5 t) (iblk m c 6 t) (iblk m c 7 t) (iblk m c 8 t) y
      = REF13 m c (((cfg0.win 13).blk t).view.emb y) := by
  obtain ⟨r, d, rfl⟩ : ∃ (r : Fin 256) (d : Fin 1024), y = ix2 r d := ⟨y 0, y 1, eq_ix2 y⟩
  have ht : t.val < 32 := t.isLt
  have e : ((cfg0.win 13).blk t).view.emb (ix2 r d) = ix2 (⟨t.val * 256 + r.val, by omega⟩ : Fin 8192) d := by
    blk_ext [InProjBlocks.idx t]
  have h0 := fun d => InProjBlocks.blk0 m c t r d (by omega)
  rw [e]
  refine (InProjKernel.out13_at _ _ _ _ _ _ _ _ _ r d).trans (Eq.trans ?_ (InProjReference.r77 _ _ _ _ _ _ _ d).symm)
  simp only [h0, InProjBlocks.blk1, gain1, weights6, gain2, up,
    InProjSpec.proj_pad, InProjSpec.pad_add, InProjSpec.lay_sum]

/-- The result array after the run is the reference's: the up-projected latent queries. -/
theorem final13 (c : Dev nD) : (dats m 0 c).arrAt 13 (cfgs 0).N = REF13 m c := by
  refine (dats m 0 c).arrAt_eq_of_covers 13 _ (by decide +kernel) fun t _ y => ?_
  blk_simp
  rw [after0_13]
  exact point13 m c t y

/-- The reference's result over the kernel's arguments: the latent keys and values. -/
abbrev REF14 (c : Dev nD) : FVec Ideal S8192x128 .f32 :=
  Cert.InProjRefIdeal.Read.val_main_v90 (F := Ideal) (m ((c : Thread nD τ).loc main_arg0)) (m ((c : Thread nD τ).loc main_arg1)) (m ((c : Thread nD τ).loc main_arg2)) (m ((c : Thread nD τ).loc main_arg3)) (m ((c : Thread nD τ).loc main_arg7))

/-- What each point writes at a position of its block is the reference's value at that place of the array: the latent keys and values. -/
theorem point14 (c : Dev nD) (t : Fin cfg0.N) (y : S256x128.Idx) :
    out0_14 (iblk m c 0 t) (iblk m c 1 t) (iblk m c 2 t) (iblk m c 3 t) (iblk m c 4 t) (iblk m c 5 t) (iblk m c 6 t) (iblk m c 7 t) (iblk m c 8 t) y
      = REF14 m c (((cfg0.win 14).blk t).view.emb y) := by
  obtain ⟨r, d, rfl⟩ : ∃ (r : Fin 256) (d : Fin 128), y = ix2 r d := ⟨y 0, y 1, eq_ix2 y⟩
  have ht : t.val < 32 := t.isLt
  have e : ((cfg0.win 14).blk t).view.emb (ix2 r d) = ix2 (⟨t.val * 256 + r.val, by omega⟩ : Fin 8192) d := by
    blk_ext [InProjBlocks.idx t]
  have h0 := fun d => InProjBlocks.blk0 m c t r d (by omega)
  rw [e]
  refine (InProjKernel.out14_at _ _ _ _ _ _ _ _ _ r d).trans (Eq.trans ?_ (InProjReference.r90 _ _ _ _ _ _ d).symm)
  simp only [h0, InProjBlocks.blk1, gain1, weights7, gain3,
    InProjSpec.proj_pad, InProjSpec.pad_add, InProjSpec.lay_sum]

/-- The result array after the run is the reference's: the latent keys and values. -/
theorem final14 (c : Dev nD) : (dats m 0 c).arrAt 14 (cfgs 0).N = REF14 m c := by
  refine (dats m 0 c).arrAt_eq_of_covers 14 _ (by decide +kernel) fun t _ y => ?_
  blk_simp
  rw [after0_14]
  exact point14 m c t y

/-- The reference's result over the kernel's arguments: the rotary key. -/
abbrev REF15 (c : Dev nD) : FVec Ideal S8192x128 .f32 :=
  Cert.InProjRefIdeal.Read.val_main_v91 (F := Ideal) (m ((c : Thread nD τ).loc main_arg0)) (m ((c : Thread nD τ).loc main_arg1)) (m ((c : Thread nD τ).loc main_arg2)) (m ((c : Thread nD τ).loc main_arg3))

/-- What each point writes at a position of its block is the reference's value at that place of the array: the rotary key. -/
theorem point15 (c : Dev nD) (t : Fin cfg0.N) (y : S256x128.Idx) :
    out0_15 (iblk m c 0 t) (iblk m c 1 t) (iblk m c 2 t) (iblk m c 3 t) (iblk m c 4 t) (iblk m c 5 t) (iblk m c 6 t) (iblk m c 7 t) (iblk m c 8 t) y
      = REF15 m c (((cfg0.win 15).blk t).view.emb y) := by
  obtain ⟨r, d, rfl⟩ : ∃ (r : Fin 256) (d : Fin 128), y = ix2 r d := ⟨y 0, y 1, eq_ix2 y⟩
  have ht : t.val < 32 := t.isLt
  have e : ((cfg0.win 15).blk t).view.emb (ix2 r d) = ix2 (⟨t.val * 256 + r.val, by omega⟩ : Fin 8192) d := by
    blk_ext [InProjBlocks.idx t]
  have h0 := fun d => InProjBlocks.blk0 m c t r d (by omega)
  rw [e]
  refine (InProjKernel.out15_at _ _ _ _ _ _ _ _ _ r d).trans (Eq.trans ?_ (InProjReference.r91 _ _ _ _ _ d).symm)
  simp only [h0, InProjBlocks.blk1, gain1, weights8,
    InProjSpec.proj_pad, InProjSpec.pad_add, InProjSpec.lay_sum]

/-- The result array after the run is the reference's: the rotary key. -/
theorem final15 (c : Dev nD) : (dats m 0 c).arrAt 15 (cfgs 0).N = REF15 m c := by
  refine (dats m 0 c).arrAt_eq_of_covers 15 _ (by decide +kernel) fun t _ y => ?_
  blk_simp
  rw [after0_15]
  exact point15 m c t y

/-- The reference's result over the kernel's arguments: the grouped queries. -/
abbrev REF16 (c : Dev nD) : FVec Ideal S8192x512 .f32 :=
  Cert.InProjRefIdeal.Read.val_main_v35 (F := Ideal) (m ((c : Thread nD τ).loc main_arg0)) (m ((c : Thread nD τ).loc main_arg1)) (m ((c : Thread nD τ).loc main_arg2)) (m ((c : Thread nD τ).loc main_arg3))

/-- What each point writes at a position of its block is the reference's value at that place of the array: the grouped queries. -/
theorem point16 (c : Dev nD) (t : Fin cfg0.N) (y : S256x512.Idx) :
    out0_16 (iblk m c 0 t) (iblk m c 1 t) (iblk m c 2 t) (iblk m c 3 t) (iblk m c 4 t) (iblk m c 5 t) (iblk m c 6 t) (iblk m c 7 t) (iblk m c 8 t) y
      = REF16 m c (((cfg0.win 16).blk t).view.emb y) := by
  obtain ⟨r, d, rfl⟩ : ∃ (r : Fin 256) (d : Fin 512), y = ix2 r d := ⟨y 0, y 1, eq_ix2 y⟩
  have ht : t.val < 32 := t.isLt
  have e : ((cfg0.win 16).blk t).view.emb (ix2 r d) = ix2 (⟨t.val * 256 + r.val, by omega⟩ : Fin 8192) d := by
    blk_ext [InProjBlocks.idx t]
  have h0 := fun d => InProjBlocks.blk0 m c t r d (by omega)
  rw [e]
  refine (InProjKernel.out16_at _ _ _ _ _ _ _ _ _ r d).trans (Eq.trans ?_ (InProjReference.part35 _ _ _ _ _ d).symm)
  simp only [h0, InProjBlocks.blk1, gain1, weights9,
    InProjSpec.proj_pad, InProjSpec.pad_add, InProjSpec.lay_sum]

/-- The result array after the run is the reference's: the grouped queries. -/
theorem final16 (c : Dev nD) : (dats m 0 c).arrAt 16 (cfgs 0).N = REF16 m c := by
  refine (dats m 0 c).arrAt_eq_of_covers 16 _ (by decide +kernel) fun t _ y => ?_
  blk_simp
  rw [after0_16]
  exact point16 m c t y

/-- The reference's result over the kernel's arguments: the grouped keys. -/
abbrev REF17 (c : Dev nD) : FVec Ideal S8192x128 .f32 :=
  Cert.InProjRefIdeal.Read.val_main_v106 (F := Ideal) (m ((c : Thread nD τ).loc main_arg0)) (m ((c : Thread nD τ).loc main_arg1)) (m ((c : Thread nD τ).loc main_arg2)) (m ((c : Thread nD τ).loc main_arg3)) (m ((c : Thread nD τ).loc main_arg8))

/-- What each point writes at a position of its block is the reference's value at that place of the array: the grouped keys. -/
theorem point17 (c : Dev nD) (t : Fin cfg0.N) (y : S256x128.Idx) :
    out0_17 (iblk m c 0 t) (iblk m c 1 t) (iblk m c 2 t) (iblk m c 3 t) (iblk m c 4 t) (iblk m c 5 t) (iblk m c 6 t) (iblk m c 7 t) (iblk m c 8 t) y
      = REF17 m c (((cfg0.win 17).blk t).view.emb y) := by
  obtain ⟨r, d, rfl⟩ : ∃ (r : Fin 256) (d : Fin 128), y = ix2 r d := ⟨y 0, y 1, eq_ix2 y⟩
  have ht : t.val < 32 := t.isLt
  have e : ((cfg0.win 17).blk t).view.emb (ix2 r d) = ix2 (⟨t.val * 256 + r.val, by omega⟩ : Fin 8192) d := by
    blk_ext [InProjBlocks.idx t]
  have h0 := fun d => InProjBlocks.blk0 m c t r d (by omega)
  rw [e]
  refine (InProjKernel.out17_at _ _ _ _ _ _ _ _ _ r d).trans (Eq.trans ?_ (InProjReference.r106 _ _ _ _ _ _ d).symm)
  simp only [h0, InProjBlocks.blk1, gain1, weights10, gain,
    InProjSpec.proj_pad, InProjSpec.pad_add, InProjSpec.lay_sum]

/-- The result array after the run is the reference's: the grouped keys. -/
theorem final17 (c : Dev nD) : (dats m 0 c).arrAt 17 (cfgs 0).N = REF17 m c := by
  refine (dats m 0 c).arrAt_eq_of_covers 17 _ (by decide +kernel) fun t _ y => ?_
  blk_simp
  rw [after0_17]
  exact point17 m c t y

/-- The reference's result over the kernel's arguments: the grouped values. -/
abbrev REF18 (c : Dev nD) : FVec Ideal S8192x128 .f32 :=
  Cert.InProjRefIdeal.Read.val_main_v37 (F := Ideal) (m ((c : Thread nD τ).loc main_arg0)) (m ((c : Thread nD τ).loc main_arg1)) (m ((c : Thread nD τ).loc main_arg2)) (m ((c : Thread nD τ).loc main_arg3))

/-- What each point writes at a position of its block is the reference's value at that place of the array: the grouped values. -/
theorem point18 (c : Dev nD) (t : Fin cfg0.N) (y : S256x128.Idx) :
    out0_18 (iblk m c 0 t) (iblk m c 1 t) (iblk m c 2 t) (iblk m c 3 t) (iblk m c 4 t) (iblk m c 5 t) (iblk m c 6 t) (iblk m c 7 t) (iblk m c 8 t) y
      = REF18 m c (((cfg0.win 18).blk t).view.emb y) := by
  obtain ⟨r, d, rfl⟩ : ∃ (r : Fin 256) (d : Fin 128), y = ix2 r d := ⟨y 0, y 1, eq_ix2 y⟩
  have ht : t.val < 32 := t.isLt
  have e : ((cfg0.win 18).blk t).view.emb (ix2 r d) = ix2 (⟨t.val * 256 + r.val, by omega⟩ : Fin 8192) d := by
    blk_ext [InProjBlocks.idx t]
  have h0 := fun d => InProjBlocks.blk0 m c t r d (by omega)
  rw [e]
  refine (InProjKernel.out18_at _ _ _ _ _ _ _ _ _ r d).trans (Eq.trans ?_ (InProjReference.part37 _ _ _ _ _ d).symm)
  simp only [h0, InProjBlocks.blk1, gain1, weights11,
    InProjSpec.proj_pad, InProjSpec.pad_add, InProjSpec.lay_sum]

/-- The result array after the run is the reference's: the grouped values. -/
theorem final18 (c : Dev nD) : (dats m 0 c).arrAt 18 (cfgs 0).N = REF18 m c := by
  refine (dats m 0 c).arrAt_eq_of_covers 18 _ (by decide +kernel) fun t _ y => ?_
  blk_simp
  rw [after0_18]
  exact point18 m c t y

end Cert.InProjFinal

end
-- ==== Proof.InProjClaim.lean ====
module

public import proofs.«01_k».proof.Defs
public import proofs.«01_k».proof.Proof.InProjFinal
public import proofs.«01_k».proof.Proof.Gen.InProjIdeal.Frame
public import proofs.«01_k».proof.Proof.Gen.InProjRefIdeal.Run
public import proofs.«01_k».proof.Proof.Gen.InProjRefIdeal.Read
public import Idealize.ShloMosaic.Lib.Claim

/-! The claims about the input projections: the reference runs and keeps its arguments; the kernel's results are the reference's. -/

@[expose] public section

set_option maxRecDepth 16384

noncomputable section

namespace Cert.InProjClaim

open Idealize.ShloMosaic Idealize.ShloMosaic.TcCoe Idealize.SL.Sem

set_option maxHeartbeats 2000000 in
/-- The kernel's run ends with the reference's functions of its arguments in its ten results, the arguments kept. -/
theorem kernel_run (m : (ℓ : Loc Cert.InProjIdeal.nD Cert.InProjIdeal.τ Cert.InProjIdeal.sig) → Buf (Elt Ideal) ℓ) (g : Dev Cert.InProjIdeal.nD → PrngReg) :
    θ_run (Cert.InProjIdeal.defs (F := Ideal)) (onTc (τ := Cert.InProjIdeal.τ) (Cert.InProjIdeal.main (F := Ideal))) ⟨m, fun _ => 0, g⟩ (fun r => ∀ c : Dev Cert.InProjIdeal.nD,
      r.2.mem ((c.tc : Thread Cert.InProjIdeal.nD Cert.InProjIdeal.τ).loc Cert.InProjIdeal.main_v32_0) = InProjFinal.REF9 m c
      ∧ r.2.mem ((c.tc : Thread Cert.InProjIdeal.nD Cert.InProjIdeal.τ).loc Cert.InProjIdeal.main_v32_1) = InProjFinal.REF10 m c
      ∧ r.2.mem ((c.tc : Thread Cert.InProjIdeal.nD Cert.InProjIdeal.τ).loc Cert.InProjIdeal.main_v32_2) = InProjFinal.REF11 m c
      ∧ r.2.mem ((c.tc : Thread Cert.InProjIdeal.nD Cert.InProjIdeal.τ).loc Cert.InProjIdeal.main_v32_3) = InProjFinal.REF12 m c
      ∧ r.2.mem ((c.tc : Thread Cert.InProjIdeal.nD Cert.InProjIdeal.τ).loc Cert.InProjIdeal.main_v32_4) = InProjFinal.REF13 m c
      ∧ r.2.mem ((c.tc : Thread Cert.InProjIdeal.nD Cert.InProjIdeal.τ).loc Cert.InProjIdeal.main_v32_5) = InProjFinal.REF14 m c
      ∧ r.2.mem ((c.tc : Thread Cert.InProjIdeal.nD Cert.InProjIdeal.τ).loc Cert.InProjIdeal.main_v32_6) = InProjFinal.REF15 m c
      ∧ r.2.mem ((c.tc : Thread Cert.InProjIdeal.nD Cert.InProjIdeal.τ).loc Cert.InProjIdeal.main_v32_7) = InProjFinal.REF16 m c
      ∧ r.2.mem ((c.tc : Thread Cert.InProjIdeal.nD Cert.InProjIdeal.τ).loc Cert.InProjIdeal.main_v32_8) = InProjFinal.REF17 m c
      ∧ r.2.mem ((c.tc : Thread Cert.InProjIdeal.nD Cert.InProjIdeal.τ).loc Cert.InProjIdeal.main_v32_9) = InProjFinal.REF18 m c
      ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
      ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5)
      ∧ r.2.mem ((c.tc : Thread Cert.InProjIdeal.nD Cert.InProjIdeal.τ).loc Cert.InProjIdeal.main_arg6) = m ((c.tc : Thread Cert.InProjIdeal.nD Cert.InProjIdeal.τ).loc Cert.InProjIdeal.main_arg6)
      ∧ r.2.mem ((c.tc : Thread Cert.InProjIdeal.nD Cert.InProjIdeal.τ).loc Cert.InProjIdeal.main_arg7) = m ((c.tc : Thread Cert.InProjIdeal.nD Cert.InProjIdeal.τ).loc Cert.InProjIdeal.main_arg7)
      ∧ r.2.mem ((c.tc : Thread Cert.InProjIdeal.nD Cert.InProjIdeal.τ).loc Cert.InProjIdeal.main_arg8) = m ((c.tc : Thread Cert.InProjIdeal.nD Cert.InProjIdeal.τ).loc Cert.InProjIdeal.main_arg8)) := by
  refine θ_run_mono (θ_run_and (Cert.InProjIdeal.Gen.run_main m g) (Cert.InProjIdeal.Gen.unchanged m g)) ?_
  intro r hr c
  have hc := (hr.1 c).1
  refine ⟨?_, ?_, ?_, ?_, ?_, ?_, ?_, ?_, ?_, ?_, hr.2 c⟩
  · exact (hc 9).trans (InProjFinal.final9 m c)
  · exact (hc 10).trans (InProjFinal.final10 m c)
  · exact (hc 11).trans (InProjFinal.final11 m c)
  · exact (hc 12).trans (InProjFinal.final12 m c)
  · exact (hc 13).trans (InProjFinal.final13 m c)
  · exact (hc 14).trans (InProjFinal.final14 m c)
  · exact (hc 15).trans (InProjFinal.final15 m c)
  · exact (hc 16).trans (InProjFinal.final16 m c)
  · exact (hc 17).trans (InProjFinal.final17 m c)
  · exact (hc 18).trans (InProjFinal.final18 m c)

/-- The reference's run ends with its stages' values in its ten results, the arguments kept. -/
theorem ref_run (m : (ℓ : Loc Cert.InProjRefIdeal.nD Cert.InProjRefIdeal.τ Cert.InProjRefIdeal.sig) → Buf (Elt Ideal) ℓ) (g : Dev Cert.InProjRefIdeal.nD → PrngReg) :
    θ_run (Cert.InProjRefIdeal.defs (F := Ideal)) (onTc (τ := Cert.InProjRefIdeal.τ) (Cert.InProjRefIdeal.main (F := Ideal))) ⟨m, fun _ => 0, g⟩ (fun r => ∀ c : Dev Cert.InProjRefIdeal.nD,
      r.2.mem ((c.tc : Thread Cert.InProjRefIdeal.nD Cert.InProjRefIdeal.τ).loc Cert.InProjRefIdeal.main_v43)
        = Cert.InProjRefIdeal.Read.val_main_v43 (F := Ideal) (m ((c.tc : Thread Cert.InProjRefIdeal.nD Cert.InProjRefIdeal.τ).loc Cert.InProjRefIdeal.main_arg0)) (m ((c.tc : Thread Cert.InProjRefIdeal.nD Cert.InProjRefIdeal.τ).loc Cert.InProjRefIdeal.main_arg1)) (m ((c.tc : Thread Cert.InProjRefIdeal.nD Cert.InProjRefIdeal.τ).loc Cert.InProjRefIdeal.main_arg2)) (m ((c.tc : Thread Cert.InProjRefIdeal.nD Cert.InProjRefIdeal.τ).loc Cert.InProjRefIdeal.main_arg3))
      ∧ r.2.mem ((c.tc : Thread Cert.InProjRefIdeal.nD Cert.InProjRefIdeal.τ).loc Cert.InProjRefIdeal.main_v47)
        = Cert.InProjRefIdeal.Read.val_main_v47 (F := Ideal) (m ((c.tc : Thread Cert.InProjRefIdeal.nD Cert.InProjRefIdeal.τ).loc Cert.InProjRefIdeal.main_arg0)) (m ((c.tc : Thread Cert.InProjRefIdeal.nD Cert.InProjRefIdeal.τ).loc Cert.InProjRefIdeal.main_arg1)) (m ((c.tc : Thread Cert.InProjRefIdeal.nD Cert.InProjRefIdeal.τ).loc Cert.InProjRefIdeal.main_arg2)) (m ((c.tc : Thread Cert.InProjRefIdeal.nD Cert.InProjRefIdeal.τ).loc Cert.InProjRefIdeal.main_arg3))
      ∧ r.2.mem ((c.tc : Thread Cert.InProjRefIdeal.nD Cert.InProjRefIdeal.τ).loc Cert.InProjRefIdeal.main_v53)
        = Cert.InProjRefIdeal.Read.val_main_v53 (F := Ideal) (m ((c.tc : Thread Cert.InProjRefIdeal.nD Cert.InProjRefIdeal.τ).loc Cert.InProjRefIdeal.main_arg0)) (m ((c.tc : Thread Cert.InProjRefIdeal.nD Cert.InProjRefIdeal.τ).loc Cert.InProjRefIdeal.main_arg1)) (m ((c.tc : Thread Cert.InProjRefIdeal.nD Cert.InProjRefIdeal.τ).loc Cert.InProjRefIdeal.main_arg2)) (m ((c.tc : Thread Cert.InProjRefIdeal.nD Cert.InProjRefIdeal.τ).loc Cert.InProjRefIdeal.main_arg3))
      ∧ r.2.mem ((c.tc : Thread Cert.InProjRefIdeal.nD Cert.InProjRefIdeal.τ).loc Cert.InProjRefIdeal.main_v57)
        = Cert.InProjRefIdeal.Read.val_main_v57 (F := Ideal) (m ((c.tc : Thread Cert.InProjRefIdeal.nD Cert.InProjRefIdeal.τ).loc Cert.InProjRefIdeal.main_arg0)) (m ((c.tc : Thread Cert.InProjRefIdeal.nD Cert.InProjRefIdeal.τ).loc Cert.InProjRefIdeal.main_arg1)) (m ((c.tc : Thread Cert.InProjRefIdeal.nD Cert.InProjRefIdeal.τ).loc Cert.InProjRefIdeal.main_arg2)) (m ((c.tc : Thread Cert.InProjRefIdeal.nD Cert.InProjRefIdeal.τ).loc Cert.InProjRefIdeal.main_arg3)) (m ((c.tc : Thread Cert.InProjRefIdeal.nD Cert.InProjRefIdeal.τ).loc Cert.InProjRefIdeal.main_arg4))
      ∧ r.2.mem ((c.tc : Thread Cert.InProjRefIdeal.nD Cert.InProjRefIdeal.τ).loc Cert.InProjRefIdeal.main_v77)
        = Cert.InProjRefIdeal.Read.val_main_v77 (F := Ideal) (m ((c.tc : Thread Cert.InProjRefIdeal.nD Cert.InProjRefIdeal.τ).loc Cert.InProjRefIdeal.main_arg0)) (m ((c.tc : Thread Cert.InProjRefIdeal.nD Cert.InProjRefIdeal.τ).loc Cert.InProjRefIdeal.main_arg1)) (m ((c.tc : Thread Cert.InProjRefIdeal.nD Cert.InProjRefIdeal.τ).loc Cert.InProjRefIdeal.main_arg2)) (m ((c.tc : Thread Cert.InProjRefIdeal.nD Cert.InProjRefIdeal.τ).loc Cert.InProjRefIdeal.main_arg3)) (m ((c.tc : Thread Cert.InProjRefIdeal.nD Cert.InProjRefIdeal.τ).loc Cert.InProjRefIdeal.main_arg5)) (m ((c.tc : Thread Cert.InProjRefIdeal.nD Cert.InProjRefIdeal.τ).loc Cert.InProjRefIdeal.main_arg6))
      ∧ r.2.mem ((c.tc : Thread Cert.InProjRefIdeal.nD Cert.InProjRefIdeal.τ).loc Cert.InProjRefIdeal.main_v90)
        = Cert.InProjRefIdeal.Read.val_main_v90 (F := Ideal) (m ((c.tc : Thread Cert.InProjRefIdeal.nD Cert.InProjRefIdeal.τ).loc Cert.InProjRefIdeal.main_arg0)) (m ((c.tc : Thread Cert.InProjRefIdeal.nD Cert.InProjRefIdeal.τ).loc Cert.InProjRefIdeal.main_arg1)) (m ((c.tc : Thread Cert.InProjRefIdeal.nD Cert.InProjRefIdeal.τ).loc Cert.InProjRefIdeal.main_arg2)) (m ((c.tc : Thread Cert.InProjRefIdeal.nD Cert.InProjRefIdeal.τ).loc Cert.InProjRefIdeal.main_arg3)) (m ((c.tc : Thread Cert.InProjRefIdeal.nD Cert.InProjRefIdeal.τ).loc Cert.InProjRefIdeal.main_arg7))
      ∧ r.2.mem ((c.tc : Thread Cert.InProjRefIdeal.nD Cert.InProjRefIdeal.τ).loc Cert.InProjRefIdeal.main_v91)
        = Cert.InProjRefIdeal.Read.val_main_v91 (F := Ideal) (m ((c.tc : Thread Cert.InProjRefIdeal.nD Cert.InProjRefIdeal.τ).loc Cert.InProjRefIdeal.main_arg0)) (m ((c.tc : Thread Cert.InProjRefIdeal.nD Cert.InProjRefIdeal.τ).loc Cert.InProjRefIdeal.main_arg1)) (m ((c.tc : Thread Cert.InProjRefIdeal.nD Cert.InProjRefIdeal.τ).loc Cert.InProjRefIdeal.main_arg2)) (m ((c.tc : Thread Cert.InProjRefIdeal.nD Cert.InProjRefIdeal.τ).loc Cert.InProjRefIdeal.main_arg3))
      ∧ r.2.mem ((c.tc : Thread Cert.InProjRefIdeal.nD Cert.InProjRefIdeal.τ).loc Cert.InProjRefIdeal.main_v35)
        = Cert.InProjRefIdeal.Read.val_main_v35 (F := Ideal) (m ((c.tc : Thread Cert.InProjRefIdeal.nD Cert.InProjRefIdeal.τ).loc Cert.InProjRefIdeal.main_arg0)) (m ((c.tc : Thread Cert.InProjRefIdeal.nD Cert.InProjRefIdeal.τ).loc Cert.InProjRefIdeal.main_arg1)) (m ((c.tc : Thread Cert.InProjRefIdeal.nD Cert.InProjRefIdeal.τ).loc Cert.InProjRefIdeal.main_arg2)) (m ((c.tc : Thread Cert.InProjRefIdeal.nD Cert.InProjRefIdeal.τ).loc Cert.InProjRefIdeal.main_arg3))
      ∧ r.2.mem ((c.tc : Thread Cert.InProjRefIdeal.nD Cert.InProjRefIdeal.τ).loc Cert.InProjRefIdeal.main_v106)
        = Cert.InProjRefIdeal.Read.val_main_v106 (F := Ideal) (m ((c.tc : Thread Cert.InProjRefIdeal.nD Cert.InProjRefIdeal.τ).loc Cert.InProjRefIdeal.main_arg0)) (m ((c.tc : Thread Cert.InProjRefIdeal.nD Cert.InProjRefIdeal.τ).loc Cert.InProjRefIdeal.main_arg1)) (m ((c.tc : Thread Cert.InProjRefIdeal.nD Cert.InProjRefIdeal.τ).loc Cert.InProjRefIdeal.main_arg2)) (m ((c.tc : Thread Cert.InProjRefIdeal.nD Cert.InProjRefIdeal.τ).loc Cert.InProjRefIdeal.main_arg3)) (m ((c.tc : Thread Cert.InProjRefIdeal.nD Cert.InProjRefIdeal.τ).loc Cert.InProjRefIdeal.main_arg8))
      ∧ r.2.mem ((c.tc : Thread Cert.InProjRefIdeal.nD Cert.InProjRefIdeal.τ).loc Cert.InProjRefIdeal.main_v37)
        = Cert.InProjRefIdeal.Read.val_main_v37 (F := Ideal) (m ((c.tc : Thread Cert.InProjRefIdeal.nD Cert.InProjRefIdeal.τ).loc Cert.InProjRefIdeal.main_arg0)) (m ((c.tc : Thread Cert.InProjRefIdeal.nD Cert.InProjRefIdeal.τ).loc Cert.InProjRefIdeal.main_arg1)) (m ((c.tc : Thread Cert.InProjRefIdeal.nD Cert.InProjRefIdeal.τ).loc Cert.InProjRefIdeal.main_arg2)) (m ((c.tc : Thread Cert.InProjRefIdeal.nD Cert.InProjRefIdeal.τ).loc Cert.InProjRefIdeal.main_arg3))
      ∧ r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3)
      ∧ r.2.mem ((c.tc : Thread Cert.InProjRefIdeal.nD Cert.InProjRefIdeal.τ).loc Cert.InProjRefIdeal.main_arg4) = m ((c.tc : Thread Cert.InProjRefIdeal.nD Cert.InProjRefIdeal.τ).loc Cert.InProjRefIdeal.main_arg4)
      ∧ r.2.mem ((c.tc : Thread Cert.InProjRefIdeal.nD Cert.InProjRefIdeal.τ).loc Cert.InProjRefIdeal.main_arg5) = m ((c.tc : Thread Cert.InProjRefIdeal.nD Cert.InProjRefIdeal.τ).loc Cert.InProjRefIdeal.main_arg5)
      ∧ r.2.mem ((c.tc : Thread Cert.InProjRefIdeal.nD Cert.InProjRefIdeal.τ).loc Cert.InProjRefIdeal.main_arg6) = m ((c.tc : Thread Cert.InProjRefIdeal.nD Cert.InProjRefIdeal.τ).loc Cert.InProjRefIdeal.main_arg6)
      ∧ r.2.mem ((c.tc : Thread Cert.InProjRefIdeal.nD Cert.InProjRefIdeal.τ).loc Cert.InProjRefIdeal.main_arg7) = m ((c.tc : Thread Cert.InProjRefIdeal.nD Cert.InProjRefIdeal.τ).loc Cert.InProjRefIdeal.main_arg7)
      ∧ r.2.mem ((c.tc : Thread Cert.InProjRefIdeal.nD Cert.InProjRefIdeal.τ).loc Cert.InProjRefIdeal.main_arg8) = m ((c.tc : Thread Cert.InProjRefIdeal.nD Cert.InProjRefIdeal.τ).loc Cert.InProjRefIdeal.main_arg8)) := by
  refine θ_run_mono (Cert.InProjRefIdeal.Value.run (F := Ideal) m g) ?_
  intro r h c
  refine ⟨(h c).1.trans (Cert.InProjRefIdeal.Read.val_main_v43_eq _ _ _ _), (h c).2.1.trans (Cert.InProjRefIdeal.Read.val_main_v47_eq m c), (h c).2.2.1.trans (Cert.InProjRefIdeal.Read.val_main_v53_eq _ _ _ _), (h c).2.2.2.1.trans (Cert.InProjRefIdeal.Read.val_main_v57_eq _ _ _ _ _), (h c).2.2.2.2.1.trans (Cert.InProjRefIdeal.Read.val_main_v77_eq m c), (h c).2.2.2.2.2.1.trans (Cert.InProjRefIdeal.Read.val_main_v90_eq m c), (h c).2.2.2.2.2.2.1.trans (Cert.InProjRefIdeal.Read.val_main_v91_eq _ _ _ _), (h c).2.2.2.2.2.2.2.1.trans (Cert.InProjRefIdeal.Read.val_main_v35_eq _ _ _ _), (h c).2.2.2.2.2.2.2.2.1.trans (Cert.InProjRefIdeal.Read.val_main_v106_eq m c), (h c).2.2.2.2.2.2.2.2.2.1.trans (Cert.InProjRefIdeal.Read.val_main_v37_eq _ _ _ _), (h c).2.2.2.2.2.2.2.2.2.2⟩

/-- The reference runs to its end, keeps its arguments, and leaves every counter at zero. -/
theorem reference : Cert.quiescent_InProjRefIdeal := by
  intro m g _
  exact θ_run_mono (ref_run m g) fun r h => ⟨fun c => (h c).2.2.2.2.2.2.2.2.2.2, funext fun s => nomatch s⟩

/-- From equal arguments the kernel and the reference end with equal results. -/
theorem equal : Cert.algebraic_InProjIdeal_InProjRefIdeal := by
  intro m g m' g' hpre hagree
  refine ⟨InProjFinal.REF9 m, InProjFinal.REF10 m, InProjFinal.REF11 m, InProjFinal.REF12 m, InProjFinal.REF13 m, InProjFinal.REF14 m, InProjFinal.REF15 m, InProjFinal.REF16 m, InProjFinal.REF17 m, InProjFinal.REF18 m, kernel_run m g, θ_run_mono (ref_run m' g') ?_⟩
  intro r h c
  obtain ⟨h0, h1, h2, h3, h4, h5, h6, h7, h8⟩ := hagree c
  refine ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2.1.trans ?_, (h c).2.2.2.2.2.2.2.2.1.trans ?_, (h c).2.2.2.2.2.2.2.2.2.1.trans ?_, (h c).2.2.2.2.2.2.2.2.2.2⟩
  · rw [h0, h1, h2, h3]
  · rw [h0, h1, h2, h3]
  · rw [h0, h1, h2, h3]
  · rw [h0, h1, h2, h3, h4]
  · rw [h0, h1, h2, h3, h5, h6]
  · rw [h0, h1, h2, h3, h7]
  · rw [h0, h1, h2, h3]
  · rw [h0, h1, h2, h3]
  · rw [h0, h1, h2, h3, h8]
  · rw [h0, h1, h2, h3]

end Cert.InProjClaim

end
-- ==== Proof.RowSoftmax.lean ====
module

public import Idealize.ShloMosaic.Lib.Pointwise

/-! A row of scores, its weights, and the two ways of taking the weighted mean; the rms norm of a row. -/

@[expose] public section

set_option maxRecDepth 16384

noncomputable section

namespace Cert.RowSoftmax

open Idealize.ShloMosaic

/-- A value that is a real number. -/
def IsReal (x : EReal) : Prop := ∃ r : ℝ, (r : EReal) = x

/-- A real number is real. -/
theorem IsReal.coe (r : ℝ) : IsReal (r : EReal) := ⟨r, rfl⟩

/-- A value that is neither infinity is a real number. -/
theorem IsReal.of_ne {x : EReal} (h : x ≠ ⊥) (h' : x ≠ ⊤) : IsReal x := ⟨x.toReal, EReal.coe_toReal h' h⟩

/-- Products of reals are real. -/
theorem IsReal.mul {x y : EReal} (hx : IsReal x) (hy : IsReal y) : IsReal (x * y) := by
  obtain ⟨a, rfl⟩ := hx
  obtain ⟨b, rfl⟩ := hy
  exact ⟨a * b, EReal.coe_mul a b⟩

/-- Sums of reals are real. -/
theorem IsReal.add {x y : EReal} (hx : IsReal x) (hy : IsReal y) : IsReal (x + y) := by
  obtain ⟨a, rfl⟩ := hx
  obtain ⟨b, rfl⟩ := hy
  exact ⟨a + b, EReal.coe_add a b⟩

/-- A finite sum of real numbers, taken in the extended reals. -/
theorem sum_coe {ι : Type} (S : Finset ι) (f : ι → ℝ) : ∑ i ∈ S, ((f i : ℝ) : EReal) = ((∑ i ∈ S, f i : ℝ) : EReal) := by
  classical
  induction S using Finset.induction with
  | empty => simp
  | insert a S ha ih => rw [Finset.sum_insert ha, Finset.sum_insert ha, ih, EReal.coe_add]

/-- Finite sums of reals are real. -/
theorem IsReal.sum {n : ℕ} (f : Fin n → EReal) (h : ∀ i, IsReal (f i)) : IsReal (∑ i, f i) := by
  choose r hr using h
  exact ⟨∑ i, r i, by rw [← sum_coe]; exact Finset.sum_congr rfl fun i _ => hr i⟩

/-- A real factor that is not negative moves into a finite sum. -/
theorem sum_mul_real {ι : Type} (S : Finset ι) (f : ι → EReal) (c : ℝ) (hc : 0 ≤ c) : (∑ i ∈ S, f i) * (c : EReal) = ∑ i ∈ S, f i * (c : EReal) := by
  classical
  induction S using Finset.induction with
  | empty => simp
  | insert a S ha ih =>
    rw [Finset.sum_insert ha, Finset.sum_insert ha, ← ih, mul_comm, EReal.left_distrib_of_nonneg_of_ne_top (by exact_mod_cast hc) (EReal.coe_ne_top c),
      mul_comm (c : EReal) (f a), mul_comm (c : EReal)]

/-- The greatest of a nonempty row of reals is real. -/
theorem fold_max_real {n : ℕ} (s : Fin n → EReal) (h : ∀ i, IsReal (s i)) (i0 : Fin n) : IsReal (Finset.univ.fold max ⊥ s) := by
  have hle : s i0 ≤ Finset.univ.fold max ⊥ s := (Finset.le_fold_max (s i0)).2 (Or.inr ⟨i0, Finset.mem_univ _, le_refl _⟩)
  have hlt : Finset.univ.fold max ⊥ s < ⊤ := (Finset.fold_max_lt (⊤ : EReal)).2 ⟨bot_lt_top, fun i _ => by
    obtain ⟨r, hr⟩ := h i
    rw [← hr]; exact EReal.coe_lt_top r⟩
  refine IsReal.of_ne (fun e => ?_) hlt.ne
  obtain ⟨r, hr⟩ := h i0
  rw [e, ← hr] at hle
  exact absurd (le_bot_iff.1 hle) (EReal.coe_ne_bot r)

/-- The pattern of minus infinity. -/
theorem ofBits_bot : Ideal.ofBits .f32 0xFF800000#32 = ⊥ := by
  simp [Ideal.ofBits, Ideal.ieee]

/-- The greatest of minus infinity and a maximum taken from minus infinity. -/
theorem max_fold {n : ℕ} (s : Fin n → EReal) :
    max (Ideal.ofBits .f32 0xFF800000#32) (Finset.univ.fold max (Ideal.ofBits .f32 0xFF800000#32) s) = Finset.univ.fold max (Ideal.ofBits .f32 0xFF800000#32) s := by
  rw [ofBits_bot, max_eq_right bot_le]

/-- The weight of one entry of a row: the exponential of its distance to the row's greatest. -/
def wt {n : ℕ} (s : Fin n → EReal) (i : Fin n) : EReal := Ideal.exp (s i - Finset.univ.fold max (Ideal.ofBits .f32 0xFF800000#32) s)

/-- The weighted mean, divided once at the end. -/
def late {n : ℕ} (s v : Fin n → EReal) : EReal := Ideal.div (∑ i, wt s i * v i) (∑ i, wt s i)

/-- The weighted mean with each weight divided first. -/
def early {n : ℕ} (s v : Fin n → EReal) : EReal := ∑ i, v i * Ideal.div (wt s i) (∑ j, wt s j)

/-- The weights of a row of reals are positive reals. -/
theorem wt_real {n : ℕ} (s : Fin n → EReal) (h : ∀ i, IsReal (s i)) (i0 : Fin n) : ∃ p : Fin n → ℝ, (∀ i, 0 < p i) ∧ ∀ i, wt s i = ((p i : ℝ) : EReal) := by
  obtain ⟨m, hm⟩ := fold_max_real s h i0
  choose r hr using h
  refine ⟨fun i => Real.exp (r i - m), fun i => Real.exp_pos _, fun i => ?_⟩
  rw [wt, ofBits_bot, ← hm, ← hr i, ← EReal.coe_sub]
  rfl

/-- Over a row of real scores the mean divided at the end is the mean with the weights divided first, whatever the values are. -/
theorem late_eq_early {n : ℕ} (s v : Fin n → EReal) (h : ∀ i, IsReal (s i)) (i0 : Fin n) : late s v = early s v := by
  obtain ⟨p, hp, hw⟩ := wt_real s h i0
  have hL : (∑ i, wt s i) = ((∑ i, p i : ℝ) : EReal) := by
    rw [← sum_coe]; exact Finset.sum_congr rfl fun i _ => hw i
  have hpos : 0 < ∑ i, p i := Finset.sum_pos (fun i _ => hp i) ⟨i0, Finset.mem_univ _⟩
  unfold late early
  rw [hL, Ideal.div_coe hpos.ne', sum_mul_real _ _ _ (by positivity)]
  refine Finset.sum_congr rfl fun i _ => ?_
  rw [Ideal.div_coe hpos.ne', mul_comm (wt s i) (v i), mul_assoc]

/-- A square is not negative. -/
theorem sq_nonneg (x : EReal) : 0 ≤ x * x := by
  induction x with
  | bot => simp
  | top => simp
  | coe r => rw [← EReal.coe_mul]; exact_mod_cast mul_self_nonneg r

/-- The pattern of the small constant under the root is a positive real. -/
theorem ofBits_eps : ∃ e : ℝ, 0 < e ∧ Ideal.ofBits .f32 0x358637BD#32 = (e : EReal) := by
  refine ⟨_, ?_, by simp [Ideal.ofBits, Ideal.ieee, -EReal.coe_mul]; rfl⟩
  norm_num

/-- The rms norm of a row with its gain, the reciprocal of the width given. -/
def rmsn {n : ℕ} (inv : ℝ) (x g : Fin n → EReal) (i : Fin n) : EReal :=
  x i * Ideal.rsqrt ((∑ k, x k * x k) * (inv : EReal) + Ideal.ofBits .f32 0x358637BD#32) * g i

/-- The norm of any row is real where the gain is. -/
theorem norm_real {n : ℕ} (inv : ℝ) (hinv : 0 < inv) (x g : Fin n → EReal) (hg : ∀ i, IsReal (g i)) (i : Fin n) : IsReal (rmsn inv x g i) := by
  unfold rmsn
  refine IsReal.mul ?_ (hg i)
  obtain ⟨e, he, hE⟩ := ofBits_eps
  rw [hE]
  have hS0 : 0 ≤ ∑ k, x k * x k := Finset.sum_nonneg fun k _ => sq_nonneg (x k)
  by_cases hS : (∑ k, x k * x k) = ⊤
  · rw [hS, EReal.top_mul_coe_of_pos hinv, EReal.top_add_coe]
    exact ⟨0, by show ((0 : ℝ) : EReal) = x i * 0; simp⟩
  · have hle : x i * x i ≤ ∑ k, x k * x k := Finset.single_le_sum (f := fun k => x k * x k) (fun k _ => sq_nonneg (x k)) (Finset.mem_univ i)
    have hx : IsReal (x i) := by
      refine IsReal.of_ne (fun h => hS ?_) (fun h => hS ?_)
      · rw [h] at hle; exact top_le_iff.1 (by simpa using hle)
      · rw [h] at hle; exact top_le_iff.1 (by simpa using hle)
    refine hx.mul ?_
    obtain ⟨r, hr⟩ := IsReal.of_ne (ne_bot_of_le_ne_bot EReal.zero_ne_bot hS0) hS
    rw [← hr] at hS0 ⊢
    have hr0 : 0 ≤ r := by exact_mod_cast hS0
    rw [← EReal.coe_mul, ← EReal.coe_add]
    have hp : 0 < r * inv + e := by positivity
    refine ⟨(Real.sqrt (r * inv + e))⁻¹, ?_⟩
    show _ = (if r * inv + e < 0 then (⊥ : EReal) else if r * inv + e = 0 then ⊤ else ((Real.sqrt (r * inv + e))⁻¹ : ℝ))
    rw [if_neg (not_lt.2 hp.le), if_neg hp.ne']

/-- A factor moves out of a sum of products of reals. -/
theorem sum_scale {n : ℕ} (a b : Fin n → EReal) (c : EReal) (ha : ∀ i, IsReal (a i)) (hb : ∀ i, IsReal (b i)) (hc : IsReal c) :
    ∑ i, a i * c * b i = (∑ i, a i * b i) * c := by
  choose p hp using ha
  choose q hq using hb
  obtain ⟨d, rfl⟩ := hc
  have h1 : ∀ i, a i * (d : EReal) * b i = ((p i * q i * d : ℝ) : EReal) := fun i => by
    rw [← hp i, ← hq i, ← EReal.coe_mul, ← EReal.coe_mul]; congr 1; ring
  have h2 : ∀ i, a i * b i = ((p i * q i : ℝ) : EReal) := fun i => by rw [← hp i, ← hq i, ← EReal.coe_mul]
  simp only [h1, h2, sum_coe]
  rw [← EReal.coe_mul, Finset.sum_mul]

end Cert.RowSoftmax

end
-- ==== Proof.MlaSpec.lean ====
module

public import proofs.«01_k».proof.Proof.RowSoftmax

/-! One head of the latent attention, plainly and in the lanes of the kernel, as functions on the extended reals. -/

@[expose] public section

set_option maxRecDepth 16384

noncomputable section

namespace Cert.MlaSpec

open Idealize.ShloMosaic Cert.RowSoftmax

/-- A head's 96 entries in 128 lanes: the last 32, 32 zeros, the first 64. -/
def lay (x : Fin 96 → EReal) (k : Fin 128) : EReal :=
  if h : k.val < 32 then x ⟨64 + k.val, by omega⟩ else if h' : k.val - 32 < 32 then 0 else x ⟨k.val - 32 - 32, by omega⟩

/-- A product of laid-out rows is the laid-out product. -/
theorem lay_mul (x y : Fin 96 → EReal) (k : Fin 128) : lay x k * lay y k = lay (fun i => x i * y i) k := by
  unfold lay
  split_ifs <;> simp

/-- The sum over the lanes of a laid-out row. -/
theorem lay_sum (x : Fin 96 → EReal) : ∑ k, lay x k = ∑ i, x i := by
  rw [Fin.sum_univ_two_halves 32 96 rfl]
  have h : ∑ i : Fin 96, lay x ⟨32 + i.val, by omega⟩ = ∑ i : Fin 64, x ⟨i.val, by omega⟩ := by
    rw [Fin.sum_univ_two_halves (N := 96) 32 64 rfl]
    have hz : ∀ i : Fin 32, lay x ⟨32 + i.val, by omega⟩ = 0 := fun i => by
      unfold lay
      rw [dif_neg (by simp), dif_pos (by have := i.isLt; simp)]
    have hr : ∀ i : Fin 64, lay x ⟨32 + (32 + i.val), by omega⟩ = x ⟨i.val, by omega⟩ := fun i => by
      unfold lay
      rw [dif_neg (by simp), dif_neg (by simp)]
      congr 1
      exact Fin.ext (by simp)
    simp only [hz, hr, Finset.sum_const_zero, zero_add]
  have h0 : ∀ i : Fin 32, lay x ⟨i.val, by omega⟩ = x ⟨64 + i.val, by omega⟩ := fun i => by
    unfold lay
    rw [dif_pos (by simp)]
  rw [h, Fin.sum_univ_two_halves 64 32 rfl x, add_comm]
  simp only [h0]

/-- The norm of a laid-out row is the laid-out norm. -/
theorem lay_norm (inv : ℝ) (x g : Fin 96 → EReal) (k : Fin 128) : rmsn inv (lay x) (lay g) k = lay (rmsn inv x g) k := by
  have hs : ∑ k, lay x k * lay x k = ∑ i, x i * x i := by
    simp only [lay_mul]
    exact lay_sum _
  unfold rmsn
  rw [hs]
  unfold lay
  split_ifs <;> simp

/-- The scale of the scores. -/
abbrev scale : EReal := Ideal.ofBits .f32 0x3DD105EC#32

/-- The scale is a real number. -/
theorem scale_real : IsReal scale := ⟨_, by simp [Ideal.ofBits, Ideal.ieee, -EReal.coe_mul]; rfl⟩

/-- One key: its 64 entries from the latent row, then the 32 shared entries. -/
def key (ck : Fin 128 → EReal) (kr : Fin 32 → EReal) (w : Fin 128 → Fin 128 → EReal) (i : Fin 96) : EReal :=
  if h : i.val < 64 then ∑ k, ck k * w k ⟨i.val, by omega⟩ else kr ⟨i.val - 64, by omega⟩

/-- One value: the other 64 entries from the latent row. -/
def val (ck : Fin 128 → EReal) (w : Fin 128 → Fin 128 → EReal) (e : Fin 64) : EReal := ∑ k, ck k * w k ⟨64 + e.val, by omega⟩

/-- The score of a query against a key. -/
def score (q gq gk : Fin 96 → EReal) (ck : Fin 256 → Fin 128 → EReal) (kr : Fin 256 → Fin 32 → EReal) (w : Fin 128 → Fin 128 → EReal) (s : Fin 256) : EReal :=
  (∑ i, rmsn 96⁻¹ q gq i * rmsn 96⁻¹ (key (ck s) (kr s) w) gk i) * scale

/-- One entry of a head's result: the mean of the values under the normalized weights of the scores. -/
def head (q gq gk : Fin 96 → EReal) (ck : Fin 256 → Fin 128 → EReal) (kr : Fin 256 → Fin 32 → EReal) (w : Fin 128 → Fin 128 → EReal) (e : Fin 64) : EReal :=
  early (score q gq gk ck kr w) (fun s => val (ck s) w e)

/-- A key in 128 lanes: the shared part, padded, in the lower half, the latent part in the upper. -/
def lkey (ck : Fin 128 → EReal) (kr : Fin 128 → EReal) (w : Fin 128 → Fin 128 → EReal) (k : Fin 128) : EReal :=
  if k.val < 64 then kr k else ∑ j, ck j * w j k

/-- The score in 128 lanes, the query scaled first. -/
def lscore (q gq gk : Fin 128 → EReal) (ck : Fin 256 → Fin 128 → EReal) (kr : Fin 256 → Fin 128 → EReal) (w : Fin 128 → Fin 128 → EReal) (s : Fin 256) : EReal :=
  ∑ k, rmsn 96⁻¹ q gq k * scale * rmsn 96⁻¹ (lkey (ck s) (kr s) w) gk k

/-- One lane of a head's result, the weights normalized at the end. -/
def lhead (q gq gk : Fin 128 → EReal) (ck : Fin 256 → Fin 128 → EReal) (kr : Fin 256 → Fin 128 → EReal) (w : Fin 128 → Fin 128 → EReal) (j : Fin 128) : EReal :=
  late (lscore q gq gk ck kr w) (fun s => ∑ k, ck s k * w k j)

/-- A head's weights with the values' columns first. -/
def swap (w : Fin 128 → Fin 128 → EReal) (k j : Fin 128) : EReal :=
  if h : j.val < 64 then w k ⟨64 + j.val, by omega⟩ else w k ⟨j.val - 64, by omega⟩

/-- The shared part of a key, padded to 128 lanes. -/
def padk (a : Fin 32 → EReal) (k : Fin 128) : EReal := if h : k.val < 32 then a ⟨k.val, h⟩ else 0

/-- A key in 128 lanes is the laid-out key. -/
theorem lkey_eq (ck : Fin 128 → EReal) (kr : Fin 32 → EReal) (w : Fin 128 → Fin 128 → EReal) : lkey ck (padk kr) (swap w) = lay (key ck kr w) := by
  funext k
  unfold lkey lay
  by_cases h1 : k.val < 32
  · rw [if_pos (by omega), dif_pos h1, padk, dif_pos h1, key, dif_neg (by simp)]
    congr 1
    exact Fin.ext (by simp)
  · rw [dif_neg h1]
    by_cases h2 : k.val - 32 < 32
    · rw [if_pos (by omega), dif_pos h2, padk, dif_neg h1]
    · rw [if_neg (by omega), dif_neg h2, key, dif_pos (by show k.val - 32 - 32 < 64; omega)]
      refine Finset.sum_congr rfl fun j _ => ?_
      rw [swap, dif_neg (by omega)]
      congr 2

/-- With finite gains a lower lane of the head is the head's entry. -/
theorem lhead_eq (q gq gk : Fin 96 → EReal) (ck : Fin 256 → Fin 128 → EReal) (kr : Fin 256 → Fin 32 → EReal) (w : Fin 128 → Fin 128 → EReal)
    (hq : ∀ i, IsReal (gq i)) (hk : ∀ i, IsReal (gk i)) (j : Fin 128) (e : Fin 64) (hj : j.val = e.val) :
    lhead (lay q) (lay gq) (lay gk) ck (fun s => padk (kr s)) (swap w) j = head q gq gk ck kr w e := by
  have hsc : lscore (lay q) (lay gq) (lay gk) ck (fun s => padk (kr s)) (swap w) = score q gq gk ck kr w := by
    funext s
    unfold lscore score
    rw [lkey_eq, ← sum_scale _ _ _ (norm_real _ (by norm_num) q gq hq) (norm_real _ (by norm_num) _ gk hk) scale_real]
    simp only [lay_norm]
    rw [← lay_sum]
    refine Finset.sum_congr rfl fun k _ => ?_
    unfold lay
    split_ifs <;> simp
  have hv : (fun s => ∑ k, ck s k * swap w k j) = fun s => val (ck s) w e := by
    funext s
    refine Finset.sum_congr rfl fun k _ => ?_
    rw [swap, dif_pos (by omega)]
    congr 2
    exact Fin.ext (by simp [hj])
  unfold lhead head
  rw [hsc, hv]
  refine late_eq_early _ _ (fun s => ?_) 0
  exact (IsReal.sum _ fun i => (norm_real _ (by norm_num) q gq hq i).mul (norm_real _ (by norm_num) _ gk hk i)).mul scale_real

/-- The pattern of 96.0 is 96. -/
theorem ofBits_96 : Ideal.ofBits .f32 0x42C00000#32 = ((96 : ℝ) : EReal) := by
  simp [Ideal.ofBits, Ideal.ieee, -EReal.coe_mul]; norm_num

/-- Dividing by 96 is multiplying by its reciprocal. -/
theorem div_96 (x : EReal) : Ideal.div x (Ideal.ofBits .f32 0x42C00000#32) = x * ((96⁻¹ : ℝ) : EReal) := by
  rw [ofBits_96, Ideal.div_coe (by norm_num), one_div]

end Cert.MlaSpec

end
-- ==== Proof.MlaKernel.lean ====
module

public import proofs.«01_k».proof.Proof.Gen.MlaIdeal.Value
public import proofs.«01_k».proof.Proof.MlaSpec

/-! The pieces of the latent attention kernel read at an index. -/

@[expose] public section

set_option maxRecDepth 16384

noncomputable section

namespace Cert.MlaKernel

open Cert.MlaIdeal Cert.MlaIdeal.Gen Idealize.ShloMosaic Idealize.ShloMosaic.TcCoe Idealize.SL.Sem
open Idealize.ShloMosaic.Pipeline (Dat)
open Cert.RowSoftmax

/-- The name of the reciprocal of 96 stands for it. -/
theorem inv96 : (Named.named κ "inv96" 0x3C2AAAAB#32 : Ideal .f32) = ((96⁻¹ : ℝ) : EReal) :=
  IdealRules.named_const.ideal_named_scalar _ _ _ _ rfl

/-- The upper lanes. -/
theorem sge_lane : ∀ c : Fin 128, IntOp.cmpi CmpIPredicate.sge (BitVec.ofNat 32 c.val) 64#32 = if c.val < 64 then 0#1 else 1#1 := by decide +kernel

/-- The lower lanes. -/
theorem slt_lane : ∀ c : Fin 128, IntOp.cmpi CmpIPredicate.slt (BitVec.ofNat 32 c.val) 64#32 = if c.val < 64 then 1#1 else 0#1 := by decide +kernel

/-- Choosing by the upper lanes. -/
theorem sel_sge (c : Fin 128) (x y : EReal) : Scalar.select (IntOp.cmpi CmpIPredicate.sge (BitVec.ofNat 32 c.val) 64#32) x y = if c.val < 64 then y else x := by
  rw [sge_lane]
  split_ifs <;> simp [Scalar.select]

/-- Choosing by the lower lanes. -/
theorem sel_slt (c : Fin 128) (x y : EReal) : Scalar.select (IntOp.cmpi CmpIPredicate.slt (BitVec.ofNat 32 c.val) 64#32) x y = if c.val < 64 then x else y := by
  rw [slt_lane]
  split_ifs <;> simp [Scalar.select]

/-- The latent rows through the first head's weights. -/
theorem pay2_at (w : FVec Ideal S128x128 .bf16) (ck : FVec Ideal S256x128 .f32) (s : Fin 256) (c : Fin 128) :
    k0_pay2 (F := Ideal) w ck (ix2 s c) = ∑ k : Fin 128, ck (ix2 s k) * w (ix2 k c) := by
  pointwise! [k0_pay2]

/-- The latent rows through the second head's weights. -/
theorem pay6_at (w : FVec Ideal S128x128 .bf16) (ck : FVec Ideal S256x128 .f32) (s : Fin 256) (c : Fin 128) :
    k0_pay6 (F := Ideal) (k0_pay5 (F := Ideal) w) ck (ix2 s c) = ∑ k : Fin 128, ck (ix2 s k) * w (ix2 k c) := by
  pointwise! [k0_pay6, k0_pay5]

/-- The first head's normed keys. -/
theorem pay3_at (w : FVec Ideal S128x128 .bf16) (ck kr : FVec Ideal S256x128 .f32) (g : FVec Ideal S1x128 .f32) (s : Fin 256) (c : Fin 128) :
    k0_pay3 (F := Ideal) w ck kr g (ix3 0 s c)
      = rmsn 96⁻¹ (MlaSpec.lkey (fun k => ck (ix2 s k)) (fun k => kr (ix2 s k)) (fun k j => w (ix2 k j))) (fun k => g (ix2 0 k)) c := by
  pointwise [k0_pay3]
  simp only [sel_sge, inv96, pay2_at, rmsn, MlaSpec.lkey]

/-- The second head's normed keys. -/
theorem pay7_at (w : FVec Ideal S128x128 .bf16) (ck kr : FVec Ideal S256x128 .f32) (g : FVec Ideal S1x128 .f32) (s : Fin 256) (c : Fin 128) :
    k0_pay7 (F := Ideal) (k0_pay5 (F := Ideal) w) ck kr g (ix3 0 s c)
      = rmsn 96⁻¹ (MlaSpec.lkey (fun k => ck (ix2 s k)) (fun k => kr (ix2 s k)) (fun k j => w (ix2 k j))) (fun k => g (ix2 0 k)) c := by
  pointwise [k0_pay7]
  simp only [sel_sge, inv96, pay6_at, rmsn, MlaSpec.lkey]

/-- The first head's values. -/
theorem pay4_at (w : FVec Ideal S128x128 .bf16) (ck : FVec Ideal S256x128 .f32) (s : Fin 256) (c : Fin 128) :
    k0_pay4 (F := Ideal) w ck (ix3 0 s c) = ∑ k : Fin 128, ck (ix2 s k) * w (ix2 k c) := by
  pointwise [k0_pay4]
  rw [pay2_at]

/-- The second head's values. -/
theorem pay8_at (w : FVec Ideal S128x128 .bf16) (ck : FVec Ideal S256x128 .f32) (s : Fin 256) (c : Fin 128) :
    k0_pay8 (F := Ideal) (k0_pay5 (F := Ideal) w) ck (ix3 0 s c) = ∑ k : Fin 128, ck (ix2 s k) * w (ix2 k c) := by
  pointwise [k0_pay8]
  rw [pay6_at]

/-- The first head's weights over the keys. -/
theorem pay9_at (q : FVec Ideal S256x128 .f32) (g : FVec Ideal S1x128 .f32) (kb : FVec Ideal S1x256x128 .bf16) (r s : Fin 256) :
    k0_pay9 (F := Ideal) q g kb (ix2 r s)
      = wt (fun s : Fin 256 => ∑ k : Fin 128, rmsn 96⁻¹ (fun k => q (ix2 r k)) (fun k => g (ix2 0 k)) k * MlaSpec.scale * kb (ix3 0 s k)) s := by
  pointwise [k0_pay9]
  simp only [inv96, wt, rmsn]

/-- The first head's result. -/
theorem pay12_at (q : FVec Ideal S256x128 .f32) (g : FVec Ideal S1x128 .f32) (kb vb : FVec Ideal S1x256x128 .bf16) (r : Fin 256) (j : Fin 128) :
    k0_pay12 (F := Ideal) (k0_pay10 (F := Ideal) q g kb) (k0_pay11 (F := Ideal) q g kb vb) (ix2 r j)
      = late (fun s : Fin 256 => ∑ k : Fin 128, rmsn 96⁻¹ (fun k => q (ix2 r k)) (fun k => g (ix2 0 k)) k * MlaSpec.scale * kb (ix3 0 s k)) (fun s => vb (ix3 0 s j)) := by
  pointwise [k0_pay12, k0_pay10, k0_pay11]
  simp only [pay9_at, late]

/-- The second head's result. -/
theorem pay13_at (q : FVec Ideal S256x128 .f32) (g : FVec Ideal S1x128 .f32) (kb vb : FVec Ideal S1x256x128 .bf16) (r : Fin 256) (j : Fin 128) :
    k0_pay13 (F := Ideal) q g kb vb (ix2 r j)
      = late (fun s : Fin 256 => ∑ k : Fin 128, rmsn 96⁻¹ (fun k => q (ix2 r k)) (fun k => g (ix2 0 k)) k * MlaSpec.scale * kb (ix3 0 s k)) (fun s => vb (ix3 0 s j)) := by
  pointwise [k0_pay13]
  simp only [inv96, wt, rmsn, late]

/-- The two heads side by side. -/
theorem pay1_at (x y : FVec Ideal S256x128 .f32) (r : Fin 256) (j : Fin 128) :
    k0_pay1 (F := Ideal) x y k0_pay14 64#32 (ix2 r j) = if j.val < 64 then x (ix2 r j) else y (ix2 r ⟨(j.val + 128 - 64) % 128, by omega⟩) := by
  pointwise [k0_pay1, k0_pay14]
  rw [sel_slt]

end Cert.MlaKernel

end
-- ==== Proof.MlaOut.lean ====
module

public import proofs.«01_k».proof.Proof.MlaKernel
public import Idealize.ShloMosaic.Lib.Pipeline.ValueKit
public import Idealize.ShloMosaic.Lib.Pipeline.ReadBack

/-! One grid point's whole result, from the blocks it was given. -/

@[expose] public section

set_option maxRecDepth 16384

noncomputable section

namespace Cert.MlaOut

open Cert.MlaIdeal Cert.MlaIdeal.Gen Idealize.ShloMosaic Idealize.ShloMosaic.TcCoe Idealize.SL.Sem
open Idealize.ShloMosaic.Pipeline (Dat)
open Cert.RowSoftmax Cert.MlaKernel

/-- What a point writes for one query at one lane, from its blocks: in the lower lanes the first head, in the upper the second. -/
def laneOf (q : FVec Ideal S256x256 .f32) (ck kr : FVec Ideal S256x128 .f32) (w : FVec Ideal S128x256 .bf16) (gq gk : FVec Ideal S1x128 .f32) (r : Fin 256) (j : Fin 128) : EReal :=
  if j.val < 64 then
    MlaSpec.lhead (fun k : Fin 128 => q (ix2 r ⟨0 + k.val, by omega⟩)) (fun k => gq (ix2 0 k)) (fun k => gk (ix2 0 k)) (fun s k => ck (ix2 s k)) (fun s k => kr (ix2 s k))
      (fun k (j : Fin 128) => w (ix2 k ⟨0 + j.val, by omega⟩)) j
  else
    MlaSpec.lhead (fun k : Fin 128 => q (ix2 r ⟨128 + k.val, by omega⟩)) (fun k => gq (ix2 0 k)) (fun k => gk (ix2 0 k)) (fun s k => ck (ix2 s k)) (fun s k => kr (ix2 s k))
      (fun k (j : Fin 128) => w (ix2 k ⟨128 + j.val, by omega⟩)) ⟨(j.val + 128 - 64) % 128, by omega⟩

/-- A head's result with its scores written out. -/
theorem lhead_def (q gq gk : Fin 128 → EReal) (ck : Fin 256 → Fin 128 → EReal) (kr : Fin 256 → Fin 128 → EReal) (w : Fin 128 → Fin 128 → EReal) (j : Fin 128) :
    MlaSpec.lhead q gq gk ck kr w j = late (fun s => ∑ k, rmsn 96⁻¹ q gq k * MlaSpec.scale * rmsn 96⁻¹ (MlaSpec.lkey (ck s) (kr s) w) gk k) (fun s => ∑ k, ck s k * w k j) := rfl

/-- The first head's queries in the block. -/
theorem q_lo (q : FVec Ideal S256x256 .f32) (r : Fin 256) (k : Fin 128) :
    View.ld (Val := Elt Ideal) (e' := .f32) q (Rect.unit ![0, 0] ![256, 128] inb_S256x256_S256x128_0_0) (ix2 r k) = q (ix2 r ⟨0 + k.val, by omega⟩) := by
  pointwise

/-- The second head's queries in the block. -/
theorem q_hi (q : FVec Ideal S256x256 .f32) (r : Fin 256) (k : Fin 128) :
    View.ld (Val := Elt Ideal) (e' := .f32) q (Rect.unit ![0, 128] ![256, 128] inb_S256x256_S256x128_0_128) (ix2 r k) = q (ix2 r ⟨128 + k.val, by omega⟩) := by
  pointwise

/-- The first head's weights in the block. -/
theorem w_lo (w : FVec Ideal S128x256 .bf16) (r k : Fin 128) :
    View.ld (Val := Elt Ideal) (e' := .bf16) w (Rect.unit ![0, 0] ![128, 128] inb_S128x256_S128x128_0_0) (ix2 r k) = w (ix2 r ⟨0 + k.val, by omega⟩) := by
  pointwise

/-- The second head's weights in the block. -/
theorem w_hi (w : FVec Ideal S128x256 .bf16) (r k : Fin 128) :
    View.ld (Val := Elt Ideal) (e' := .bf16) w (Rect.unit ![0, 128] ![128, 128] inb_S128x256_S128x128_0_128) (ix2 r k) = w (ix2 r ⟨128 + k.val, by omega⟩) := by
  pointwise

/-- The two heads' results from the halves of the blocks. -/
theorem block_at (q : FVec Ideal S256x256 .f32) (ck kr : FVec Ideal S256x128 .f32) (w : FVec Ideal S128x256 .bf16) (gq gk : FVec Ideal S1x128 .f32) (r : Fin 256) (j : Fin 128)
    (q0 q1 : FVec Ideal S256x128 .f32) (w0 w1 : FVec Ideal S128x128 .bf16)
    (hq0 : ∀ (r : Fin 256) (k : Fin 128), q0 (ix2 r k) = q (ix2 r ⟨0 + k.val, by omega⟩)) (hq1 : ∀ (r : Fin 256) (k : Fin 128), q1 (ix2 r k) = q (ix2 r ⟨128 + k.val, by omega⟩))
    (hw0 : ∀ (r k : Fin 128), w0 (ix2 r k) = w (ix2 r ⟨0 + k.val, by omega⟩)) (hw1 : ∀ (r k : Fin 128), w1 (ix2 r k) = w (ix2 r ⟨128 + k.val, by omega⟩)) :
    k0_pay1 (F := Ideal) (k0_pay12 (F := Ideal) (k0_pay10 (F := Ideal) q0 gq (k0_pay3 (F := Ideal) w0 ck kr gk)) (k0_pay11 (F := Ideal) q0 gq (k0_pay3 (F := Ideal) w0 ck kr gk) (k0_pay4 (F := Ideal) w0 ck)))
      (k0_pay13 (F := Ideal) q1 gq (k0_pay7 (F := Ideal) (k0_pay5 (F := Ideal) w1) ck kr gk) (k0_pay8 (F := Ideal) (k0_pay5 (F := Ideal) w1) ck)) k0_pay14 64#32 (ix2 r j) = laneOf q ck kr w gq gk r j := by
  rw [pay1_at]
  unfold laneOf
  split_ifs with h
  · rw [pay12_at]
    simp only [pay3_at, pay4_at, hq0, hw0, lhead_def]
  · rw [pay13_at]
    simp only [pay7_at, pay8_at, hq1, hw1, lhead_def]

variable (m : (ℓ : Loc nD τ sig) → Buf (Elt Ideal) ℓ)

/-- What a point writes, at an index. -/
theorem out_at (c : Dev nD) (t : Fin cfg0.N) (r : Fin 256) (j : Fin 128) :
    (outsAt0 m c t : FVec Ideal S256x128 .f32) (ix2 r j) = laneOf (iblk m c 0 t) (iblk m c 1 t) (iblk m c 2 t) (iblk m c 3 t) (iblk m c 4 t) (iblk m c 5 t) r j := by
  unfold outsAt0
  frame_open
  simp (disch := decide) only [↓ View.readCov_skip, ↓ View.readCov_fill, View.readCov_cons_toLoadRect]
  simp only [View.readAt_eq_ld]
  frame_out
  exact block_at _ _ _ _ _ _ r j _ _ _ _ (q_lo _) (q_hi _) (w_lo _) (w_hi _)

end Cert.MlaOut

end
-- ==== Proof.MlaLanes.lean ====
module

public import proofs.«01_k».proof.Proof.MlaOut

/-! A lane of a grid point's result as an entry of a head's result. -/

@[expose] public section

set_option maxRecDepth 16384

noncomputable section

namespace Cert.MlaLanes

open Cert.MlaIdeal Cert.MlaIdeal.Gen Idealize.ShloMosaic Idealize.ShloMosaic.TcCoe Idealize.SL.Sem
open Idealize.ShloMosaic.Pipeline (Dat)
open Cert.RowSoftmax

/-- A lane of the first head, over what the blocks hold. -/
theorem lane_lo (q : FVec Ideal S256x256 .f32) (ck kr : FVec Ideal S256x128 .f32) (w : FVec Ideal S128x256 .bf16) (gq gk : FVec Ideal S1x128 .f32) (r : Fin 256) (j : Fin 128)
    (Q G K : Fin 96 → EReal) (CK : Fin 256 → Fin 128 → EReal) (KR : Fin 256 → Fin 32 → EReal) (W : Fin 128 → Fin 128 → EReal) (e : Fin 64)
    (hj : j.val = e.val) (hG : ∀ i, IsReal (G i)) (hK : ∀ i, IsReal (K i))
    (hq : ∀ k : Fin 128, q (ix2 r ⟨0 + k.val, by omega⟩) = MlaSpec.lay Q k) (hgq : ∀ k, gq (ix2 0 k) = MlaSpec.lay G k) (hgk : ∀ k, gk (ix2 0 k) = MlaSpec.lay K k)
    (hck : ∀ s k, ck (ix2 s k) = CK s k) (hkr : ∀ s k, kr (ix2 s k) = MlaSpec.padk (KR s) k) (hw : ∀ k j : Fin 128, w (ix2 k ⟨0 + j.val, by omega⟩) = MlaSpec.swap W k j) :
    MlaOut.laneOf q ck kr w gq gk r j = MlaSpec.head Q G K CK KR W e := by
  unfold MlaOut.laneOf
  rw [if_pos (by omega)]
  simp only [hq, hgq, hgk, hck, hkr, hw]
  exact MlaSpec.lhead_eq Q G K CK KR W hG hK j e hj

/-- A lane of the second head, over what the blocks hold. -/
theorem lane_hi (q : FVec Ideal S256x256 .f32) (ck kr : FVec Ideal S256x128 .f32) (w : FVec Ideal S128x256 .bf16) (gq gk : FVec Ideal S1x128 .f32) (r : Fin 256) (j : Fin 128)
    (Q G K : Fin 96 → EReal) (CK : Fin 256 → Fin 128 → EReal) (KR : Fin 256 → Fin 32 → EReal) (W : Fin 128 → Fin 128 → EReal) (e : Fin 64)
    (hj : j.val = 64 + e.val) (hG : ∀ i, IsReal (G i)) (hK : ∀ i, IsReal (K i))
    (hq : ∀ k : Fin 128, q (ix2 r ⟨128 + k.val, by omega⟩) = MlaSpec.lay Q k) (hgq : ∀ k, gq (ix2 0 k) = MlaSpec.lay G k) (hgk : ∀ k, gk (ix2 0 k) = MlaSpec.lay K k)
    (hck : ∀ s k, ck (ix2 s k) = CK s k) (hkr : ∀ s k, kr (ix2 s k) = MlaSpec.padk (KR s) k) (hw : ∀ k j : Fin 128, w (ix2 k ⟨128 + j.val, by omega⟩) = MlaSpec.swap W k j) :
    MlaOut.laneOf q ck kr w gq gk r j = MlaSpec.head Q G K CK KR W e := by
  unfold MlaOut.laneOf
  rw [if_neg (by omega)]
  simp only [hq, hgq, hgk, hck, hkr, hw]
  exact MlaSpec.lhead_eq Q G K CK KR W hG hK _ e (by simp only []; omega)

end Cert.MlaLanes

end
-- ==== Proof.MlaHost.lean ====
module

public import proofs.«01_k».proof.Proof.Gen.MlaIdeal.Frame
public import proofs.«01_k».proof.Proof.MlaSpec
public import Idealize.ShloMosaic.Lib.Pipeline.ValueKit
public import Idealize.ShloMosaic.Lib.StableHlo.RunRead

/-! What the host line makes of the call's arguments before the kernel is launched. -/

@[expose] public section

set_option maxRecDepth 16384

noncomputable section

namespace Cert.MlaHost

open Cert.MlaIdeal Cert.MlaIdeal.Gen Idealize.ShloMosaic Idealize.ShloMosaic.TcCoe Idealize.SL.Sem
open Idealize.ShloMosaic.Pipeline (Dat)

variable (m : (ℓ : Loc nD τ sig) → Buf (Elt Ideal) ℓ)

/-- The padding word stands for zero. -/
theorem zero : (FloatOps.sitofp .f32 0#32 : Ideal .f32) = 0 := by
  show ((((0#32 : BitVec 32).toInt : ℝ)) : EReal) = 0
  simp

/-- The weights of the keys and values, each head's values first. -/
theorem weights (c : Dev nD) (k : Fin 128) (h : Fin 8) (j : Fin 128) :
    (V m c main_v27 : FVec Ideal S128x1024 .bf16) (ix2 k ⟨h.val * 128 + j.val, by omega⟩)
      = MlaSpec.swap (fun k j => (m ((c : Thread nD τ).loc main_arg3) : FVec Ideal S128x1024 .f32) (ix2 k ⟨h.val * 128 + j.val, by omega⟩)) k j := by
  unfold V
  after_reads_simp
  pointwise
  have e1 : (h.val * 128 + j.val) / 128 = h.val := by omega
  have e2 : (h.val * 128 + j.val) % 128 = j.val := by omega
  simp only [e1, e2]
  unfold MlaSpec.swap
  refine dite_congr rfl (fun hj => ?_) (fun hj => ?_)
  · after_reads_simp
    pointwise
  · after_reads_simp
    pointwise

/-- The queries in 128 lanes a head. -/
theorem queries (c : Dev nD) (n : Fin 8192) (h : Fin 8) (j : Fin 128) :
    (V m c main_v33 : FVec Ideal S8192x1024 .f32) (ix2 n ⟨h.val * 128 + j.val, by omega⟩)
      = MlaSpec.lay (fun i => (m ((c : Thread nD τ).loc main_arg0) : FVec Ideal S8192x768 .f32) (ix2 n ⟨h.val * 96 + i.val, by omega⟩)) j := by
  unfold V
  after_reads_simp
  pointwise
  unfold MlaSpec.lay
  refine dite_congr rfl (fun h1 => ?_) (fun h1 => dite_congr rfl (fun h2 => ?_) (fun h2 => ?_))
  · after_reads_simp
    pointwise
  · after_reads_simp
    pointwise
  · after_reads_simp
    pointwise

/-- The queries' gain in 128 lanes. -/
theorem qgain (c : Dev nD) (j : Fin 128) :
    (V m c main_v15 : FVec Ideal S1x128 .f32) (ix2 0 j)
      = MlaSpec.lay (fun i => (m ((c : Thread nD τ).loc main_arg4) : FVec Ideal S96 .f32) (ix1 i)) j := by
  unfold V
  after_reads_simp
  pointwise
  have e1 : j.val / 128 = 0 := by omega
  have e2 : j.val % 128 = j.val := by omega
  simp only [e1, e2]
  unfold MlaSpec.lay
  refine dite_congr rfl (fun h1 => ?_) (fun h1 => dite_congr rfl (fun h2 => ?_) (fun h2 => ?_))
  · after_reads_simp
    pointwise
    exact congrArg (fun i : Fin 96 => (m (c, Proc.tc.devRef main_arg4) : FVec Ideal S96 .f32) (ix1 i)) (Fin.ext (Nat.mod_eq_of_lt (by omega)))
  · after_reads_simp
    pointwise
  · after_reads_simp
    pointwise
    exact congrArg (fun i : Fin 96 => (m (c, Proc.tc.devRef main_arg4) : FVec Ideal S96 .f32) (ix1 i)) (Fin.ext (Nat.mod_eq_of_lt (by omega)))

/-- The keys' gain in 128 lanes. -/
theorem kgain (c : Dev nD) (j : Fin 128) :
    (V m c main_v26 : FVec Ideal S1x128 .f32) (ix2 0 j)
      = MlaSpec.lay (fun i => (m ((c : Thread nD τ).loc main_arg5) : FVec Ideal S96 .f32) (ix1 i)) j := by
  unfold V
  after_reads_simp
  pointwise
  have e1 : j.val / 128 = 0 := by omega
  have e2 : j.val % 128 = j.val := by omega
  simp only [e1, e2]
  unfold MlaSpec.lay
  refine dite_congr rfl (fun h1 => ?_) (fun h1 => dite_congr rfl (fun h2 => ?_) (fun h2 => ?_))
  · after_reads_simp
    pointwise
    exact congrArg (fun i : Fin 96 => (m (c, Proc.tc.devRef main_arg5) : FVec Ideal S96 .f32) (ix1 i)) (Fin.ext (Nat.mod_eq_of_lt (by omega)))
  · after_reads_simp
    pointwise
  · after_reads_simp
    pointwise
    exact congrArg (fun i : Fin 96 => (m (c, Proc.tc.devRef main_arg5) : FVec Ideal S96 .f32) (ix1 i)) (Fin.ext (Nat.mod_eq_of_lt (by omega)))

/-- The shared part of the keys, padded. -/
theorem shared (c : Dev nD) (n : Fin 8192) (j : Fin 128) :
    (V m c main_v34 : FVec Ideal S8192x128 .f32) (ix2 n j)
      = MlaSpec.padk (fun i => (m ((c : Thread nD τ).loc main_arg2) : FVec Ideal S8192x32 .f32) (ix2 n i)) j := by
  unfold V
  after_reads_simp
  simp only [StableHlo.TRef.toBuf, StableHlo.TRef.ofBuf, cast_cast, cast_eq]
  pointwise
  unfold MlaSpec.padk
  refine dite_congr rfl (fun hj => ?_) (fun hj => ?_)
  · rfl
  · exact zero

/-- The latent rows are the argument's. -/
theorem latent (c : Dev nD) (n : Fin 8192) (j : Fin 128) :
    (V m c main_arg1 : FVec Ideal S8192x128 .f32) (ix2 n j) = (m ((c : Thread nD τ).loc main_arg1) : FVec Ideal S8192x128 .f32) (ix2 n j) := by
  unfold V
  after_reads_simp

end Cert.MlaHost

end
-- ==== Proof.MlaBlocks.lean ====
module

public import proofs.«01_k».proof.Proof.MlaHost

/-! What each grid point's blocks hold, in terms of the call's arguments. -/

@[expose] public section

set_option maxRecDepth 16384

noncomputable section

namespace Cert.MlaBlocks

open Cert.MlaIdeal Cert.MlaIdeal.Gen Idealize.ShloMosaic Idealize.ShloMosaic.TcCoe Idealize.SL.Sem
open Idealize.ShloMosaic.Pipeline (Dat)

variable (m : (ℓ : Loc nD τ sig) → Buf (Elt Ideal) ℓ)

/-- The blocks' indices at each point: a batch and a pair of heads. -/
theorem idx : ∀ t : Fin cfg0.N, win0_0.index t = ![t.val / 4, t.val % 4] ∧ win0_1.index t = ![t.val / 4, 0] ∧ win0_2.index t = ![t.val / 4, 0] ∧ win0_3.index t = ![0, t.val % 4]
    ∧ win0_4.index t = ![0, 0] ∧ win0_5.index t = ![0, 0] ∧ win0_6.index t = ![t.val / 4, t.val % 4] :=
  (by decide +kernel : ∀ t : Fin grid0.N, _)

/-- A point's number is below 128. -/
theorem lt (t : Fin cfg0.N) : t.val < 128 := t.isLt

/-- The first head's queries. -/
theorem q_lo (c : Dev nD) (t : Fin cfg0.N) (r : Fin 256) (k : Fin 128) :
    iblk m c 0 t (ix2 r ⟨0 + k.val, by omega⟩)
      = MlaSpec.lay (fun i => (m ((c : Thread nD τ).loc main_arg0) : FVec Ideal S8192x768 .f32) (ix2 ⟨t.val / 4 * 256 + r.val, by have := lt t; omega⟩ ⟨2 * (t.val % 4) * 96 + i.val, by omega⟩)) k := by
  have ht := lt t
  refine Eq.trans ?_ (MlaHost.queries m c ⟨t.val / 4 * 256 + r.val, by omega⟩ ⟨2 * (t.val % 4), by omega⟩ k)
  blk_point [iblk, idx t]

/-- The second head's queries. -/
theorem q_hi (c : Dev nD) (t : Fin cfg0.N) (r : Fin 256) (k : Fin 128) :
    iblk m c 0 t (ix2 r ⟨128 + k.val, by omega⟩)
      = MlaSpec.lay (fun i => (m ((c : Thread nD τ).loc main_arg0) : FVec Ideal S8192x768 .f32) (ix2 ⟨t.val / 4 * 256 + r.val, by have := lt t; omega⟩ ⟨(2 * (t.val % 4) + 1) * 96 + i.val, by omega⟩)) k := by
  have ht := lt t
  refine Eq.trans ?_ (MlaHost.queries m c ⟨t.val / 4 * 256 + r.val, by omega⟩ ⟨2 * (t.val % 4) + 1, by omega⟩ k)
  blk_point [iblk, idx t]

/-- The latent rows of the batch. -/
theorem latent (c : Dev nD) (t : Fin cfg0.N) (s : Fin 256) (k : Fin 128) :
    iblk m c 1 t (ix2 s k) = (m ((c : Thread nD τ).loc main_arg1) : FVec Ideal S8192x128 .f32) (ix2 ⟨t.val / 4 * 256 + s.val, by have := lt t; omega⟩ k) := by
  have ht := lt t
  refine Eq.trans ?_ (MlaHost.latent m c ⟨t.val / 4 * 256 + s.val, by omega⟩ k)
  blk_point [iblk, idx t]

/-- The shared parts of the keys of the batch. -/
theorem shared (c : Dev nD) (t : Fin cfg0.N) (s : Fin 256) (k : Fin 128) :
    iblk m c 2 t (ix2 s k) = MlaSpec.padk (fun i => (m ((c : Thread nD τ).loc main_arg2) : FVec Ideal S8192x32 .f32) (ix2 ⟨t.val / 4 * 256 + s.val, by have := lt t; omega⟩ i)) k := by
  have ht := lt t
  refine Eq.trans ?_ (MlaHost.shared m c ⟨t.val / 4 * 256 + s.val, by omega⟩ k)
  blk_point [iblk, idx t]

/-- The first head's weights. -/
theorem w_lo (c : Dev nD) (t : Fin cfg0.N) (k j : Fin 128) :
    iblk m c 3 t (ix2 k ⟨0 + j.val, by omega⟩)
      = MlaSpec.swap (fun k j => (m ((c : Thread nD τ).loc main_arg3) : FVec Ideal S128x1024 .f32) (ix2 k ⟨2 * (t.val % 4) * 128 + j.val, by omega⟩)) k j := by
  have ht := lt t
  refine Eq.trans ?_ (MlaHost.weights m c k ⟨2 * (t.val % 4), by omega⟩ j)
  blk_point [iblk, idx t]

/-- The second head's weights. -/
theorem w_hi (c : Dev nD) (t : Fin cfg0.N) (k j : Fin 128) :
    iblk m c 3 t (ix2 k ⟨128 + j.val, by omega⟩)
      = MlaSpec.swap (fun k j => (m ((c : Thread nD τ).loc main_arg3) : FVec Ideal S128x1024 .f32) (ix2 k ⟨(2 * (t.val % 4) + 1) * 128 + j.val, by omega⟩)) k j := by
  have ht := lt t
  refine Eq.trans ?_ (MlaHost.weights m c k ⟨2 * (t.val % 4) + 1, by omega⟩ j)
  blk_point [iblk, idx t]

/-- The queries' gain. -/
theorem qgain (c : Dev nD) (t : Fin cfg0.N) (k : Fin 128) :
    iblk m c 4 t (ix2 0 k) = MlaSpec.lay (fun i => (m ((c : Thread nD τ).loc main_arg4) : FVec Ideal S96 .f32) (ix1 i)) k := by
  refine Eq.trans ?_ (MlaHost.qgain m c k)
  blk_point [iblk, idx t]

/-- The keys' gain. -/
theorem kgain (c : Dev nD) (t : Fin cfg0.N) (k : Fin 128) :
    iblk m c 5 t (ix2 0 k) = MlaSpec.lay (fun i => (m ((c : Thread nD τ).loc main_arg5) : FVec Ideal S96 .f32) (ix1 i)) k := by
  refine Eq.trans ?_ (MlaHost.kgain m c k)
  blk_point [iblk, idx t]

end Cert.MlaBlocks

end
-- ==== Proof.MlaReference.lean ====
module

public import proofs.«01_k».proof.Proof.Gen.MlaRefIdeal.Read
public import proofs.«01_k».proof.Proof.MlaSpec

/-! The latent attention's reference read at one place of its result. -/

@[expose] public section

set_option maxRecDepth 16384

noncomputable section

namespace Cert.MlaReference

open Cert.MlaRefIdeal Cert.MlaRefIdeal.Gen Cert.MlaRefIdeal.Read Idealize.ShloMosaic Idealize.ShloMosaic.TcCoe Idealize.SL.Sem Cert.RowSoftmax

variable (x0 : FVec Ideal S8192x768 .f32) (x1 : FVec Ideal S8192x128 .f32) (x2 : FVec Ideal S8192x32 .f32) (x3 : FVec Ideal S128x1024 .f32) (x4 x5 : FVec Ideal S96 .f32)

/-- A maximum over the last axis. -/
theorem max_at (y : FVec Ideal S32x8x256x256 .f32) (c : FVec Ideal S_ .f32) (b : Fin 32) (h : Fin 8) (q : Fin 256) :
    Host.reduce FloatOps.maximumf y c reducesTo_S32x8x256x256_S32x8x256_d3 h_S_ (ix3 b h q)
      = Finset.univ.fold max (c (Shape.Idx.first h_S_)) fun s : Fin 256 => y (ix4 b h q s) := by
  pointwise!

/-- The normed queries. -/
theorem query_at (b : Fin 32) (t : Fin 256) (h : Fin 8) (d : Fin 96) :
    val_main_v13 (F := Ideal) x0 x4 (ix4 b t h d)
      = rmsn 96⁻¹ (fun i : Fin 96 => x0 (ix2 ⟨b.val * 256 + t.val, by omega⟩ ⟨h.val * 96 + i.val, by omega⟩)) (fun i => x4 (ix1 i)) d := by
  pointwise! [val_main_v13, val_main_v12, val_main_v11, val_main_v10, val_main_v9, val_main_v8, val_main_v7, val_main_v6, val_main_v5, val_main_v4, val_main_v3, val_main_v2, val_main_v1, val_main_v0, val_main_cst, val_main_cst_0, val_main_cst_1, rmsn, MlaSpec.div_96]

/-- The latent rows through the weights. -/
theorem kv_at (b : Fin 32) (t : Fin 256) (h : Fin 8) (d : Fin 128) :
    val_main_v16 (F := Ideal) x1 x3 (ix4 b t h d)
      = ∑ k : Fin 128, x1 (ix2 ⟨b.val * 256 + t.val, by omega⟩ k) * x3 (ix2 k ⟨h.val * 128 + d.val, by omega⟩) := by
  pointwise! [val_main_v16, val_main_v15, val_main_v14]

/-- The keys before their norm. -/
theorem key_at (b : Fin 32) (t : Fin 256) (h : Fin 8) (d : Fin 96) :
    val_main_v20 (F := Ideal) x1 x2 x3 (ix4 b t h d)
      = MlaSpec.key (fun k => x1 (ix2 ⟨b.val * 256 + t.val, by omega⟩ k)) (fun k => x2 (ix2 ⟨b.val * 256 + t.val, by omega⟩ k))
          (fun k j => x3 (ix2 k ⟨h.val * 128 + j.val, by omega⟩)) d := by
  pointwise! [val_main_v20, val_main_v19, val_main_v18, val_main_v17]
  simp only [kv_at, MlaSpec.key]

/-- The normed keys. -/
theorem nkey_at (b : Fin 32) (t : Fin 256) (h : Fin 8) (d : Fin 96) :
    val_main_v33 (F := Ideal) x1 x2 x3 x5 (ix4 b t h d)
      = rmsn 96⁻¹ (MlaSpec.key (fun k => x1 (ix2 ⟨b.val * 256 + t.val, by omega⟩ k)) (fun k => x2 (ix2 ⟨b.val * 256 + t.val, by omega⟩ k))
          (fun k j => x3 (ix2 k ⟨h.val * 128 + j.val, by omega⟩))) (fun i => x5 (ix1 i)) d := by
  pointwise! [val_main_v33, val_main_v32, val_main_v31, val_main_v30, val_main_v29, val_main_v28, val_main_v27, val_main_v26, val_main_v25, val_main_v24, val_main_v23, val_main_v22, val_main_v21, val_main_cst_2, val_main_cst_3, val_main_cst_4]
  simp only [key_at, rmsn, MlaSpec.div_96]

/-- The scores. -/
theorem score_at (b : Fin 32) (h : Fin 8) (q s : Fin 256) :
    val_main_v37 (F := Ideal) x0 x1 x2 x3 x4 x5 (ix4 b h q s)
      = MlaSpec.score (fun i : Fin 96 => x0 (ix2 ⟨b.val * 256 + q.val, by omega⟩ ⟨h.val * 96 + i.val, by omega⟩)) (fun i => x4 (ix1 i)) (fun i => x5 (ix1 i))
          (fun s k => x1 (ix2 ⟨b.val * 256 + s.val, by omega⟩ k)) (fun s k => x2 (ix2 ⟨b.val * 256 + s.val, by omega⟩ k))
          (fun k j => x3 (ix2 k ⟨h.val * 128 + j.val, by omega⟩)) s := by
  pointwise! [val_main_v37, val_main_v36, val_main_v35, val_main_cst_5]
  simp only [query_at, nkey_at, MlaSpec.score]

/-- The reference's maximum, as its line states it. -/
theorem v38_eq : val_main_v38 (F := Ideal) x0 x1 x2 x3 x4 x5
      = Host.reduce (FloatOps.maximumf (F := Ideal) (φ := .f32)) (val_main_v37 (F := Ideal) x0 x1 x2 x3 x4 x5) (val_main_cst_6 (F := Ideal)) reducesTo_S32x8x256x256_S32x8x256_d3 h_S_ := by
  delta val_main_v38
  exact Eq.refl _

/-- The greatest score of a query. -/
theorem top_at (b : Fin 32) (h : Fin 8) (q : Fin 256) :
    val_main_v38 (F := Ideal) x0 x1 x2 x3 x4 x5 (ix3 b h q)
      = Finset.univ.fold max (val_main_cst_6 (F := Ideal) (Shape.Idx.first h_S_)) fun s : Fin 256 => val_main_v37 (F := Ideal) x0 x1 x2 x3 x4 x5 (ix4 b h q s) :=
  (congrFun (v38_eq x0 x1 x2 x3 x4 x5) (ix3 b h q)).trans (max_at _ _ b h q)

/-- The maximum starts from minus infinity. -/
theorem cst6 : val_main_cst_6 (F := Ideal) (Shape.Idx.first h_S_) = Ideal.ofBits .f32 0xFF800000#32 := rfl

/-- The weights of any scores and any maxima. -/
theorem weight_of (y : FVec Ideal S32x8x256x256 .f32) (u : FVec Ideal S32x8x256 .f32) (b : Fin 32) (h : Fin 8) (q s : Fin 256) :
    Host.exp (subf y (broadcastInDim S32x8x256x256 ![0, 1, 2, 3] bcast_S32x8x256x1_S32x8x256x256_0_1_2_3
      (broadcastInDim S32x8x256x1 ![0, 1, 2] bcast_S32x8x256_S32x8x256x1_0_1_2 (maximumf (val_main_v39 (F := Ideal)) u)))) (ix4 b h q s)
      = Ideal.exp (y (ix4 b h q s) - max (Ideal.ofBits .f32 0xFF800000#32) (u (ix3 b h q))) := by
  pointwise! [val_main_v39, val_main_cst_7]

/-- The reference's weights, as its lines state them. -/
theorem v44_eq : val_main_v44 (F := Ideal) x0 x1 x2 x3 x4 x5
      = Host.exp (F := Ideal) (φ := .f32) (subf (val_main_v37 (F := Ideal) x0 x1 x2 x3 x4 x5) (broadcastInDim S32x8x256x256 ![0, 1, 2, 3] bcast_S32x8x256x1_S32x8x256x256_0_1_2_3
      (broadcastInDim S32x8x256x1 ![0, 1, 2] bcast_S32x8x256_S32x8x256x1_0_1_2 (maximumf (val_main_v39 (F := Ideal)) (val_main_v38 (F := Ideal) x0 x1 x2 x3 x4 x5))))) := by
  delta val_main_v44 val_main_v43 val_main_v42 val_main_v41 val_main_v40
  exact Eq.refl _

/-- The weights from the scores and their maxima. -/
theorem weight_raw (b : Fin 32) (h : Fin 8) (q s : Fin 256) :
    val_main_v44 (F := Ideal) x0 x1 x2 x3 x4 x5 (ix4 b h q s)
      = Ideal.exp (val_main_v37 (F := Ideal) x0 x1 x2 x3 x4 x5 (ix4 b h q s) - max (Ideal.ofBits .f32 0xFF800000#32) (val_main_v38 (F := Ideal) x0 x1 x2 x3 x4 x5 (ix3 b h q))) :=
  (congrFun (v44_eq x0 x1 x2 x3 x4 x5) (ix4 b h q s)).trans (weight_of _ _ b h q s)

/-- The weights. -/
theorem weight_at (b : Fin 32) (h : Fin 8) (q s : Fin 256) :
    val_main_v44 (F := Ideal) x0 x1 x2 x3 x4 x5 (ix4 b h q s) = wt (fun s : Fin 256 => val_main_v37 (F := Ideal) x0 x1 x2 x3 x4 x5 (ix4 b h q s)) s := by
  unfold wt
  rw [weight_raw, top_at, cst6, max_fold]

/-- The reference's result at one place, from its arguments. -/
theorem row_at (n : Fin 8192) (d : Fin 512) :
    val_main_v51 (F := Ideal) x0 x1 x2 x3 x4 x5 (ix2 n d)
      = MlaSpec.head (fun i : Fin 96 => x0 (ix2 ⟨n.val / 256 * 256 + n.val % 256, by omega⟩ ⟨d.val / 64 * 96 + i.val, by omega⟩)) (fun i => x4 (ix1 i)) (fun i => x5 (ix1 i))
          (fun s k => x1 (ix2 ⟨n.val / 256 * 256 + s.val, by omega⟩ k)) (fun s k => x2 (ix2 ⟨n.val / 256 * 256 + s.val, by omega⟩ k))
          (fun k j => x3 (ix2 k ⟨d.val / 64 * 128 + j.val, by omega⟩)) ⟨d.val % 64, by omega⟩ := by
  pointwise [val_main_v51, val_main_v50, val_main_v49, val_main_v48, val_main_v47, val_main_v46, val_main_v45, val_main_v34, val_main_cst_8]
  simp only [weight_at, score_at, kv_at, MlaSpec.head, early, MlaSpec.val]

end Cert.MlaReference

end
-- ==== Proof.MlaFinal.lean ====
module

public import proofs.«01_k».proof.Proof.MlaLanes
public import proofs.«01_k».proof.Proof.MlaBlocks
public import proofs.«01_k».proof.Proof.MlaReference
public import Idealize.ShloMosaic.Lib.Claim

/-! The kernel's result array is the reference's, where the gains are real numbers. -/

@[expose] public section

set_option maxRecDepth 16384

noncomputable section

namespace Cert.MlaFinal

open Cert.MlaIdeal Cert.MlaIdeal.Gen Idealize.ShloMosaic Idealize.ShloMosaic.TcCoe Idealize.SL.Sem
open Idealize.ShloMosaic.Pipeline (Dat)
open Cert.RowSoftmax

variable (m : (ℓ : Loc nD τ sig) → Buf (Elt Ideal) ℓ)

/-- The reference's result over the kernel's arguments. -/
abbrev REF (c : Dev nD) : FVec Ideal S8192x512 .f32 :=
  Cert.MlaRefIdeal.Read.val_main_v51 (F := Ideal) (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- The reference's entry for a token of a batch and a lane of a head. -/
theorem ref_at (x0 : FVec Ideal S8192x768 .f32) (x1 : FVec Ideal S8192x128 .f32) (x2 : FVec Ideal S8192x32 .f32) (x3 : FVec Ideal S128x1024 .f32) (x4 x5 : FVec Ideal S96 .f32)
    (n : Fin 8192) (d : Fin 512) (b r h : Nat) (e : Fin 64) (hb : b < 32) (hr : r < 256) (hh : h < 8) (hn : n.val = b * 256 + r) (hd : d.val = h * 64 + e.val) :
    Cert.MlaRefIdeal.Read.val_main_v51 (F := Ideal) x0 x1 x2 x3 x4 x5 (ix2 n d)
      = MlaSpec.head (fun i : Fin 96 => x0 (ix2 ⟨b * 256 + r, by omega⟩ ⟨h * 96 + i.val, by omega⟩)) (fun i => x4 (ix1 i)) (fun i => x5 (ix1 i))
          (fun s k => x1 (ix2 ⟨b * 256 + s.val, by omega⟩ k)) (fun s k => x2 (ix2 ⟨b * 256 + s.val, by omega⟩ k))
          (fun k j => x3 (ix2 k ⟨h * 128 + j.val, by omega⟩)) e := by
  have e1 : n.val / 256 = b := by omega
  have e2 : n.val % 256 = r := by omega
  have e3 : d.val / 64 = h := by omega
  have e4 : d.val % 64 = e.val := by omega
  refine (MlaReference.row_at x0 x1 x2 x3 x4 x5 n d).trans ?_
  simp only [e1, e2, e3, e4]

/-- What each point writes at a position of its block is the reference's value at that place of the array. -/
theorem point (c : Dev nD) (hq : ∀ i, IsReal ((m ((c : Thread nD τ).loc main_arg4) : FVec Ideal S96 .f32) (ix1 i))) (hk : ∀ i, IsReal ((m ((c : Thread nD τ).loc main_arg5) : FVec Ideal S96 .f32) (ix1 i))) (t : Fin cfg0.N) (y : S256x128.Idx) :
    (outsAt0 m c t : FVec Ideal S256x128 .f32) y = REF m c (((cfg0.win 6).blk t).view.emb y) := by
  obtain ⟨r, j, rfl⟩ : ∃ (r : Fin 256) (j : Fin 128), y = ix2 r j := ⟨y 0, y 1, eq_ix2 y⟩
  have ht := MlaBlocks.lt t
  have e : ((cfg0.win 6).blk t).view.emb (ix2 r j) = ix2 (⟨t.val / 4 * 256 + r.val, by omega⟩ : Fin 8192) (⟨t.val % 4 * 128 + j.val, by omega⟩ : Fin 512) := by
    blk_ext [MlaBlocks.idx t]
  rw [e]
  refine (MlaOut.out_at m c t r j).trans ?_
  by_cases hj : j.val < 64
  · refine Eq.trans ?_ (ref_at _ _ _ _ _ _ _ _ (t.val / 4) r.val (2 * (t.val % 4)) ⟨j.val, hj⟩ (by omega) (by omega) (by omega) rfl (by simp only []; omega)).symm
    exact MlaLanes.lane_lo _ _ _ _ _ _ r j _ _ _ _ _ _ ⟨j.val, hj⟩ rfl hq hk (MlaBlocks.q_lo m c t r) (MlaBlocks.qgain m c t) (MlaBlocks.kgain m c t)
      (MlaBlocks.latent m c t) (MlaBlocks.shared m c t) (MlaBlocks.w_lo m c t)
  · refine Eq.trans ?_ (ref_at _ _ _ _ _ _ _ _ (t.val / 4) r.val (2 * (t.val % 4) + 1) ⟨j.val - 64, by omega⟩ (by omega) (by omega) (by omega) rfl (by simp only []; omega)).symm
    exact MlaLanes.lane_hi _ _ _ _ _ _ r j _ _ _ _ _ _ ⟨j.val - 64, by omega⟩ (by simp only []; omega) hq hk (MlaBlocks.q_hi m c t r) (MlaBlocks.qgain m c t) (MlaBlocks.kgain m c t)
      (MlaBlocks.latent m c t) (MlaBlocks.shared m c t) (MlaBlocks.w_hi m c t)

/-- The result array after the run is the reference's, the gains being real numbers. -/
theorem final (c : Dev nD) (hq : ∀ i, IsReal ((m ((c : Thread nD τ).loc main_arg4) : FVec Ideal S96 .f32) (ix1 i))) (hk : ∀ i, IsReal ((m ((c : Thread nD τ).loc main_arg5) : FVec Ideal S96 .f32) (ix1 i))) :
    (dats m 0 c).arrAt 6 (cfgs 0).N = REF m c := by
  refine (dats m 0 c).arrAt_eq_of_covers 6 _ (by decide +kernel) fun t _ y => ?_
  blk_simp
  rw [after0_6]
  exact point m c hq hk t y

end Cert.MlaFinal

end
-- ==== Proof.MlaGains.lean ====
module

public import proofs.«01_k».proof.Proof.RowSoftmax
public import proofs.«01_k».proof.Defs

/-! What the precondition on the gains says of them. -/

@[expose] public section

set_option maxRecDepth 16384

noncomputable section

namespace Cert.MlaGains

open Cert.Pre_mla_gains_finite Cert.RowSoftmax Idealize.ShloMosaic

/-- A number whose magnitude is below infinity is real. -/
theorem real_of_lt (x : EReal) (h : max x (-x) < ⊤) : IsReal x := by
  induction x with
  | bot => simp at h
  | top => simp at h
  | coe r => exact ⟨r, rfl⟩

/-- The pattern of infinity. -/
theorem ofBits_top : Ideal.ofBits .f32 0x7F800000#32 = ⊤ := by simp [Ideal.ofBits, Ideal.ieee]

/-- Two conditions that hold together hold each. -/
theorem both (p q : Prop) [Decidable p] [Decidable q] (h : IntOp.andi (BitVec.ofBool (decide p)) (BitVec.ofBool (decide q)) = 1#1) : p ∧ q := by
  by_cases hp : p <;> by_cases hq : q <;> simp_all [IntOp.andi]

/-- The precondition says that both gains are real numbers. -/
theorem gains [Cert.Pre_mla_gains_finite.Facts] (x0 : FVec Ideal S8192x768 .f32) (x1 : FVec Ideal S8192x128 .f32) (x2 : FVec Ideal S8192x32 .f32) (x3 : FVec Ideal S128x1024 .f32) (x4 x5 : FVec Ideal S96 .f32)
    (h : Cert.Pre_mla_gains_finite.fn (F := Ideal) x0 x1 x2 x3 x4 x5 = fun _ => 1#1) (i : Fin 96) : IsReal (x4 (ix1 i)) ∧ IsReal (x5 (ix1 i)) := by
  have hi := congrFun h (ix1 i)
  revert hi
  pointwise [Cert.Pre_mla_gains_finite.fn]
  rw [ofBits_top]
  intro hi
  exact ⟨real_of_lt _ (both _ _ hi).1, real_of_lt _ (both _ _ hi).2⟩

end Cert.MlaGains

end
-- ==== Proof.MlaClaim.lean ====
module

public import proofs.«01_k».proof.Proof.MlaFinal
public import proofs.«01_k».proof.Proof.MlaGains
public import proofs.«01_k».proof.Defs
public import proofs.«01_k».proof.Proof.Gen.MlaIdeal.Frame
public import proofs.«01_k».proof.Proof.Gen.MlaRefIdeal.Run
public import proofs.«01_k».proof.Proof.Gen.MlaRefIdeal.Read
public import Idealize.ShloMosaic.Lib.Claim
public import Idealize.ShloMosaic.Lib.StableHlo.RunRead

/-! The claims about the latent attention: the reference runs and keeps its arguments; the kernel's result is the reference's where
    the gains are finite. -/

@[expose] public section

set_option maxRecDepth 16384

noncomputable section

namespace Cert.MlaClaim

open Idealize.ShloMosaic Idealize.SL.Sem

/-- The reference runs to its end, keeps its arguments, and leaves every counter at zero. -/
theorem reference : Cert.quiescent_MlaRefIdeal := by
  intro m g _
  exact (θ_run Cert.MlaRefIdeal.defs _ _).mono (fun r h => ⟨fun c => (h c).2, funext fun s => nomatch s⟩) (Cert.MlaRefIdeal.Value.run (F := Ideal) m g)

/-- So it does under the precondition. -/
theorem reference_pre [Cert.Pre_mla_gains_finite.Facts] : Cert.quiescent_MlaRefIdeal_pre_mla_gains_finite :=
  fun m g _ => reference m g trivial

/-- From equal arguments with finite gains the kernel and the reference end with equal results. -/
theorem equal [Cert.Pre_mla_gains_finite.Facts] : Cert.algebraic_MlaIdeal_MlaRefIdeal_pre_mla_gains_finite := by
  pair_intro
  · run_from Cert.MlaIdeal.Gen.run_main m g
    all_goals after_reads_simp
  · run_from Cert.MlaRefIdeal.Value.run m' g'
    rw [Cert.MlaFinal.final m c (fun i => (MlaGains.gains _ _ _ _ _ _ (hpre c) i).1) (fun i => (MlaGains.gains _ _ _ _ _ _ (hpre c) i).2), Cert.MlaRefIdeal.Read.val_main_v51_eq]
    obtain ⟨h0, h1, h2, h3, h4, h5⟩ := hagree c
    rw [h0, h1, h2, h3, h4, h5]

end Cert.MlaClaim

end
-- ==== Proof.GqaSpec.lean ====
module

public import proofs.«01_k».proof.Proof.RowSoftmax

/-! One head of the grouped attention, plainly and in the lanes of the kernel, as functions on the extended reals. -/

@[expose] public section

set_option maxRecDepth 16384

noncomputable section

namespace Cert.GqaSpec

open Idealize.ShloMosaic Cert.RowSoftmax

/-- The scale of the scores, an eighth. -/
abbrev scale : EReal := Ideal.ofBits .f32 0x3E000000#32

/-- The scale is a real number. -/
theorem scale_real : IsReal scale := ⟨_, by simp [Ideal.ofBits, Ideal.ieee, -EReal.coe_mul]; rfl⟩

/-- The score of a query against a key. -/
def score (q g : Fin 64 → EReal) (k : Fin 256 → Fin 64 → EReal) (s : Fin 256) : EReal := (∑ i, rmsn 64⁻¹ q g i * k s i) * scale

/-- One entry of a head's result: the mean of the values under the normalized weights of the scores. -/
def head (q g : Fin 64 → EReal) (k : Fin 256 → Fin 64 → EReal) (v : Fin 256 → EReal) : EReal := early (score q g k) v

/-- The pattern of 64.0 is 64. -/
theorem ofBits_64 : Ideal.ofBits .f32 0x42800000#32 = ((64 : ℝ) : EReal) := by
  simp [Ideal.ofBits, Ideal.ieee, -EReal.coe_mul]; norm_num

/-- The pattern of 1/64 is the reciprocal of 64. -/
theorem ofBits_inv64 : Ideal.ofBits .f32 0x3C800000#32 = ((64⁻¹ : ℝ) : EReal) := by
  simp [Ideal.ofBits, Ideal.ieee, -EReal.coe_mul]; norm_num

/-- The pattern of 1.0 is 1. -/
theorem ofBits_one : Ideal.ofBits .f32 0x3F800000#32 = 1 := by
  rw [← EReal.coe_one]
  simp [Ideal.ofBits, Ideal.ieee, -EReal.coe_mul, -EReal.coe_one]; norm_num

/-- The pattern of 0.0 is 0. -/
theorem ofBits_zero : Ideal.ofBits .f32 0x00000000#32 = 0 := by
  simp [Ideal.ofBits, Ideal.ieee]

/-- Dividing by 64 is multiplying by its reciprocal. -/
theorem div_64 (x : EReal) : Ideal.div x (Ideal.ofBits .f32 0x42800000#32) = x * ((64⁻¹ : ℝ) : EReal) := by
  rw [ofBits_64, Ideal.div_coe (by norm_num), one_div]

/-- One of the four spans of 64 lanes in 256 lanes. -/
def span (x : Fin 256 → EReal) (j : Fin 4) (i : Fin 64) : EReal := x ⟨j.val * 64 + i.val, by omega⟩

/-- A sum over 256 lanes that keeps one span is the sum over the span. -/
theorem sum_span (f : Fin 256 → EReal) (j : Fin 4) : (∑ l : Fin 256, if l.val / 64 = j.val then f l else 0) = ∑ i, span f j i := by
  rw [← Finset.sum_filter]
  symm
  refine Finset.sum_bij (fun i _ => (⟨j.val * 64 + i.val, by omega⟩ : Fin 256)) (fun i _ => ?_) (fun a _ b _ h => ?_) (fun l hl => ?_) (fun i _ => rfl)
  · simp only [Finset.mem_filter, Finset.mem_univ, true_and]; omega
  · have := congrArg Fin.val h
    exact Fin.ext (by simp only [] at this; omega)
  · simp only [Finset.mem_filter, Finset.mem_univ, true_and] at hl
    exact ⟨⟨l.val - j.val * 64, by omega⟩, Finset.mem_univ _, Fin.ext (by simp only []; omega)⟩

/-- A row's squares summed over the span of a lane, the row split in three. -/
def sumsq (x : Fin 256 → EReal) (l : Fin 256) : EReal :=
  (∑ k : Fin 256, if k.val / 64 = l.val / 64 then x k * x k else 0)
    + (∑ k : Fin 256, if k.val / 64 = l.val / 64 then x k * x k - x k * x k else 0)
    + ∑ k : Fin 256, if k.val / 64 = l.val / 64 then x k * x k - x k * x k - (x k * x k - x k * x k) else 0

/-- The scaled normed query in 256 lanes. -/
def lquery (x g : Fin 256 → EReal) (l : Fin 256) : EReal :=
  x l * Ideal.rsqrt (sumsq x l * ((64⁻¹ : ℝ) : EReal) + Ideal.ofBits .f32 0x358637BD#32) * g l * scale

/-- The score in 256 lanes of one head: the other heads' lanes are zero. -/
def lscore (x g : Fin 256 → EReal) (j : Nat) (k : Fin 256 → Fin 256 → EReal) (s : Fin 256) : EReal :=
  ∑ l : Fin 256, if l.val / 64 = j then lquery x g l * k s l else 0

/-- A real number less itself is zero. -/
theorem sub_self_real (x : EReal) (h : IsReal x) : x - x = 0 := by
  obtain ⟨r, rfl⟩ := h
  rw [← EReal.coe_sub, sub_self, EReal.coe_zero]

/-- With a real row the split adds nothing: the squares are summed over the span. -/
theorem sumsq_eq (x : Fin 256 → EReal) (hx : ∀ l, IsReal (x l)) (j : Fin 4) (i : Fin 64) :
    sumsq x ⟨j.val * 64 + i.val, by omega⟩ = ∑ i, span x j i * span x j i := by
  have hd : (j.val * 64 + i.val) / 64 = j.val := by omega
  unfold sumsq
  simp only [hd, fun k => sub_self_real _ ((hx k).mul (hx k)), sub_self_real _ (IsReal.coe 0), sub_zero, ite_self, Finset.sum_const_zero, add_zero]
  exact sum_span (fun k => x k * x k) j

/-- The scaled normed query at a lane of a head. -/
theorem lquery_eq (x g : Fin 256 → EReal) (hx : ∀ l, IsReal (x l)) (j : Fin 4) (i : Fin 64) :
    lquery x g ⟨j.val * 64 + i.val, by omega⟩ = rmsn 64⁻¹ (span x j) (span g j) i * scale := by
  unfold lquery rmsn
  rw [sumsq_eq x hx]
  rfl

/-- With real entries the score in 256 lanes is the head's score. -/
theorem lscore_eq (x g : Fin 256 → EReal) (k : Fin 256 → Fin 256 → EReal) (hx : ∀ l, IsReal (x l)) (hg : ∀ l, IsReal (g l)) (hk : ∀ s l, IsReal (k s l)) (j : Fin 4) :
    lscore x g j.val k = score (span x j) (span g j) (fun s => span (k s) j) := by
  funext s
  unfold lscore score
  rw [← sum_scale (rmsn 64⁻¹ (span x j) (span g j)) (span (k s) j) scale (norm_real _ (by norm_num) _ _ fun i => hg _) (fun i => hk s _) scale_real]
  rw [sum_span (fun l => lquery x g l * k s l)]
  refine Finset.sum_congr rfl fun i _ => ?_
  rw [← lquery_eq x g hx]
  rfl

/-- With real entries the mean divided at the end over the scores in 256 lanes is the head's result. -/
theorem late_eq (x g : Fin 256 → EReal) (k : Fin 256 → Fin 256 → EReal) (v : Fin 256 → EReal) (hx : ∀ l, IsReal (x l)) (hg : ∀ l, IsReal (g l)) (hk : ∀ s l, IsReal (k s l)) (j : Fin 4) :
    late (lscore x g j.val k) v = head (span x j) (span g j) (fun s => span (k s) j) v := by
  rw [lscore_eq x g k hx hg hk]
  refine late_eq_early _ _ (fun s => ?_) 0
  exact (IsReal.sum _ fun i => (norm_real _ (by norm_num) _ _ (fun i => hg _) i).mul (hk s _)).mul scale_real

end Cert.GqaSpec

end
-- ==== Proof.GqaKernel.lean ====
module

public import proofs.«01_k».proof.Proof.Gen.GqaIdeal.Value
public import proofs.«01_k».proof.Proof.GqaSpec

/-! The pieces of the grouped attention kernel read at an index. -/

@[expose] public section

set_option maxRecDepth 16384

noncomputable section

namespace Cert.GqaKernel

open Cert.GqaIdeal Cert.GqaIdeal.Gen Idealize.ShloMosaic Idealize.ShloMosaic.TcCoe Idealize.SL.Sem
open Idealize.ShloMosaic.Pipeline (Dat)
open Cert.RowSoftmax

/-- The head of a row's number. -/
theorem pay8_at (r c : Fin 256) : k0_pay8 (ix2 r c) = BitVec.ofNat 32 (r.val / 64) := by
  pointwise [k0_pay8]
  revert r
  decide +kernel

/-- The head of a lane. -/
theorem pay13_at (r c : Fin 256) : k0_pay13 (iota Kind.tc S256x256 32 [1] iota_S256x256_d1_w32) 64#32 k0_pay12 (ix2 r c) = BitVec.ofNat 32 (c.val / 64) := by
  pointwise [k0_pay13, k0_pay12]
  revert c
  decide +kernel

/-- The head of a lane, as the sum of squares takes it. -/
theorem lane_head : ∀ c : Fin 256,
    Scalar.select
      (IntOp.andi
        (IntOp.cmpi CmpIPredicate.ne
          (IntOp.subi (BitVec.setWidth 32 (IntOp.cmpi CmpIPredicate.sgt (BitVec.ofNat 32 c.val) 0#32))
            (BitVec.setWidth 32 (IntOp.cmpi CmpIPredicate.slt (BitVec.ofNat 32 c.val) 0#32)))
          (Scalar.subi (1#32) (Scalar.extui (Scalar.cmpi CmpIPredicate.slt 64#32 0#32))))
        (IntOp.cmpi CmpIPredicate.ne (IntOp.remsi ArithUnit.vector (BitVec.ofNat 32 c.val) 64#32) 0#32))
      (IntOp.subi (IntOp.divsi ArithUnit.vector (BitVec.ofNat 32 c.val) 64#32) 1#32)
      (IntOp.divsi ArithUnit.vector (BitVec.ofNat 32 c.val) 64#32) = BitVec.ofNat 32 (c.val / 64) := by decide +kernel

/-- Two heads are compared. -/
theorem cmp_head : ∀ a b : Fin 4, IntOp.cmpi CmpIPredicate.eq (BitVec.ofNat 32 a.val) (BitVec.ofNat 32 b.val) = if a.val = b.val then 1#1 else 0#1 := by decide +kernel

/-- Choosing by two heads. -/
theorem sel_heads (a b : Nat) (ha : a < 4) (hb : b < 4) (x y : EReal) :
    Scalar.select (IntOp.cmpi CmpIPredicate.eq (BitVec.ofNat 32 a) (BitVec.ofNat 32 b)) x y = if a = b then x else y := by
  rw [cmp_head ⟨a, ha⟩ ⟨b, hb⟩]
  simp only []
  split_ifs <;> simp [Scalar.select]

/-- Choosing by two lanes' heads. -/
theorem sel_span (a b : Fin 256) (x y : EReal) :
    Scalar.select (IntOp.cmpi CmpIPredicate.eq (BitVec.ofNat 32 (a.val / 64)) (BitVec.ofNat 32 (b.val / 64))) x y = if a.val / 64 = b.val / 64 then x else y :=
  sel_heads _ _ (by omega) (by omega) x y

/-- Choosing the first head's lanes. -/
theorem sel_0 (a : Fin 256) (x y : EReal) : Scalar.select (IntOp.cmpi CmpIPredicate.eq (BitVec.ofNat 32 (a.val / 64)) 0#32) x y = if a.val / 64 = 0 then x else y :=
  sel_heads _ _ (by omega) (by omega) x y

/-- Choosing the second head's lanes. -/
theorem sel_1 (a : Fin 256) (x y : EReal) : Scalar.select (IntOp.cmpi CmpIPredicate.eq (BitVec.ofNat 32 (a.val / 64)) 1#32) x y = if a.val / 64 = 1 then x else y :=
  sel_heads _ _ (by omega) (by omega) x y

/-- Choosing the third head's lanes. -/
theorem sel_2 (a : Fin 256) (x y : EReal) : Scalar.select (IntOp.cmpi CmpIPredicate.eq (BitVec.ofNat 32 (a.val / 64)) 2#32) x y = if a.val / 64 = 2 then x else y :=
  sel_heads _ _ (by omega) (by omega) x y

/-- Choosing the fourth head's lanes. -/
theorem sel_3 (a : Fin 256) (x y : EReal) : Scalar.select (IntOp.cmpi CmpIPredicate.eq (BitVec.ofNat 32 (a.val / 64)) 3#32) x y = if a.val / 64 = 3 then x else y :=
  sel_heads _ _ (by omega) (by omega) x y

/-- The lower lanes. -/
theorem slt_lane : ∀ c : Fin 128, IntOp.cmpi CmpIPredicate.slt (BitVec.ofNat 32 c.val) 64#32 = if c.val < 64 then 1#1 else 0#1 := by decide +kernel

/-- Choosing by the lower lanes. -/
theorem sel_slt (c : Fin 128) (x y : EReal) : Scalar.select (IntOp.cmpi CmpIPredicate.slt (BitVec.ofNat 32 c.val) 64#32) x y = if c.val < 64 then x else y := by
  rw [slt_lane]
  split_ifs <;> simp [Scalar.select]

/-- The first group. -/
theorem cmp_group : ∀ g : Fin 2, Scalar.cmpi CmpIPredicate.eq (BitVec.ofNat 32 g.val) 0#32 = if g.val = 0 then 1#1 else 0#1 := by decide +kernel

/-- Choosing by the group. -/
theorem sel_group (g : Nat) (hg : g < 2) (x y : EReal) : Scalar.select (Scalar.cmpi CmpIPredicate.eq (BitVec.ofNat 32 g) 0#32) x y = if g = 0 then x else y := by
  rw [cmp_group ⟨g, hg⟩]
  simp only []
  split_ifs <;> simp [Scalar.select]

/-- A group's half of the lanes, in both halves. -/
theorem halves (f : Fin 128 → EReal) (g : Nat) (hg : g < 2) (c : Fin 128) :
    (if g = 0 then (if c.val < 64 then f c else f ⟨(c.val + 128 - 64) % 128, by omega⟩) else (if c.val < 64 then f ⟨(c.val + 128 - 64) % 128, by omega⟩ else f c))
      = f ⟨g * 64 + c.val % 64, by omega⟩ := by
  split_ifs <;> exact congrArg f (Fin.ext (by simp only []; omega))

/-- The keys of the group. -/
theorem pay4_at (i : grid0.Coords) (g : Nat) (hg : g < 2) (hi : (i 1).val = g) (x : FVec Ideal S256x128 .f32) (r : Fin 256) (c : Fin 128) :
    k0_pay4 (F := Ideal) i x (ix2 r c) = x (ix2 r ⟨g * 64 + c.val % 64, by omega⟩) := by
  pointwise [k0_pay4]
  rw [hi]
  simp only [sel_slt, sel_group g hg]
  exact halves (fun c => x (ix2 r c)) g hg c

/-- The keys of the group in the lower lanes. -/
theorem pay5_at (i : grid0.Coords) (g : Nat) (hg : g < 2) (hi : (i 1).val = g) (x : FVec Ideal S256x128 .f32) (r : Fin 256) (c : Fin 128) :
    k0_pay5 (F := Ideal) i x (ix2 r c) = x (ix2 r ⟨g * 64 + c.val % 64, by omega⟩) := by
  pointwise [k0_pay5]
  exact pay4_at i g hg hi x r c

/-- The keys of the group in the upper lanes. -/
theorem pay6_at (i : grid0.Coords) (g : Nat) (hg : g < 2) (hi : (i 1).val = g) (x : FVec Ideal S256x128 .f32) (r : Fin 256) (c : Fin 128) :
    k0_pay6 (F := Ideal) i x (ix2 r c) = x (ix2 r ⟨g * 64 + c.val % 64, by omega⟩) := by
  pointwise [k0_pay6]
  exact pay4_at i g hg hi x r c

/-- The values of the group. -/
theorem pay7_at (i : grid0.Coords) (g : Nat) (hg : g < 2) (hi : (i 1).val = g) (x : FVec Ideal S256x128 .f32) (r : Fin 256) (c : Fin 128) :
    k0_pay7 (F := Ideal) i x (ix2 r c) = x (ix2 r ⟨g * 64 + c.val % 64, by omega⟩) := by
  pointwise [k0_pay7]
  rw [hi]
  simp only [sel_slt, sel_group g hg]
  exact halves (fun c => x (ix2 r c)) g hg c

/-- The scaled normed queries. -/
theorem pay11_at (q : FVec Ideal S256x256 .f32) (g : FVec Ideal S1x256 .f32) (r c : Fin 256) :
    k0_pay11 (F := Ideal) q k0_pay8 (iota Kind.tc S256x256 32 [1] iota_S256x256_d1_w32) 64#32 k0_pay9 k0_pay10 1#32 g (ix2 r c)
      = GqaSpec.lquery (fun k => q (ix2 r k)) (fun k => g (ix2 0 k)) c := by
  pointwise [k0_pay11, k0_pay9, k0_pay10]
  simp only [lane_head, pay8_at, sel_span, GqaSpec.ofBits_inv64, GqaSpec.lquery, GqaSpec.sumsq]

/-- The scores of one head's lanes. -/
def part (p : FVec Ideal S256x256 .f32) (kb : FVec Ideal S256x256 .bf16) (r : Fin 256) (j : Nat) (s : Fin 256) : EReal :=
  ∑ l : Fin 256, if l.val / 64 = j then p (ix2 r l) * kb (ix2 s l) else 0

/-- The first two heads' results in the lower and upper lanes. -/
theorem lo_at (p : FVec Ideal S256x256 .f32) (kb : FVec Ideal S256x256 .bf16) (vb : FVec Ideal S256x128 .bf16) (r : Fin 256) (c : Fin 128) :
    k0_pay2 (F := Ideal) (k0_pay14 (F := Ideal) p (iota Kind.tc S256x256 32 [1] iota_S256x256_d1_w32) 64#32 k0_pay12 kb vb)
        (k0_pay16 (F := Ideal) p (k0_pay15 (iota Kind.tc S256x256 32 [1] iota_S256x256_d1_w32) 64#32 k0_pay12) kb vb) (ix2 r c)
      = late (part p kb r (c.val / 64)) (fun s => vb (ix2 s c)) := by
  have hh := pay13_at
  unfold k0_pay2 k0_pay14 k0_pay15 k0_pay16
  generalize k0_pay13 (iota Kind.tc S256x256 32 [1] iota_S256x256_d1_w32) 64#32 k0_pay12 = hd at hh ⊢
  pointwise [k0_pay1]
  simp only [hh, sel_0, sel_1, sel_slt]
  split_ifs with h
  · have e : c.val / 64 = 0 := by omega
    rw [e]
    rfl
  · have e : c.val / 64 = 1 := by omega
    rw [e]
    rfl

/-- The other two heads' results in the lower and upper lanes. -/
theorem hi_at (p : FVec Ideal S256x256 .f32) (kb : FVec Ideal S256x256 .bf16) (vb : FVec Ideal S256x128 .bf16) (r : Fin 256) (c : Fin 128) :
    k0_pay3 (F := Ideal) p (k0_pay17 (F := Ideal) p (k0_pay13 (iota Kind.tc S256x256 32 [1] iota_S256x256_d1_w32) 64#32 k0_pay12) kb vb)
        (k0_pay18 (k0_pay13 (iota Kind.tc S256x256 32 [1] iota_S256x256_d1_w32) 64#32 k0_pay12)) (k0_pay19 (F := Ideal)) kb vb (ix2 r c)
      = late (part p kb r (c.val / 64 + 2)) (fun s => vb (ix2 s c)) := by
  have hh := pay13_at
  generalize k0_pay13 (iota Kind.tc S256x256 32 [1] iota_S256x256_d1_w32) 64#32 k0_pay12 = hd at hh ⊢
  pointwise [k0_pay3, k0_pay1, k0_pay17, k0_pay18, k0_pay19]
  simp only [hh, sel_2, sel_3, sel_slt]
  split_ifs with h
  · have e : c.val / 64 + 2 = 2 := by omega
    rw [e]
    rfl
  · have e : c.val / 64 + 2 = 3 := by omega
    rw [e]
    rfl

end Cert.GqaKernel

end
-- ==== Proof.GqaOut.lean ====
module

public import proofs.«01_k».proof.Proof.GqaKernel
public import Idealize.ShloMosaic.Lib.Pipeline.ValueKit
public import Idealize.ShloMosaic.Lib.Pipeline.ReadBack

/-! One grid point's whole result, from the blocks it was given. -/

@[expose] public section

set_option maxRecDepth 16384

noncomputable section

namespace Cert.GqaOut

open Cert.GqaIdeal Cert.GqaIdeal.Gen Idealize.ShloMosaic Idealize.ShloMosaic.TcCoe Idealize.SL.Sem
open Idealize.ShloMosaic.Pipeline (Dat)
open Cert.RowSoftmax Cert.GqaKernel

/-- A point's group. -/
theorem group : ∀ t : Fin cfg0.N, (grid0.coords t 1).val = t.val % 2 := (by decide +kernel : ∀ t : Fin grid0.N, (grid0.coords t 1).val = t.val % 2)

/-- What a point writes for one query at one lane, from its blocks and its group: a head's weighted mean. -/
def laneOf (q : FVec Ideal S256x256 .f32) (kk vv : FVec Ideal S256x128 .f32) (gain : FVec Ideal S1x256 .f32) (g : Nat) (hg : g < 2) (r l : Fin 256) : EReal :=
  late (GqaSpec.lscore (fun k => q (ix2 r k)) (fun k => gain (ix2 0 k)) (l.val / 64) (fun s k => kk (ix2 s ⟨g * 64 + k.val % 64, by omega⟩)))
    (fun s => vv (ix2 s ⟨g * 64 + l.val % 64, by omega⟩))

/-- A head's scores are the spec's. -/
theorem part_eq (q p : FVec Ideal S256x256 .f32) (gain : FVec Ideal S1x256 .f32) (kb : FVec Ideal S256x256 .bf16) (K : Fin 256 → Fin 256 → EReal) (r : Fin 256) (j : Nat)
    (hp : ∀ r l, p (ix2 r l) = GqaSpec.lquery (fun k => q (ix2 r k)) (fun k => gain (ix2 0 k)) l) (hk : ∀ s l, kb (ix2 s l) = K s l) :
    part p kb r j = GqaSpec.lscore (fun k => q (ix2 r k)) (fun k => gain (ix2 0 k)) j K := by
  funext s
  simp only [part, GqaSpec.lscore, hp, hk]

/-- The lower lanes of the block. -/
theorem block_lo (q : FVec Ideal S256x256 .f32) (kk vv : FVec Ideal S256x128 .f32) (gain : FVec Ideal S1x256 .f32) (i : grid0.Coords) (g : Nat) (hg : g < 2) (hi : (i 1).val = g)
    (kb : FVec Ideal S256x256 .bf16) (hk : ∀ s l : Fin 256, kb (ix2 s l) = kk (ix2 s ⟨g * 64 + l.val % 64, by omega⟩)) (r l : Fin 256) (c : Fin 128) (hl : l.val = c.val) :
    k0_pay2 (F := Ideal)
        (k0_pay14 (F := Ideal) (k0_pay11 (F := Ideal) q k0_pay8 (iota Kind.tc S256x256 32 [1] iota_S256x256_d1_w32) 64#32 k0_pay9 k0_pay10 1#32 gain)
          (iota Kind.tc S256x256 32 [1] iota_S256x256_d1_w32) 64#32 k0_pay12 kb (k0_pay7 (F := Ideal) i vv))
        (k0_pay16 (F := Ideal) (k0_pay11 (F := Ideal) q k0_pay8 (iota Kind.tc S256x256 32 [1] iota_S256x256_d1_w32) 64#32 k0_pay9 k0_pay10 1#32 gain)
          (k0_pay15 (iota Kind.tc S256x256 32 [1] iota_S256x256_d1_w32) 64#32 k0_pay12) kb (k0_pay7 (F := Ideal) i vv)) (ix2 r c)
      = laneOf q kk vv gain g hg r l := by
  have e1 : l.val / 64 = c.val / 64 := by omega
  have e2 : l.val % 64 = c.val % 64 := by omega
  rw [lo_at, part_eq q _ gain kb _ r _ (pay11_at q gain) hk]
  unfold laneOf
  simp only [pay7_at i g hg hi, e1, e2]

/-- The upper lanes of the block. -/
theorem block_hi (q : FVec Ideal S256x256 .f32) (kk vv : FVec Ideal S256x128 .f32) (gain : FVec Ideal S1x256 .f32) (i : grid0.Coords) (g : Nat) (hg : g < 2) (hi : (i 1).val = g)
    (kb : FVec Ideal S256x256 .bf16) (hk : ∀ s l : Fin 256, kb (ix2 s l) = kk (ix2 s ⟨g * 64 + l.val % 64, by omega⟩)) (r l : Fin 256) (c : Fin 128) (hl : l.val = 128 + c.val) :
    k0_pay3 (F := Ideal) (k0_pay11 (F := Ideal) q k0_pay8 (iota Kind.tc S256x256 32 [1] iota_S256x256_d1_w32) 64#32 k0_pay9 k0_pay10 1#32 gain)
        (k0_pay17 (F := Ideal) (k0_pay11 (F := Ideal) q k0_pay8 (iota Kind.tc S256x256 32 [1] iota_S256x256_d1_w32) 64#32 k0_pay9 k0_pay10 1#32 gain)
          (k0_pay13 (iota Kind.tc S256x256 32 [1] iota_S256x256_d1_w32) 64#32 k0_pay12) kb (k0_pay7 (F := Ideal) i vv))
        (k0_pay18 (k0_pay13 (iota Kind.tc S256x256 32 [1] iota_S256x256_d1_w32) 64#32 k0_pay12)) (k0_pay19 (F := Ideal)) kb (k0_pay7 (F := Ideal) i vv) (ix2 r c)
      = laneOf q kk vv gain g hg r l := by
  have e1 : l.val / 64 = c.val / 64 + 2 := by omega
  have e2 : l.val % 64 = c.val % 64 := by omega
  rw [hi_at, part_eq q _ gain kb _ r _ (pay11_at q gain) hk]
  unfold laneOf
  simp only [pay7_at i g hg hi, e1, e2]

/-- The stored keys' upper lanes. -/
theorem key_upper (kk : FVec Ideal S256x128 .f32) (i : grid0.Coords) (g : Nat) (hg : g < 2) (hi : (i 1).val = g) (s k a : Fin 256) (b : Fin 128)
    (h0 : s.val = a.val) (h1 : k.val = 128 + b.val) :
    k0_pay6 (F := Ideal) i kk (ix2 a b) = kk (ix2 s ⟨g * 64 + k.val % 64, by omega⟩) := by
  obtain rfl : s = a := Fin.ext h0
  have e : k.val % 64 = b.val % 64 := by omega
  rw [pay6_at i g hg hi]
  simp only [e]

/-- The stored keys' lower lanes. -/
theorem key_lower (kk : FVec Ideal S256x128 .f32) (i : grid0.Coords) (g : Nat) (hg : g < 2) (hi : (i 1).val = g) (s k a : Fin 256) (b : Fin 128)
    (h0 : s.val = a.val) (h1 : k.val = b.val) :
    k0_pay5 (F := Ideal) i kk (ix2 a b) = kk (ix2 s ⟨g * 64 + k.val % 64, by omega⟩) := by
  obtain rfl : s = a := Fin.ext h0
  have e : k.val % 64 = b.val % 64 := by omega
  rw [pay5_at i g hg hi]
  simp only [e]

variable (m : (ℓ : Loc nD τ sig) → Buf (Elt Ideal) ℓ)

/-- What a point writes, at an index. -/
theorem out_at (c : Dev nD) (t : Fin cfg0.N) (r : Fin 256) (l : Fin 256) :
    (outsAt0 m c t : FVec Ideal S256x256 .f32) (ix2 r l) = laneOf (iblk m c 0 t) (iblk m c 1 t) (iblk m c 2 t) (iblk m c 3 t) (t.val % 2) (by omega) r l := by
  unfold outsAt0
  frame_open
  simp (disch := decide) only [↓ View.readCov_skip, ↓ View.readCov_fill, View.readCov_cons_toLoadRect]
  simp only [View.readAt_eq_ld]
  frame_out
  canon_tiles x h
  · obtain ⟨a, b, rfl⟩ : ∃ (a : Fin 256) (b : Fin 128), x = ix2 a b := ⟨x 0, x 1, eq_ix2 x⟩
    obtain rfl : r = a := Fin.ext h0
    refine block_hi _ _ _ _ (grid0.coords t) _ _ (group t) _ (fun s k => ?_) r l b h1
    rw [View.readCov_eq_canon']
    canon_tiles y g
    · obtain ⟨a', b', rfl⟩ : ∃ (a : Fin 256) (b : Fin 128), y = ix2 a b := ⟨y 0, y 1, eq_ix2 y⟩
      exact key_upper (iblk m c 1 t) _ _ (Nat.mod_lt _ (by decide)) (group t) s k a' b' (g0.symm.trans (by show 0 + 1 * s.val = s.val; omega)).symm (g1.symm.trans (by show 0 + 1 * k.val = k.val; omega)).symm
    · obtain ⟨a', b', rfl⟩ : ∃ (a : Fin 256) (b : Fin 128), y = ix2 a b := ⟨y 0, y 1, eq_ix2 y⟩
      exact key_lower (iblk m c 1 t) _ _ (Nat.mod_lt _ (by decide)) (group t) s k a' b' (g0.symm.trans (by show 0 + 1 * s.val = s.val; omega)).symm (g1.symm.trans (by show 0 + 1 * k.val = k.val; omega)).symm
  · obtain ⟨a, b, rfl⟩ : ∃ (a : Fin 256) (b : Fin 128), x = ix2 a b := ⟨x 0, x 1, eq_ix2 x⟩
    obtain rfl : r = a := Fin.ext h0
    refine block_lo _ _ _ _ (grid0.coords t) _ _ (group t) _ (fun s k => ?_) r l b h1
    rw [View.readCov_eq_canon']
    canon_tiles y g
    · obtain ⟨a', b', rfl⟩ : ∃ (a : Fin 256) (b : Fin 128), y = ix2 a b := ⟨y 0, y 1, eq_ix2 y⟩
      exact key_upper (iblk m c 1 t) _ _ (Nat.mod_lt _ (by decide)) (group t) s k a' b' (g0.symm.trans (by show 0 + 1 * s.val = s.val; omega)).symm (g1.symm.trans (by show 0 + 1 * k.val = k.val; omega)).symm
    · obtain ⟨a', b', rfl⟩ : ∃ (a : Fin 256) (b : Fin 128), y = ix2 a b := ⟨y 0, y 1, eq_ix2 y⟩
      exact key_lower (iblk m c 1 t) _ _ (Nat.mod_lt _ (by decide)) (group t) s k a' b' (g0.symm.trans (by show 0 + 1 * s.val = s.val; omega)).symm (g1.symm.trans (by show 0 + 1 * k.val = k.val; omega)).symm

end Cert.GqaOut

end
-- ==== Proof.GqaHost.lean ====
module

public import proofs.«01_k».proof.Proof.Gen.GqaIdeal.Frame
public import Idealize.ShloMosaic.Lib.Pipeline.ValueKit
public import Idealize.ShloMosaic.Lib.StableHlo.RunRead

/-! What the kernel's arrays hold, in terms of the call's arguments. -/

@[expose] public section

set_option maxRecDepth 16384

noncomputable section

namespace Cert.GqaHost

open Cert.GqaIdeal Cert.GqaIdeal.Gen Idealize.ShloMosaic Idealize.ShloMosaic.TcCoe Idealize.SL.Sem
open Idealize.ShloMosaic.Pipeline (Dat)

variable (m : (ℓ : Loc nD τ sig) → Buf (Elt Ideal) ℓ)

/-- The queries are the call's. -/
theorem queries (c : Dev nD) (n : Fin 8192) (j : Fin 512) :
    (V m c main_arg0 : FVec Ideal S8192x512 .f32) (ix2 n j) = (m ((c : Thread nD τ).loc main_arg0) : FVec Ideal S8192x512 .f32) (ix2 n j) := by
  unfold V
  after_reads_simp

/-- The keys are the call's. -/
theorem keys (c : Dev nD) (n : Fin 8192) (j : Fin 128) :
    (V m c main_arg1 : FVec Ideal S8192x128 .f32) (ix2 n j) = (m ((c : Thread nD τ).loc main_arg1) : FVec Ideal S8192x128 .f32) (ix2 n j) := by
  unfold V
  after_reads_simp

/-- The values are the call's. -/
theorem values (c : Dev nD) (n : Fin 8192) (j : Fin 128) :
    (V m c main_arg2 : FVec Ideal S8192x128 .f32) (ix2 n j) = (m ((c : Thread nD τ).loc main_arg2) : FVec Ideal S8192x128 .f32) (ix2 n j) := by
  unfold V
  after_reads_simp

/-- The gain is repeated for the four heads of a block. -/
theorem gain (c : Dev nD) (j : Fin 256) :
    (V m c main_v3 : FVec Ideal S1x256 .f32) (ix2 0 j) = (m ((c : Thread nD τ).loc main_arg3) : FVec Ideal S64 .f32) (ix1 ⟨j.val % 64, by omega⟩) := by
  unfold V
  after_reads_simp
  pointwise

end Cert.GqaHost

end
-- ==== Proof.GqaBlocks.lean ====
module

public import proofs.«01_k».proof.Proof.GqaHost

/-! What each grid point's blocks hold, in terms of the call's arguments. -/

@[expose] public section

set_option maxRecDepth 16384

noncomputable section

namespace Cert.GqaBlocks

open Cert.GqaIdeal Cert.GqaIdeal.Gen Idealize.ShloMosaic Idealize.ShloMosaic.TcCoe Idealize.SL.Sem
open Idealize.ShloMosaic.Pipeline (Dat)

variable (m : (ℓ : Loc nD τ sig) → Buf (Elt Ideal) ℓ)

/-- The blocks' indices at each point: a batch and a group. -/
theorem idx : ∀ t : Fin cfg0.N, win0_0.index t = ![t.val / 2, t.val % 2] ∧ win0_1.index t = ![t.val / 2, 0] ∧ win0_2.index t = ![t.val / 2, 0]
    ∧ win0_3.index t = ![0, 0] ∧ win0_4.index t = ![t.val / 2, t.val % 2] :=
  (by decide +kernel : ∀ t : Fin grid0.N, _)

/-- A point's number is below 64. -/
theorem lt (t : Fin cfg0.N) : t.val < 64 := t.isLt

/-- The queries of the batch and the group. -/
theorem query (c : Dev nD) (t : Fin cfg0.N) (r k : Fin 256) :
    iblk m c 0 t (ix2 r k) = (m ((c : Thread nD τ).loc main_arg0) : FVec Ideal S8192x512 .f32) (ix2 ⟨t.val / 2 * 256 + r.val, by have := lt t; omega⟩ ⟨t.val % 2 * 256 + k.val, by omega⟩) := by
  have ht := lt t
  refine Eq.trans ?_ (GqaHost.queries m c ⟨t.val / 2 * 256 + r.val, by omega⟩ ⟨t.val % 2 * 256 + k.val, by omega⟩)
  blk_point [iblk, idx t]

/-- The keys of the batch. -/
theorem key (c : Dev nD) (t : Fin cfg0.N) (s : Fin 256) (k : Fin 128) :
    iblk m c 1 t (ix2 s k) = (m ((c : Thread nD τ).loc main_arg1) : FVec Ideal S8192x128 .f32) (ix2 ⟨t.val / 2 * 256 + s.val, by have := lt t; omega⟩ k) := by
  have ht := lt t
  refine Eq.trans ?_ (GqaHost.keys m c ⟨t.val / 2 * 256 + s.val, by omega⟩ k)
  blk_point [iblk, idx t]

/-- The values of the batch. -/
theorem value (c : Dev nD) (t : Fin cfg0.N) (s : Fin 256) (k : Fin 128) :
    iblk m c 2 t (ix2 s k) = (m ((c : Thread nD τ).loc main_arg2) : FVec Ideal S8192x128 .f32) (ix2 ⟨t.val / 2 * 256 + s.val, by have := lt t; omega⟩ k) := by
  have ht := lt t
  refine Eq.trans ?_ (GqaHost.values m c ⟨t.val / 2 * 256 + s.val, by omega⟩ k)
  blk_point [iblk, idx t]

/-- The gain. -/
theorem gain (c : Dev nD) (t : Fin cfg0.N) (k : Fin 256) :
    iblk m c 3 t (ix2 0 k) = (m ((c : Thread nD τ).loc main_arg3) : FVec Ideal S64 .f32) (ix1 ⟨k.val % 64, by omega⟩) := by
  refine Eq.trans ?_ (GqaHost.gain m c k)
  blk_point [iblk, idx t]

end Cert.GqaBlocks

end
-- ==== Proof.GqaReference.lean ====
module

public import proofs.«01_k».proof.Proof.Gen.GqaRefIdeal.Read
public import proofs.«01_k».proof.Proof.GqaSpec

/-! The grouped attention's reference read at one place of its result. -/

@[expose] public section

set_option maxRecDepth 16384

noncomputable section

namespace Cert.GqaReference

open Cert.GqaRefIdeal Cert.GqaRefIdeal.Gen Cert.GqaRefIdeal.Read Idealize.ShloMosaic Idealize.ShloMosaic.TcCoe Idealize.SL.Sem Cert.RowSoftmax

variable (x0 : FVec Ideal S8192x512 .f32) (x1 x2 : FVec Ideal S8192x128 .f32) (x3 : FVec Ideal S64 .f32)

/-- A maximum over the last axis. -/
theorem max_at (y : FVec Ideal S32x2x4x256x256 .f32) (c : FVec Ideal S_ .f32) (b : Fin 32) (g : Fin 2) (h : Fin 4) (q : Fin 256) :
    Host.reduce FloatOps.maximumf y c reducesTo_S32x2x4x256x256_S32x2x4x256_d4 h_S_ (ix4 b g h q)
      = Finset.univ.fold max (c (Shape.Idx.first h_S_)) fun s : Fin 256 => y (ix5 b g h q s) := by
  pointwise!

/-- The normed queries. -/
theorem query_at (b : Fin 32) (t : Fin 256) (h : Fin 8) (d : Fin 64) :
    val_main_v13 (F := Ideal) x0 x3 (ix4 b t h d)
      = rmsn 64⁻¹ (fun i : Fin 64 => x0 (ix2 ⟨b.val * 256 + t.val, by omega⟩ ⟨h.val * 64 + i.val, by omega⟩)) (fun i => x3 (ix1 i)) d := by
  pointwise! [val_main_v13, val_main_v12, val_main_v11, val_main_v10, val_main_v9, val_main_v8, val_main_v7, val_main_v6, val_main_v5, val_main_v4, val_main_v3, val_main_v2, val_main_v1, val_main_v0, val_main_cst, val_main_cst_0, val_main_cst_1, rmsn, GqaSpec.div_64]

/-- The normed queries by group. -/
theorem gquery_at (b : Fin 32) (t : Fin 256) (g : Fin 2) (h : Fin 4) (d : Fin 64) :
    val_main_v14 (F := Ideal) x0 x3 (ix5 b t g h d)
      = rmsn 64⁻¹ (fun i : Fin 64 => x0 (ix2 ⟨b.val * 256 + t.val, by omega⟩ ⟨(g.val * 4 + h.val) * 64 + i.val, by omega⟩)) (fun i => x3 (ix1 i)) d := by
  refine Eq.trans ?_ (query_at x0 x3 b t ⟨g.val * 4 + h.val, by omega⟩ d)
  pointwise [val_main_v14]

/-- The scores. -/
theorem score_at (b : Fin 32) (g : Fin 2) (h : Fin 4) (q s : Fin 256) :
    val_main_v20 (F := Ideal) x0 x1 x3 (ix5 b g h q s)
      = GqaSpec.score (fun i : Fin 64 => x0 (ix2 ⟨b.val * 256 + q.val, by omega⟩ ⟨(g.val * 4 + h.val) * 64 + i.val, by omega⟩)) (fun i => x3 (ix1 i))
          (fun s i => x1 (ix2 ⟨b.val * 256 + s.val, by omega⟩ ⟨g.val * 64 + i.val, by omega⟩)) s := by
  pointwise! [val_main_v20, val_main_v19, val_main_v18, val_main_v17, val_main_v15, val_main_cst_2]
  simp only [gquery_at, GqaSpec.score]
  exact congrArg (· * _) (Finset.sum_congr rfl fun i _ => mul_comm _ _)

/-- The reference's maximum, as its line states it. -/
theorem v21_eq : val_main_v21 (F := Ideal) x0 x1 x3
      = Host.reduce (FloatOps.maximumf (F := Ideal) (φ := .f32)) (val_main_v20 (F := Ideal) x0 x1 x3) (val_main_cst_3 (F := Ideal)) reducesTo_S32x2x4x256x256_S32x2x4x256_d4 h_S_ := by
  delta val_main_v21
  exact Eq.refl _

/-- The greatest score of a query. -/
theorem top_at (b : Fin 32) (g : Fin 2) (h : Fin 4) (q : Fin 256) :
    val_main_v21 (F := Ideal) x0 x1 x3 (ix4 b g h q)
      = Finset.univ.fold max (val_main_cst_3 (F := Ideal) (Shape.Idx.first h_S_)) fun s : Fin 256 => val_main_v20 (F := Ideal) x0 x1 x3 (ix5 b g h q s) :=
  (congrFun (v21_eq x0 x1 x3) (ix4 b g h q)).trans (max_at _ _ b g h q)

/-- The maximum starts from minus infinity. -/
theorem cst3 : val_main_cst_3 (F := Ideal) (Shape.Idx.first h_S_) = Ideal.ofBits .f32 0xFF800000#32 := rfl

/-- The weights of any scores and any maxima. -/
theorem weight_of (y : FVec Ideal S32x2x4x256x256 .f32) (u : FVec Ideal S32x2x4x256 .f32) (b : Fin 32) (g : Fin 2) (h : Fin 4) (q s : Fin 256) :
    Host.exp (subf y (broadcastInDim S32x2x4x256x256 ![0, 1, 2, 3, 4] bcast_S32x2x4x256x1_S32x2x4x256x256_0_1_2_3_4
      (broadcastInDim S32x2x4x256x1 ![0, 1, 2, 3] bcast_S32x2x4x256_S32x2x4x256x1_0_1_2_3 (maximumf (val_main_v22 (F := Ideal)) u)))) (ix5 b g h q s)
      = Ideal.exp (y (ix5 b g h q s) - max (Ideal.ofBits .f32 0xFF800000#32) (u (ix4 b g h q))) := by
  pointwise! [val_main_v22, val_main_cst_4]

/-- The reference's weights, as its lines state them. -/
theorem v27_eq : val_main_v27 (F := Ideal) x0 x1 x3
      = Host.exp (F := Ideal) (φ := .f32) (subf (val_main_v20 (F := Ideal) x0 x1 x3) (broadcastInDim S32x2x4x256x256 ![0, 1, 2, 3, 4] bcast_S32x2x4x256x1_S32x2x4x256x256_0_1_2_3_4
      (broadcastInDim S32x2x4x256x1 ![0, 1, 2, 3] bcast_S32x2x4x256_S32x2x4x256x1_0_1_2_3 (maximumf (val_main_v22 (F := Ideal)) (val_main_v21 (F := Ideal) x0 x1 x3))))) := by
  delta val_main_v27 val_main_v26 val_main_v25 val_main_v24 val_main_v23
  exact Eq.refl _

/-- The weights from the scores and their maxima. -/
theorem weight_raw (b : Fin 32) (g : Fin 2) (h : Fin 4) (q s : Fin 256) :
    val_main_v27 (F := Ideal) x0 x1 x3 (ix5 b g h q s)
      = Ideal.exp (val_main_v20 (F := Ideal) x0 x1 x3 (ix5 b g h q s) - max (Ideal.ofBits .f32 0xFF800000#32) (val_main_v21 (F := Ideal) x0 x1 x3 (ix4 b g h q))) :=
  (congrFun (v27_eq x0 x1 x3) (ix5 b g h q s)).trans (weight_of _ _ b g h q s)

/-- The weights. -/
theorem weight_at (b : Fin 32) (g : Fin 2) (h : Fin 4) (q s : Fin 256) :
    val_main_v27 (F := Ideal) x0 x1 x3 (ix5 b g h q s) = wt (fun s : Fin 256 => val_main_v20 (F := Ideal) x0 x1 x3 (ix5 b g h q s)) s := by
  unfold wt
  rw [weight_raw, top_at, cst3, max_fold]

/-- The reference's result at one place, from its arguments. -/
theorem row_at (n : Fin 8192) (d : Fin 512) :
    val_main_v34 (F := Ideal) x0 x1 x2 x3 (ix2 n d)
      = GqaSpec.head (fun i : Fin 64 => x0 (ix2 ⟨n.val / 256 * 256 + n.val % 256, by omega⟩ ⟨(d.val / 256 * 4 + d.val / 64 % 4) * 64 + i.val, by omega⟩)) (fun i => x3 (ix1 i))
          (fun s i => x1 (ix2 ⟨n.val / 256 * 256 + s.val, by omega⟩ ⟨d.val / 256 * 64 + i.val, by omega⟩))
          (fun s => x2 (ix2 ⟨n.val / 256 * 256 + s.val, by omega⟩ ⟨d.val / 256 * 64 + d.val % 64, by omega⟩)) := by
  pointwise [val_main_v34, val_main_v33, val_main_v32, val_main_v31, val_main_v30, val_main_v29, val_main_v28, val_main_v16, val_main_cst_5]
  simp only [weight_at, score_at, GqaSpec.head, early]

end Cert.GqaReference

end
-- ==== Proof.GqaFinal.lean ====
module

public import proofs.«01_k».proof.Proof.GqaOut
public import proofs.«01_k».proof.Proof.GqaBlocks
public import proofs.«01_k».proof.Proof.GqaReference
public import Idealize.ShloMosaic.Lib.Claim

/-! The kernel's result array is the reference's, where the queries, the keys and the gain are real numbers. -/

@[expose] public section

set_option maxRecDepth 16384

noncomputable section

namespace Cert.GqaFinal

open Cert.GqaIdeal Cert.GqaIdeal.Gen Idealize.ShloMosaic Idealize.ShloMosaic.TcCoe Idealize.SL.Sem
open Idealize.ShloMosaic.Pipeline (Dat)
open Cert.RowSoftmax

variable (m : (ℓ : Loc nD τ sig) → Buf (Elt Ideal) ℓ)

/-- One lane of a point's block is a head's entry, from the entries its blocks hold. -/
theorem lane (q : FVec Ideal S256x256 .f32) (kk vv : FVec Ideal S256x128 .f32) (gain : FVec Ideal S1x256 .f32) (g : Nat) (hg : g < 2) (r l : Fin 256)
    (Q : Fin 64 → EReal) (G : Fin 64 → EReal) (K : Fin 256 → Fin 64 → EReal) (W : Fin 256 → EReal)
    (hq : ∀ k, IsReal (q (ix2 r k))) (hgn : ∀ k, IsReal (gain (ix2 0 k))) (hk : ∀ s k, IsReal (kk (ix2 s k)))
    (eq : ∀ i : Fin 64, q (ix2 r ⟨l.val / 64 * 64 + i.val, by omega⟩) = Q i) (eg : ∀ i : Fin 64, gain (ix2 0 ⟨l.val / 64 * 64 + i.val, by omega⟩) = G i)
    (ek : ∀ (s : Fin 256) (i : Fin 64), kk (ix2 s ⟨g * 64 + i.val, by omega⟩) = K s i) (ev : ∀ s, vv (ix2 s ⟨g * 64 + l.val % 64, by omega⟩) = W s) :
    GqaOut.laneOf q kk vv gain g hg r l = GqaSpec.head Q G K W := by
  unfold GqaOut.laneOf
  refine (GqaSpec.late_eq _ _ _ _ hq hgn (fun s k => hk s _) (⟨l.val / 64, by omega⟩ : Fin 4)).trans ?_
  have e1 : GqaSpec.span (fun k => q (ix2 r k)) (⟨l.val / 64, by omega⟩ : Fin 4) = Q := funext fun i => eq i
  have e2 : GqaSpec.span (fun k => gain (ix2 0 k)) (⟨l.val / 64, by omega⟩ : Fin 4) = G := funext fun i => eg i
  have e3 : (fun s => GqaSpec.span (fun k : Fin 256 => kk (ix2 s ⟨g * 64 + k.val % 64, by omega⟩)) (⟨l.val / 64, by omega⟩ : Fin 4)) = K := funext fun s => funext fun i => by
    rw [← ek s i]
    exact congrArg (fun k => kk (ix2 s k)) (Fin.ext (by simp only []; omega))
  have e4 : (fun s => vv (ix2 s ⟨g * 64 + l.val % 64, by omega⟩)) = W := funext ev
  rw [e1, e2, e3, e4]

/-- The reference's result over the kernel's arguments. -/
abbrev REF (c : Dev nD) : FVec Ideal S8192x512 .f32 :=
  Cert.GqaRefIdeal.Read.val_main_v34 (F := Ideal) (m ((c : Thread nD τ).loc main_arg0)) (m ((c : Thread nD τ).loc main_arg1)) (m ((c : Thread nD τ).loc main_arg2))
    (m ((c : Thread nD τ).loc main_arg3))

/-- The reference's entry for a token of a batch and a lane of a group. -/
theorem ref_at (x0 : FVec Ideal S8192x512 .f32) (x1 x2 : FVec Ideal S8192x128 .f32) (x3 : FVec Ideal S64 .f32)
    (n : Fin 8192) (d : Fin 512) (b r g l : Nat) (hb : b < 32) (hr : r < 256) (hg : g < 2) (hl : l < 256) (hn : n.val = b * 256 + r) (hd : d.val = g * 256 + l) :
    Cert.GqaRefIdeal.Read.val_main_v34 (F := Ideal) x0 x1 x2 x3 (ix2 n d)
      = GqaSpec.head (fun i : Fin 64 => x0 (ix2 ⟨b * 256 + r, by omega⟩ ⟨g * 256 + (l / 64 * 64 + i.val), by omega⟩)) (fun i => x3 (ix1 i))
          (fun s i => x1 (ix2 ⟨b * 256 + s.val, by omega⟩ ⟨g * 64 + i.val, by omega⟩))
          (fun s => x2 (ix2 ⟨b * 256 + s.val, by omega⟩ ⟨g * 64 + l % 64, by omega⟩)) := by
  have e1 : n.val / 256 = b := by omega
  have e2 : n.val % 256 = r := by omega
  have e3 : d.val / 256 = g := by omega
  have e4 : d.val % 64 = l % 64 := by omega
  have e5 : d.val / 64 % 4 = l / 64 := by omega
  have e6 : ∀ i, (g * 4 + l / 64) * 64 + i = g * 256 + (l / 64 * 64 + i) := fun i => by omega
  refine (GqaReference.row_at x0 x1 x2 x3 n d).trans ?_
  simp only [e1, e2, e3, e4, e5, e6]

/-- What each point writes at a position of its block is the reference's value at that place of the array. -/
theorem point (c : Dev nD) (hq : ∀ n d, IsReal ((m ((c : Thread nD τ).loc main_arg0) : FVec Ideal S8192x512 .f32) (ix2 n d)))
    (hk : ∀ n d, IsReal ((m ((c : Thread nD τ).loc main_arg1) : FVec Ideal S8192x128 .f32) (ix2 n d)))
    (hg : ∀ i, IsReal ((m ((c : Thread nD τ).loc main_arg3) : FVec Ideal S64 .f32) (ix1 i))) (t : Fin cfg0.N) (y : S256x256.Idx) :
    (outsAt0 m c t : FVec Ideal S256x256 .f32) y = REF m c (((cfg0.win 4).blk t).view.emb y) := by
  obtain ⟨r, l, rfl⟩ : ∃ (r l : Fin 256), y = ix2 r l := ⟨y 0, y 1, eq_ix2 y⟩
  have ht := GqaBlocks.lt t
  have e : ((cfg0.win 4).blk t).view.emb (ix2 r l) = ix2 (⟨t.val / 2 * 256 + r.val, by omega⟩ : Fin 8192) (⟨t.val % 2 * 256 + l.val, by omega⟩ : Fin 512) := by
    blk_ext [GqaBlocks.idx t]
  rw [e]
  refine (GqaOut.out_at m c t r l).trans ?_
  refine Eq.trans ?_ (ref_at _ _ _ _ _ _ (t.val / 2) r.val (t.val % 2) l.val (by omega) (by omega) (by omega) (by omega) rfl rfl).symm
  refine lane _ _ _ _ _ _ r l _ _ _ _ (fun k => ?_) (fun k => ?_) (fun s k => ?_) (fun i => ?_) (fun i => ?_) (fun s i => ?_) (fun s => ?_)
  · rw [GqaBlocks.query]; exact hq _ _
  · rw [GqaBlocks.gain]; exact hg _
  · rw [GqaBlocks.key]; exact hk _ _
  · exact GqaBlocks.query m c t r _
  · refine (GqaBlocks.gain m c t _).trans ?_
    exact congrArg (fun i => (m ((c : Thread nD τ).loc main_arg3) : FVec Ideal S64 .f32) (ix1 i)) (Fin.ext (by simp only []; omega))
  · exact GqaBlocks.key m c t s _
  · exact GqaBlocks.value m c t s _

/-- The result array after the run is the reference's, the queries, the keys and the gain being real numbers. -/
theorem final (c : Dev nD) (hq : ∀ n d, IsReal ((m ((c : Thread nD τ).loc main_arg0) : FVec Ideal S8192x512 .f32) (ix2 n d)))
    (hk : ∀ n d, IsReal ((m ((c : Thread nD τ).loc main_arg1) : FVec Ideal S8192x128 .f32) (ix2 n d)))
    (hg : ∀ i, IsReal ((m ((c : Thread nD τ).loc main_arg3) : FVec Ideal S64 .f32) (ix1 i))) :
    (dats m 0 c).arrAt 4 (cfgs 0).N = REF m c := by
  refine (dats m 0 c).arrAt_eq_of_covers 4 _ (by decide +kernel) fun t _ y => ?_
  blk_simp
  rw [after0_4]
  exact point m c hq hk hg t y

end Cert.GqaFinal

end
-- ==== Proof.GqaFinite.lean ====
module

public import proofs.«01_k».proof.Proof.MlaGains
public import proofs.«01_k».proof.Defs
public import Idealize.ShloMosaic.Lib.ReduceAll

/-! What the precondition on the grouped attention's arguments says of them. -/

@[expose] public section

set_option maxRecDepth 16384

noncomputable section

namespace Cert.GqaFinite

open Cert.Pre_gqa_finite Cert.RowSoftmax Idealize.ShloMosaic

/-- Two words that hold together hold each. -/
theorem both1 (p q : BitVec 1) (h : IntOp.andi p q = 1#1) : p = 1#1 ∧ q = 1#1 := by
  revert p q
  decide

/-- A magnitude compared with infinity. -/
theorem lt_top (x : EReal) (h : BitVec.ofBool (decide (max x (-x) < Ideal.ofBits .f32 0x7F800000#32)) = 1#1) : IsReal x := by
  rw [MlaGains.ofBits_top] at h
  refine MlaGains.real_of_lt x ?_
  by_contra hn
  simp [hn] at h

variable [Cert.Pre_gqa_finite.Facts]

/-- The precondition says that the queries, the keys and the gain are real numbers. -/
theorem finite (x0 : FVec Ideal S8192x512 .f32) (x1 x2 : FVec Ideal S8192x128 .f32) (x3 : FVec Ideal S64 .f32)
    (h : Cert.Pre_gqa_finite.fn (F := Ideal) x0 x1 x2 x3 = fun _ => 1#1) :
    (∀ n d, IsReal (x0 (ix2 n d))) ∧ (∀ n d, IsReal (x1 (ix2 n d))) ∧ ∀ i, IsReal (x3 (ix1 i)) := by
  have : Subsingleton S_.Idx := ⟨fun a b => funext fun i => i.elim0⟩
  have h0 := congrFun h (Shape.Idx.first Facts.h_S_)
  obtain ⟨h1, h4⟩ := both1 _ _ h0
  obtain ⟨h2, h3⟩ := both1 _ _ h1
  have a2 := Host.reduce_andi_all _ _ _ _ _ h2
  have a3 := Host.reduce_andi_all _ _ _ _ _ h3
  have a4 := Host.reduce_andi_all _ _ _ _ _ h4
  refine ⟨fun n d => lt_top _ ?_, fun n d => lt_top _ ?_, fun i => lt_top _ ?_⟩
  · have := a2 (ix2 n d)
    revert this
    pointwise
    exact id
  · have := a3 (ix2 n d)
    revert this
    pointwise
    exact id
  · have := a4 (ix1 i)
    revert this
    pointwise
    exact id

end Cert.GqaFinite

end
-- ==== Proof.GqaClaim.lean ====
module

public import proofs.«01_k».proof.Proof.GqaFinal
public import proofs.«01_k».proof.Proof.GqaFinite
public import proofs.«01_k».proof.Defs
public import proofs.«01_k».proof.Proof.Gen.GqaIdeal.Frame
public import proofs.«01_k».proof.Proof.Gen.GqaRefIdeal.Run
public import proofs.«01_k».proof.Proof.Gen.GqaRefIdeal.Read
public import Idealize.ShloMosaic.Lib.Claim
public import Idealize.ShloMosaic.Lib.StableHlo.RunRead

/-! The claims about the grouped attention: the reference runs and keeps its arguments; the kernel's result is the reference's where
    the queries, the keys and the gain are finite. -/

@[expose] public section

set_option maxRecDepth 16384

noncomputable section

namespace Cert.GqaClaim

open Idealize.ShloMosaic Idealize.SL.Sem

/-- The reference runs to its end, keeps its arguments, and leaves every counter at zero. -/
theorem reference : Cert.quiescent_GqaRefIdeal := by
  intro m g _
  exact (θ_run Cert.GqaRefIdeal.defs _ _).mono (fun r h => ⟨fun c => (h c).2, funext fun s => nomatch s⟩) (Cert.GqaRefIdeal.Value.run (F := Ideal) m g)

/-- So it does under the precondition. -/
theorem reference_pre [Cert.Pre_gqa_finite.Facts] : Cert.quiescent_GqaRefIdeal_pre_gqa_finite :=
  fun m g _ => reference m g trivial

/-- From equal arguments with finite queries, keys and gain the kernel and the reference end with equal results. -/
theorem equal [Cert.Pre_gqa_finite.Facts] : Cert.algebraic_GqaIdeal_GqaRefIdeal_pre_gqa_finite := by
  pair_intro
  · run_from Cert.GqaIdeal.Gen.run_main m g
    all_goals after_reads_simp
  · run_from Cert.GqaRefIdeal.Value.run m' g'
    rw [Cert.GqaFinal.final m c (GqaFinite.finite _ _ _ _ (hpre c)).1 (GqaFinite.finite _ _ _ _ (hpre c)).2.1 (GqaFinite.finite _ _ _ _ (hpre c)).2.2,
      Cert.GqaRefIdeal.Read.val_main_v34_eq]
    obtain ⟨h0, h1, h2, h3⟩ := hagree c
    rw [h0, h1, h2, h3]

end Cert.GqaClaim

end
-- ==== Proof.FfnSampleKernel.lean ====
module

public import proofs.«01_k».proof.Proof.Gen.FfnSampleIdeal.Frame
public import proofs.«01_k».proof.Proof.FfnSpec
public import Idealize.ShloMosaic.Lib.Pipeline.ValueKit

/-! What one grid point of the kernel on the sample batch writes for one token, in the terms of `FfnSpec`. -/

@[expose] public section

set_option maxRecDepth 16384

noncomputable section

namespace Cert.FfnSampleKernel

open Cert.FfnSampleIdeal Cert.FfnSampleIdeal.Gen Idealize.ShloMosaic Idealize.ShloMosaic.TcCoe Idealize.SL.Sem
open Idealize.ShloMosaic.Pipeline (Dat)

/-- The gated sum of the branches, from the loaded pieces. -/
theorem pay2_at (v1 : FVec Ideal S256x512 .f32) (v3 : FVec Ideal S1x512x1024 .bf16) (v6 : FVec Ideal S256x1024 .f32)
    (v8 : FVec Ideal S256x512 .f32) (v10 : FVec Ideal S1x512x1024 .bf16) (v13 : FVec Ideal S256x1024 .f32)
    (v16 : FVec Ideal S256x512 .f32) (v18 : FVec Ideal S1x512x1024 .bf16) (v21 : FVec Ideal S256x1024 .f32)
    (r : Fin 256) (e : Fin 1024) :
    k0_pay2 (F := Ideal) v1 v3 v6 v8 v10 v13 v16 v18 v21 (ix2 r e)
      = (∑ k : Fin 512, v1 (ix2 r k) * v3 (ix3 0 k e)) * v6 (ix2 r e) + (∑ k : Fin 512, v8 (ix2 r k) * v10 (ix3 0 k e)) * v13 (ix2 r e)
        + (∑ k : Fin 512, v16 (ix2 r k) * v18 (ix3 0 k e)) * v21 (ix2 r e) := by
  pointwise! [k0_pay2]

/-- The residual after the mixer. -/
theorem pay3_at (v0 : FVec Ideal S256x1024 .f32) (v25 : FVec Ideal S1x1024 .f32) (v26 : FVec Ideal S256x1024 .bf16)
    (v27 : FVec Ideal S1024x1024 .bf16) (r : Fin 256) (d : Fin 1024) :
    k0_pay3 (F := Ideal) v0 v25 v26 v27 (ix2 r d)
      = FfnSpec.resid (fun d => v0 (ix2 r d)) (fun d => v25 (ix2 0 d)) (fun e => v26 (ix2 r e)) (fun e d => v27 (ix2 e d)) d := by
  pointwise! [k0_pay3, FfnSpec.resid]

/-- The norm before the feed-forward block. -/
theorem pay5_at (v0 : FVec Ideal S256x1024 .f32) (v25 : FVec Ideal S1x1024 .f32) (v26 : FVec Ideal S256x1024 .bf16)
    (v27 : FVec Ideal S1024x1024 .bf16) (v33 v35 : FVec Ideal S1x1x1024 .f32) (v49 : FVec Ideal S1x1024 .f32)
    (r : Fin 256) (d : Fin 1024) :
    k0_pay5 (F := Ideal) v0 v25 v26 v27 v33 v35 v49 (ix2 r d)
      = FfnSpec.normed (fun d => k0_pay3 (F := Ideal) v0 v25 v26 v27 (ix2 r d)) (fun d => v49 (ix2 0 d)) (fun d => v35 (ix3 0 0 d)) (fun d => v33 (ix3 0 0 d)) d := by
  pointwise! [k0_pay5, FfnSpec.normed]

/-- The gate columns' product. -/
theorem pay6_at (v0 : FVec Ideal S256x1024 .f32) (v25 : FVec Ideal S1x1024 .f32) (v26 : FVec Ideal S256x1024 .bf16)
    (v27 : FVec Ideal S1024x1024 .bf16) (v33 v35 : FVec Ideal S1x1x1024 .f32) (v49 : FVec Ideal S1x1024 .f32)
    (v60 : FVec Ideal S1024x1408 .bf16) (r : Fin 256) (f : Fin 1408) :
    k0_pay6 (F := Ideal) v0 v25 v26 v27 v33 v35 v49 v60 (ix2 r f)
      = ∑ e : Fin 1024, k0_pay5 (F := Ideal) v0 v25 v26 v27 v33 v35 v49 (ix2 r e) * v60 (ix2 e f) := by
  pointwise! [k0_pay6]

/-- The value columns' product. -/
theorem pay7_at (v0 : FVec Ideal S256x1024 .f32) (v25 : FVec Ideal S1x1024 .f32) (v26 : FVec Ideal S256x1024 .bf16)
    (v27 : FVec Ideal S1024x1024 .bf16) (v33 v35 : FVec Ideal S1x1x1024 .f32) (v49 : FVec Ideal S1x1024 .f32)
    (v60 : FVec Ideal S1024x1408 .bf16) (r : Fin 256) (f : Fin 1408) :
    k0_pay7 (F := Ideal) v0 v25 v26 v27 v33 v35 v49 v60 (ix2 r f)
      = ∑ e : Fin 1024, k0_pay5 (F := Ideal) v0 v25 v26 v27 v33 v35 v49 (ix2 r e) * v60 (ix2 e f) := by
  pointwise! [k0_pay7]

/-- The result from the residual, the norm and the weights, the hidden units in two halves. -/
theorem pay8_at (v32 : FVec Ideal S256x1024 .f32) (v38 : FVec Ideal S1x1024 .f32) (v59 : FVec Ideal S256x1024 .bf16)
    (v62 v65 : FVec Ideal S256x1408 .f32) (v76 : FVec Ideal S1408x1024 .bf16) (v79 v82 : FVec Ideal S1024x1408 .bf16)
    (v95 : FVec Ideal S1408x1024 .bf16) (r : Fin 256) (d : Fin 1024) :
    k0_pay8 (F := Ideal) v32 v38 v59 v62 v65 v76 v79 v82 v95 (ix2 r d)
      = v32 (ix2 r d) + v38 (ix2 0 d) * ((∑ f : Fin 1408, v62 (ix2 r f) * Ideal.div 1 (1 + Ideal.exp (-v62 (ix2 r f))) * v65 (ix2 r f) * v76 (ix2 f d))
        + ∑ f : Fin 1408, (∑ e : Fin 1024, v59 (ix2 r e) * v79 (ix2 e f)) * Ideal.div 1 (1 + Ideal.exp (-(∑ e : Fin 1024, v59 (ix2 r e) * v79 (ix2 e f))))
            * (∑ e : Fin 1024, v59 (ix2 r e) * v82 (ix2 e f)) * v95 (ix2 f d)) := by
  pointwise [k0_pay8, zero_sub]

end Cert.FfnSampleKernel

end
-- ==== Proof.FfnSampleOut.lean ====
module

public import proofs.«01_k».proof.Proof.FfnSampleKernel

/-! One grid point's whole result on the sample batch, from the blocks it was given. -/

@[expose] public section

set_option maxRecDepth 16384

noncomputable section

namespace Cert.FfnSampleKernel

open Cert.FfnSampleIdeal Cert.FfnSampleIdeal.Gen Idealize.ShloMosaic Idealize.ShloMosaic.TcCoe Idealize.SL.Sem
open Idealize.ShloMosaic.Pipeline (Dat)

/-- The gated sum of the branches, from the blocks. -/
theorem mixed_at (x0 : FVec Ideal S256x1024 .f32) (x1 x2 x3 : FVec Ideal S256x512 .f32) (x4 : FVec Ideal S256x3072 .f32) (x5 : FVec Ideal S1x6x1024 .f32)
    (x6 : FVec Ideal S1x1024 .f32) (x7 : FVec Ideal S3x512x1024 .bf16) (x8 : FVec Ideal S1024x1024 .bf16) (x9 : FVec Ideal S1024x5632 .bf16)
    (x10 : FVec Ideal S2816x1024 .bf16) (r : Fin 256) (e : Fin 1024) :
    k0_pay10 (F := Ideal) x0 x1 x2 x3 x4 x5 x6 x7 x8 x9 x10 (ix2 r e)
      = FfnSpec.mixed (fun k => x1 (ix2 r k)) (fun k => x2 (ix2 r k)) (fun k => x3 (ix2 r k)) (fun k => x4 (ix2 r k)) (fun b k e => x7 (ix3 b k e)) e := by
  unfold k0_pay10
  frame_out
  rw [pay2_at]
  pointwise [FfnSpec.mixed]

/-- What the point writes for one token, from its blocks. -/
theorem out_at (x0 : FVec Ideal S256x1024 .f32) (x1 x2 x3 : FVec Ideal S256x512 .f32) (x4 : FVec Ideal S256x3072 .f32) (x5 : FVec Ideal S1x6x1024 .f32)
    (x6 : FVec Ideal S1x1024 .f32) (x7 : FVec Ideal S3x512x1024 .bf16) (x8 : FVec Ideal S1024x1024 .bf16) (x9 : FVec Ideal S1024x5632 .bf16)
    (x10 : FVec Ideal S2816x1024 .bf16) (r : Fin 256) (d : Fin 1024) :
    out0_11 (F := Ideal) x0 x1 x2 x3 x4 x5 x6 x7 x8 x9 x10 (ix2 r d)
      = FfnSpec.row (fun d => x0 (ix2 r d)) (fun k => x1 (ix2 r k)) (fun k => x2 (ix2 r k)) (fun k => x3 (ix2 r k)) (fun k => x4 (ix2 r k))
          (fun d => x5 (ix3 0 2 d)) (fun d => x5 (ix3 0 3 d)) (fun d => x5 (ix3 0 4 d)) (fun d => x5 (ix3 0 5 d))
          (fun b k e => x7 (ix3 b k e)) (fun e d => x8 (ix2 e d)) (fun d => x6 (ix2 0 d)) (fun e f => x9 (ix2 e f)) (fun f d => x10 (ix2 f d)) d := by
  have hgt : ∀ d : Fin 1024, k0_pay9 (F := Ideal) x0 x1 x2 x3 x4 x5 x6 x7 x8 x9 x10 (ix2 0 d) = x5 (ix3 0 2 d) := fun d => by
    pointwise [k0_pay9, k0_pay1]
  frame_out
  rw [pay8_at, FfnSpec.row, FfnSpec.out_halves]
  simp only [pay6_at, pay7_at, pay5_at, pay3_at, mixed_at, hgt, FfnSpec.hidden]
  pointwise [k0_pay4]
  have hf : ∀ f : Fin 1408, (⟨2816 + (1408 + f.val), by omega⟩ : Fin 5632) = ⟨4224 + f.val, by omega⟩ := fun f => Fin.ext (by simp only []; omega)
  simp only [hf]

end Cert.FfnSampleKernel

end
-- ==== Proof.FfnSampleReference.lean ====
module

public import proofs.«01_k».proof.Proof.Gen.FfnSampleRefIdeal.Read
public import proofs.«01_k».proof.Proof.FfnSpec

/-! What the reference of the sample batch computes for one token, in the terms of `FfnSpec`. -/

@[expose] public section

set_option maxRecDepth 16384

noncomputable section

namespace Cert.FfnSampleReference

open Cert.FfnSampleRefIdeal Cert.FfnSampleRefIdeal.Gen Cert.FfnSampleRefIdeal.Read Idealize.ShloMosaic Idealize.ShloMosaic.TcCoe Idealize.SL.Sem

variable (x0 : FVec Ideal S8192x1024 .f32) (x1 : FVec Ideal S8192x512 .f32) (x2 : FVec Ideal S8192x512 .f32) (x3 : FVec Ideal S8192x512 .f32) (x4 : FVec Ideal S8192x3072 .f32) (x5 : FVec Ideal S8x6x1024 .f32) (x6 : FVec Ideal S3x512x1024 .f32) (x7 : FVec Ideal S1024x1024 .f32) (x8 : FVec Ideal S1024 .f32) (x9 : FVec Ideal S1024x5632 .f32) (x10 : FVec Ideal S2816x1024 .f32)

/-- The row of the modulation a token of the sample batch reads: the one of its request. -/
abbrev req (n : Fin 8192) : Fin 8 := ⟨1 + n.val / 2048, by omega⟩

/-- The modulation repeated over the tokens of each request. -/
theorem mod_at (n : Fin 8192) (j : Fin 6) (d : Fin 1024) : val_main_v2 (F := Ideal) x5 (ix3 n j d) = x5 (ix3 (req n) j d) := by
  rw [val_main_v2_apply, val_main_v1_apply, val_main_v0_apply]
  refine congrArg x5 (funext fun a => match a with
    | ⟨0, _⟩ => Fin.ext ?_
    | ⟨1, _⟩ => Fin.ext ?_
    | ⟨2, _⟩ => Fin.ext ?_)
  · show 1 + ((n.val * 6 + j.val) * 1024 + d.val) / 12582912 = 1 + n.val / 2048; omega
  · show ((n.val * 6 + j.val) * 1024 + d.val) / 1024 % 6 = j.val; omega
  · show ((n.val * 6 + j.val) * 1024 + d.val) % 1024 = d.val; omega

/-- The gate of the mixer. -/
theorem gt1_at (n : Fin 8192) (d : Fin 1024) : val_main_v4 (F := Ideal) x5 (ix2 n d) = x5 (ix3 (req n) 2 d) := by
  refine Eq.trans ?_ (mod_at x5 n 2 d)
  pointwise! [val_main_v4, val_main_v3]

/-- The shift before the feed-forward block. -/
theorem sh2_at (n : Fin 8192) (d : Fin 1024) : val_main_v6 (F := Ideal) x5 (ix2 n d) = x5 (ix3 (req n) 3 d) := by
  refine Eq.trans ?_ (mod_at x5 n 3 d)
  pointwise! [val_main_v6, val_main_v5]

/-- The scale before the feed-forward block. -/
theorem sc2_at (n : Fin 8192) (d : Fin 1024) : val_main_v8 (F := Ideal) x5 (ix2 n d) = x5 (ix3 (req n) 4 d) := by
  refine Eq.trans ?_ (mod_at x5 n 4 d)
  pointwise! [val_main_v8, val_main_v7]

/-- The gate of the feed-forward block. -/
theorem gt2_at (n : Fin 8192) (d : Fin 1024) : val_main_v10 (F := Ideal) x5 (ix2 n d) = x5 (ix3 (req n) 5 d) := by
  refine Eq.trans ?_ (mod_at x5 n 5 d)
  pointwise! [val_main_v10, val_main_v9]

/-- The stacked branch outputs. -/
theorem ys_at (n : Fin 8192) (b : Fin 3) (w : Fin 512) :
    val_main_v14 (F := Ideal) x1 x2 x3 (ix3 n b w) = if b = 0 then x1 (ix2 n w) else if b = 1 then x2 (ix2 n w) else x3 (ix2 n w) := by
  pointwise [val_main_v14, val_main_v11, val_main_v12, val_main_v13]
  match b with
  | 0 => simp
  | 1 => simp
  | 2 => simp

/-- The branches through their matrices. -/
theorem branch_at (b : Fin 3) (d : Fin 1024) (n : Fin 8192) :
    val_main_v15 (F := Ideal) x1 x2 x3 x6 (ix3 b d n) = ∑ w : Fin 512, val_main_v14 (F := Ideal) x1 x2 x3 (ix3 n b w) * x6 (ix3 b w d) := by
  pointwise! [val_main_v15]

/-- The gated sum of the branches. -/
theorem mixed_at (n : Fin 8192) (e : Fin 1024) :
    val_main_v18 (F := Ideal) x1 x2 x3 x4 x6 (ix2 n e)
      = FfnSpec.mixed (fun k => x1 (ix2 n k)) (fun k => x2 (ix2 n k)) (fun k => x3 (ix2 n k)) (fun k => x4 (ix2 n k))
          (fun b k e => x6 (ix3 b k e)) e := by
  pointwise [val_main_v18, val_main_v17, val_main_v16]
  simp only [Fin.sum_univ_three, branch_at, ys_at]
  simp [FfnSpec.mixed]
  ac_nf

/-- The residual after the mixer. -/
theorem resid_at (n : Fin 8192) (d : Fin 1024) :
    val_main_v21 (F := Ideal) x0 x1 x2 x3 x4 x5 x6 x7 (ix2 n d)
      = FfnSpec.resid (fun d => x0 (ix2 n d)) (fun d => x5 (ix3 (req n) 2 d)) (fun e => val_main_v18 (F := Ideal) x1 x2 x3 x4 x6 (ix2 n e))
          (fun e d => x7 (ix2 e d)) d := by
  pointwise [val_main_v21, val_main_v20, val_main_v19, FfnSpec.resid]
  simp only [gt1_at]

/-- The norm before the feed-forward block. -/
theorem normed_at (n : Fin 8192) (d : Fin 1024) :
    val_main_v38 (F := Ideal) x0 x1 x2 x3 x4 x5 x6 x7 x8 (ix2 n d)
      = FfnSpec.normed (fun d => val_main_v21 (F := Ideal) x0 x1 x2 x3 x4 x5 x6 x7 (ix2 n d)) (fun d => x8 (ix1 d)) (fun d => x5 (ix3 (req n) 4 d)) (fun d => x5 (ix3 (req n) 3 d)) d := by
  pointwise [val_main_v38, val_main_v37, val_main_v36, val_main_v35, val_main_cst_2, val_main_v34, val_main_v33, val_main_v32, val_main_v31, val_main_v30,
    val_main_v29, val_main_v28, val_main_v27, val_main_cst_1, val_main_v26, val_main_v25, val_main_cst_0, val_main_v24, val_main_v23, val_main_cst, val_main_v22,
    FfnSpec.normed, FfnSpec.div_1024]
  simp only [sc2_at, sh2_at]

/-- The product with the first weight matrix. -/
theorem up_at (n : Fin 8192) (f : Fin 5632) :
    val_main_v39 (F := Ideal) x0 x1 x2 x3 x4 x5 x6 x7 x8 x9 (ix2 n f) = ∑ e : Fin 1024, val_main_v38 (F := Ideal) x0 x1 x2 x3 x4 x5 x6 x7 x8 (ix2 n e) * x9 (ix2 e f) := by
  pointwise! [val_main_v39]

/-- The hidden units. -/
theorem hidden_at (n : Fin 8192) (f : Fin 2816) :
    val_main_v43 (F := Ideal) x0 x1 x2 x3 x4 x5 x6 x7 x8 x9 (ix2 n f)
      = FfnSpec.hidden (fun e => val_main_v38 (F := Ideal) x0 x1 x2 x3 x4 x5 x6 x7 x8 (ix2 n e)) (fun e f => x9 (ix2 e f)) f := by
  pointwise [val_main_v43, val_main_v42, val_main_call0_v5, val_main_call0_v4, val_main_call0_cst_0, val_main_call0_v3, val_main_call0_v2,
    val_main_call0_cst, val_main_call0_v1, val_main_call0_v0, val_main_v41, val_main_v40]
  simp only [up_at, FfnSpec.hidden]

/-- The reference's result for one token. -/
theorem result_at (n : Fin 8192) (d : Fin 1024) :
    val_main_v46 (F := Ideal) x0 x1 x2 x3 x4 x5 x6 x7 x8 x9 x10 (ix2 n d)
      = FfnSpec.out (fun d => val_main_v21 (F := Ideal) x0 x1 x2 x3 x4 x5 x6 x7 (ix2 n d)) (fun d => x5 (ix3 (req n) 5 d))
          (fun f => val_main_v43 (F := Ideal) x0 x1 x2 x3 x4 x5 x6 x7 x8 x9 (ix2 n f)) (fun f d => x10 (ix2 f d)) d := by
  pointwise [val_main_v46, val_main_v45, val_main_v44, FfnSpec.out]
  simp only [gt2_at]

/-- The reference's result for one token, from its arguments. -/
theorem row_at (n : Fin 8192) (d : Fin 1024) :
    val_main_v46 (F := Ideal) x0 x1 x2 x3 x4 x5 x6 x7 x8 x9 x10 (ix2 n d)
      = FfnSpec.row (fun d => x0 (ix2 n d)) (fun k => x1 (ix2 n k)) (fun k => x2 (ix2 n k)) (fun k => x3 (ix2 n k)) (fun k => x4 (ix2 n k))
          (fun d => x5 (ix3 (req n) 2 d)) (fun d => x5 (ix3 (req n) 3 d)) (fun d => x5 (ix3 (req n) 4 d)) (fun d => x5 (ix3 (req n) 5 d))
          (fun b k e => x6 (ix3 b k e)) (fun e d => x7 (ix2 e d)) (fun d => x8 (ix1 d)) (fun e f => x9 (ix2 e f)) (fun f d => x10 (ix2 f d)) d := by
  rw [result_at, FfnSpec.row]
  simp only [hidden_at, normed_at, resid_at, mixed_at]

end Cert.FfnSampleReference

end
-- ==== Proof.FfnSampleFinal.lean ====
module

public import proofs.«01_k».proof.Proof.FfnSampleOut
public import proofs.«01_k».proof.Proof.FfnSampleReference
public import Idealize.ShloMosaic.Lib.Claim

/-! On the sample batch the kernel's result array is the reference's. -/

@[expose] public section

set_option maxRecDepth 16384

noncomputable section

namespace Cert.FfnSampleFinal

open Cert.FfnSampleIdeal Cert.FfnSampleIdeal.Gen Idealize.ShloMosaic Idealize.ShloMosaic.TcCoe Idealize.SL.Sem
open Idealize.ShloMosaic.Pipeline (Dat)

variable (m : (ℓ : Loc nD τ sig) → Buf (Elt Ideal) ℓ)

/-- The reference's result over the kernel's arguments. -/
abbrev REF (c : Dev nD) : FVec Ideal S8192x1024 .f32 :=
  Cert.FfnSampleRefIdeal.Read.val_main_v46 (F := Ideal) (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6))
    (m ((c : Thread nD τ).loc main_arg7)) (m ((c : Thread nD τ).loc main_arg8)) (m ((c : Thread nD τ).loc main_arg9)) (m ((c : Thread nD τ).loc main_arg10))

/-- The blocks' indices at each point. -/
theorem idx : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![1 + t.val / 8, 0, 0] ∧ win0_6.index t = ![0, 0] ∧ win0_7.index t = ![0, 0, 0] ∧ win0_8.index t = ![0, 0]
    ∧ win0_9.index t = ![0, 0] ∧ win0_10.index t = ![0, 0] ∧ win0_11.index t = ![t.val, 0] :=
  (by decide +kernel : ∀ t : Fin grid0.N, _)

/-- What each point writes at a position of its block is the reference's value at that place of the array. -/
theorem point (c : Dev nD) (t : Fin cfg0.N) (y : S256x1024.Idx) :
    out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t) y
      = REF m c (((cfg0.win 11).blk t).view.emb y) := by
  obtain ⟨r, d, rfl⟩ : ∃ (r : Fin 256) (d : Fin 1024), y = ix2 r d := ⟨y 0, y 1, eq_ix2 y⟩
  have ht : t.val < 32 := t.isLt
  have e : ((cfg0.win 11).blk t).view.emb (ix2 r d) = ix2 (⟨t.val * 256 + r.val, by omega⟩ : Fin 8192) d := by
    blk_ext [idx t]
  rw [e]
  refine (FfnSampleKernel.out_at _ _ _ _ _ _ _ _ _ _ _ r d).trans (Eq.trans ?_ (FfnSampleReference.row_at _ _ _ _ _ _ _ _ _ _ _ _ d).symm)
  have h8 : (t.val * 256 + r.val) / 2048 = t.val / 8 := by omega
  blk_point [iblk, V, idx t, h8]

/-- The result array after the run is the reference's. -/
theorem final (c : Dev nD) : (dats m 0 c).arrAt 11 (cfgs 0).N = REF m c := by
  refine (dats m 0 c).arrAt_eq_of_covers 11 _ (by decide +kernel) fun t _ y => ?_
  blk_simp
  rw [after0_11]
  exact point m c t y

end Cert.FfnSampleFinal

end
-- ==== Proof.FfnSampleClaim.lean ====
module

public import proofs.«01_k».proof.Defs
public import proofs.«01_k».proof.Proof.FfnSampleFinal
public import proofs.«01_k».proof.Proof.Gen.FfnSampleIdeal.Frame
public import proofs.«01_k».proof.Proof.Gen.FfnSampleRefIdeal.Run
public import proofs.«01_k».proof.Proof.Gen.FfnSampleRefIdeal.Read
public import Idealize.ShloMosaic.Lib.Claim

/-! The claims about the merge and the feed-forward block of the sample batch: the reference runs and keeps its arguments;
    the kernel's result is the reference's. -/

@[expose] public section

set_option maxRecDepth 16384

noncomputable section

namespace Cert.FfnSampleClaim

open Idealize.ShloMosaic Idealize.SL.Sem

/-- The reference runs to its end, keeps its arguments, and leaves every counter at zero. -/
theorem reference : Cert.quiescent_FfnSampleRefIdeal := by
  intro m g _
  exact (θ_run Cert.FfnSampleRefIdeal.defs _ _).mono (fun r h => ⟨fun c => (h c).2, funext fun s => nomatch s⟩) (Cert.FfnSampleRefIdeal.Value.run (F := Ideal) m g)

/-- From equal arguments the kernel and the reference end with equal results. -/
theorem equal : Cert.algebraic_FfnSampleIdeal_FfnSampleRefIdeal := by
  pair_intro
  · run_from Cert.FfnSampleIdeal.Gen.run_main m g
  · run_from Cert.FfnSampleRefIdeal.Value.run m' g'
    rw [Cert.FfnSampleFinal.final m c, Cert.FfnSampleRefIdeal.Read.val_main_v46_eq]
    obtain ⟨h0, h1, h2, h3, h4, h5, h6, h7, h8, h9, h10⟩ := hagree c
    rw [h0, h1, h2, h3, h4, h5, h6, h7, h8, h9, h10]

end Cert.FfnSampleClaim

end
-- ==== Proof.lean ====
module

public import proofs.«01_k».proof.Defs
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnIdeal.Value
public import proofs.«01_k».proof.Proof.Gen.FfnRefIdeal
public import proofs.«01_k».proof.Proof.Gen.FfnRefIdeal.Run
public import proofs.«01_k».proof.Proof.Gen.FfnRefIdeal.Read
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InProjIdeal.Value
public import proofs.«01_k».proof.Proof.Gen.InProjRefIdeal
public import proofs.«01_k».proof.Proof.Gen.InProjRefIdeal.Run
public import proofs.«01_k».proof.Proof.Gen.InProjRefIdeal.Read
public import Idealize.ShloMosaic.Adequacy
public import Idealize.ShloMosaic.Init
public import proofs.«01_k».proof.Proof.Gen.Mla
public import proofs.«01_k».proof.Proof.Gen.Mla.Skeleton
public import proofs.«01_k».proof.Proof.Gen.Mla.Launch
public import proofs.«01_k».proof.Proof.Gen.Mla.Points
public import proofs.«01_k».proof.Proof.Gen.Mla.Frame
public import proofs.«01_k».proof.Proof.Gen.MlaIdeal
public import proofs.«01_k».proof.Proof.Gen.MlaIdeal.Skeleton
public import proofs.«01_k».proof.Proof.Gen.MlaIdeal.Launch
public import proofs.«01_k».proof.Proof.Gen.MlaIdeal.Points
public import proofs.«01_k».proof.Proof.Gen.MlaIdeal.Frame
public import proofs.«01_k».proof.Proof.Gen.MlaIdeal.Value
public import proofs.«01_k».proof.Proof.Gen.MlaRefIdeal
public import proofs.«01_k».proof.Proof.Gen.MlaRefIdeal.Run
public import proofs.«01_k».proof.Proof.Gen.MlaRefIdeal.Read
public import proofs.«01_k».proof.Proof.Gen.Gqa
public import proofs.«01_k».proof.Proof.Gen.Gqa.Skeleton
public import proofs.«01_k».proof.Proof.Gen.Gqa.Launch
public import proofs.«01_k».proof.Proof.Gen.Gqa.Points
public import proofs.«01_k».proof.Proof.Gen.Gqa.Frame
public import proofs.«01_k».proof.Proof.Gen.GqaIdeal
public import proofs.«01_k».proof.Proof.Gen.GqaIdeal.Skeleton
public import proofs.«01_k».proof.Proof.Gen.GqaIdeal.Launch
public import proofs.«01_k».proof.Proof.Gen.GqaIdeal.Points
public import proofs.«01_k».proof.Proof.Gen.GqaIdeal.Frame
public import proofs.«01_k».proof.Proof.Gen.GqaIdeal.Value
public import proofs.«01_k».proof.Proof.Gen.GqaRefIdeal
public import proofs.«01_k».proof.Proof.Gen.GqaRefIdeal.Run
public import proofs.«01_k».proof.Proof.Gen.GqaRefIdeal.Read
public import proofs.«01_k».proof.Proof.Gen.FfnSample
public import proofs.«01_k».proof.Proof.Gen.FfnSample.Skeleton
public import proofs.«01_k».proof.Proof.Gen.FfnSample.Launch
public import proofs.«01_k».proof.Proof.Gen.FfnSample.Points
public import proofs.«01_k».proof.Proof.Gen.FfnSample.Frame
public import proofs.«01_k».proof.Proof.Gen.FfnSampleIdeal
public import proofs.«01_k».proof.Proof.Gen.FfnSampleIdeal.Skeleton
public import proofs.«01_k».proof.Proof.Gen.FfnSampleIdeal.Launch
public import proofs.«01_k».proof.Proof.Gen.FfnSampleIdeal.Points
public import proofs.«01_k».proof.Proof.Gen.FfnSampleIdeal.Frame
public import proofs.«01_k».proof.Proof.Gen.FfnSampleIdeal.Value
public import proofs.«01_k».proof.Proof.Gen.FfnSampleRefIdeal
public import proofs.«01_k».proof.Proof.Gen.FfnSampleRefIdeal.Run
public import proofs.«01_k».proof.Proof.Gen.FfnSampleRefIdeal.Read
public import proofs.«01_k».proof.Proof.FfnClaim
public import proofs.«01_k».proof.Proof.InProjClaim
public import proofs.«01_k».proof.Proof.MlaClaim
public import proofs.«01_k».proof.Proof.GqaClaim
public import proofs.«01_k».proof.Proof.FfnSampleClaim

set_option maxRecDepth 16384

@[expose] public section

namespace Cert.Proof

open Idealize.ShloMosaic Idealize.SL.Sem

/-- The shapes the precondition on the gains broadcasts. -/
instance mlaPre : Cert.Pre_mla_gains_finite.Facts where
  bcast_S_S96 := by decide

/-- The shapes the precondition on the queries, keys and gain broadcasts and reduces. -/
instance gqaPre : Cert.Pre_gqa_finite.Facts where
  bcast_S_S8192x512 := by decide
  reducesTo_S8192x512_S_d0_1 := by decide
  h_S_ := by decide
  bcast_S_S8192x128 := by decide
  reducesTo_S8192x128_S_d0_1 := by decide
  bcast_S_S64 := by decide
  reducesTo_S64_S_d0 := by decide

/-- The whole claim: every program's facts, then each conjunct in the order of the certificate. -/
theorem claim : Cert.Claim :=
  ⟨Cert.Mla.Gen.facts, Cert.MlaIdeal.Gen.facts, Cert.MlaRefIdeal.Gen.facts,
   Cert.Ffn.Gen.facts, Cert.FfnIdeal.Gen.facts, Cert.FfnRefIdeal.Gen.facts,
   Cert.InProj.Gen.facts, Cert.InProjIdeal.Gen.facts, Cert.InProjRefIdeal.Gen.facts,
   Cert.Gqa.Gen.facts, Cert.GqaIdeal.Gen.facts, Cert.GqaRefIdeal.Gen.facts,
   Cert.FfnSample.Gen.facts, Cert.FfnSampleIdeal.Gen.facts, Cert.FfnSampleRefIdeal.Gen.facts, mlaPre, gqaPre,
   fun m ρ _ => Cert.Mla.Gen.frame m ρ, fun m ρ _ => Cert.MlaIdeal.Gen.frame m ρ, fun m ρ _ => Cert.MlaIdeal.Gen.frame m ρ,
   Cert.MlaClaim.reference, Cert.MlaClaim.reference_pre,
   fun m ρ _ => Cert.Ffn.Gen.frame m ρ, fun m ρ _ => Cert.FfnIdeal.Gen.frame m ρ, Cert.FfnClaim.reference,
   fun m ρ _ => Cert.InProj.Gen.frame m ρ, fun m ρ _ => Cert.InProjIdeal.Gen.frame m ρ, Cert.InProjClaim.reference,
   fun m ρ _ => Cert.Gqa.Gen.frame m ρ, fun m ρ _ => Cert.GqaIdeal.Gen.frame m ρ, fun m ρ _ => Cert.GqaIdeal.Gen.frame m ρ,
   Cert.GqaClaim.reference, Cert.GqaClaim.reference_pre,
   fun m ρ _ => Cert.FfnSample.Gen.frame m ρ, fun m ρ _ => Cert.FfnSampleIdeal.Gen.frame m ρ, Cert.FfnSampleClaim.reference,
   IdealRules.named_const.statement Cert.MlaIdeal.κ "inv96" .f32 0x3C2AAAAB#32 ((96⁻¹ : ℝ) : EReal) rfl, Cert.MlaClaim.equal,
   trivial, Cert.FfnClaim.equal, trivial, Cert.InProjClaim.equal, trivial, Cert.GqaClaim.equal, trivial, Cert.FfnSampleClaim.equal⟩

end Cert.Proof

end
